-- ==== Defs.lean ====
def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInIdeal_gamma_nonneg_in [hPre_gamma_nonneg_in : Cert.Pre_gamma_nonneg_in.Facts] (m : (ℓ : Loc Cert.DwInIdeal.nD Cert.DwInIdeal.τ Cert.DwInIdeal.sig) → Buf (Elt Ideal) ℓ) : Prop :=
  ∀ c : Dev Cert.DwInIdeal.nD,
    (Cert.Pre_gamma_nonneg_in.fn (F := Ideal) (m ((c.tc : Thread Cert.DwInIdeal.nD Cert.DwInIdeal.τ).loc Cert.DwInIdeal.main_arg0)) (m ((c.tc : Thread Cert.DwInIdeal.nD Cert.DwInIdeal.τ).loc Cert.DwInIdeal.main_arg1)) (m ((c.tc : Thread Cert.DwInIdeal.nD Cert.DwInIdeal.τ).loc Cert.DwInIdeal.main_arg2)) (m ((c.tc : Thread Cert.DwInIdeal.nD Cert.DwInIdeal.τ).loc Cert.DwInIdeal.main_arg3)) (m ((c.tc : Thread Cert.DwInIdeal.nD Cert.DwInIdeal.τ).loc Cert.DwInIdeal.main_arg4)) (m ((c.tc : Thread Cert.DwInIdeal.nD Cert.DwInIdeal.τ).loc Cert.DwInIdeal.main_arg5))).1 = (fun _ => 1#1)
    ∧ (Cert.Pre_gamma_nonneg_in.fn (F := Ideal) (m ((c.tc : Thread Cert.DwInIdeal.nD Cert.DwInIdeal.τ).loc Cert.DwInIdeal.main_arg0)) (m ((c.tc : Thread Cert.DwInIdeal.nD Cert.DwInIdeal.τ).loc Cert.DwInIdeal.main_arg1)) (m ((c.tc : Thread Cert.DwInIdeal.nD Cert.DwInIdeal.τ).loc Cert.DwInIdeal.main_arg2)) (m ((c.tc : Thread Cert.DwInIdeal.nD Cert.DwInIdeal.τ).loc Cert.DwInIdeal.main_arg3)) (m ((c.tc : Thread Cert.DwInIdeal.nD Cert.DwInIdeal.τ).loc Cert.DwInIdeal.main_arg4)) (m ((c.tc : Thread Cert.DwInIdeal.nD Cert.DwInIdeal.τ).loc Cert.DwInIdeal.main_arg5))).2.1 = (fun _ => 1#1)
    ∧ (Cert.Pre_gamma_nonneg_in.fn (F := Ideal) (m ((c.tc : Thread Cert.DwInIdeal.nD Cert.DwInIdeal.τ).loc Cert.DwInIdeal.main_arg0)) (m ((c.tc : Thread Cert.DwInIdeal.nD Cert.DwInIdeal.τ).loc Cert.DwInIdeal.main_arg1)) (m ((c.tc : Thread Cert.DwInIdeal.nD Cert.DwInIdeal.τ).loc Cert.DwInIdeal.main_arg2)) (m ((c.tc : Thread Cert.DwInIdeal.nD Cert.DwInIdeal.τ).loc Cert.DwInIdeal.main_arg3)) (m ((c.tc : Thread Cert.DwInIdeal.nD Cert.DwInIdeal.τ).loc Cert.DwInIdeal.main_arg4)) (m ((c.tc : Thread Cert.DwInIdeal.nD Cert.DwInIdeal.τ).loc Cert.DwInIdeal.main_arg5))).2.2.1 = (fun _ => 1#1)
    ∧ (Cert.Pre_gamma_nonneg_in.fn (F := Ideal) (m ((c.tc : Thread Cert.DwInIdeal.nD Cert.DwInIdeal.τ).loc Cert.DwInIdeal.main_arg0)) (m ((c.tc : Thread Cert.DwInIdeal.nD Cert.DwInIdeal.τ).loc Cert.DwInIdeal.main_arg1)) (m ((c.tc : Thread Cert.DwInIdeal.nD Cert.DwInIdeal.τ).loc Cert.DwInIdeal.main_arg2)) (m ((c.tc : Thread Cert.DwInIdeal.nD Cert.DwInIdeal.τ).loc Cert.DwInIdeal.main_arg3)) (m ((c.tc : Thread Cert.DwInIdeal.nD Cert.DwInIdeal.τ).loc Cert.DwInIdeal.main_arg4)) (m ((c.tc : Thread Cert.DwInIdeal.nD Cert.DwInIdeal.τ).loc Cert.DwInIdeal.main_arg5))).2.2.2.1 = (fun _ => 1#1)
    ∧ (Cert.Pre_gamma_nonneg_in.fn (F := Ideal) (m ((c.tc : Thread Cert.DwInIdeal.nD Cert.DwInIdeal.τ).loc Cert.DwInIdeal.main_arg0)) (m ((c.tc : Thread Cert.DwInIdeal.nD Cert.DwInIdeal.τ).loc Cert.DwInIdeal.main_arg1)) (m ((c.tc : Thread Cert.DwInIdeal.nD Cert.DwInIdeal.τ).loc Cert.DwInIdeal.main_arg2)) (m ((c.tc : Thread Cert.DwInIdeal.nD Cert.DwInIdeal.τ).loc Cert.DwInIdeal.main_arg3)) (m ((c.tc : Thread Cert.DwInIdeal.nD Cert.DwInIdeal.τ).loc Cert.DwInIdeal.main_arg4)) (m ((c.tc : Thread Cert.DwInIdeal.nD Cert.DwInIdeal.τ).loc Cert.DwInIdeal.main_arg5))).2.2.2.2.1 = (fun _ => 1#1)
    ∧ (Cert.Pre_gamma_nonneg_in.fn (F := Ideal) (m ((c.tc : Thread Cert.DwInIdeal.nD Cert.DwInIdeal.τ).loc Cert.DwInIdeal.main_arg0)) (m ((c.tc : Thread Cert.DwInIdeal.nD Cert.DwInIdeal.τ).loc Cert.DwInIdeal.main_arg1)) (m ((c.tc : Thread Cert.DwInIdeal.nD Cert.DwInIdeal.τ).loc Cert.DwInIdeal.main_arg2)) (m ((c.tc : Thread Cert.DwInIdeal.nD Cert.DwInIdeal.τ).loc Cert.DwInIdeal.main_arg3)) (m ((c.tc : Thread Cert.DwInIdeal.nD Cert.DwInIdeal.τ).loc Cert.DwInIdeal.main_arg4)) (m ((c.tc : Thread Cert.DwInIdeal.nD Cert.DwInIdeal.τ).loc Cert.DwInIdeal.main_arg5))).2.2.2.2.2 = (fun _ => 1#1)

def Pre_DwInRefIdeal (m : (ℓ : Loc Cert.DwInRefIdeal.nD Cert.DwInRefIdeal.τ Cert.DwInRefIdeal.sig) → Buf (Elt Ideal) ℓ) : Prop :=
  True

def Pre_DwInRefIdeal_gamma_nonneg_in [hPre_gamma_nonneg_in : Cert.Pre_gamma_nonneg_in.Facts] (m : (ℓ : Loc Cert.DwInRefIdeal.nD Cert.DwInRefIdeal.τ Cert.DwInRefIdeal.sig) → Buf (Elt Ideal) ℓ) : Prop :=
  ∀ c : Dev Cert.DwInRefIdeal.nD,
    (Cert.Pre_gamma_nonneg_in.fn (F := Ideal) (m ((c.tc : Thread Cert.DwInRefIdeal.nD Cert.DwInRefIdeal.τ).loc Cert.DwInRefIdeal.main_arg0)) (m ((c.tc : Thread Cert.DwInRefIdeal.nD Cert.DwInRefIdeal.τ).loc Cert.DwInRefIdeal.main_arg1)) (m ((c.tc : Thread Cert.DwInRefIdeal.nD Cert.DwInRefIdeal.τ).loc Cert.DwInRefIdeal.main_arg2)) (m ((c.tc : Thread Cert.DwInRefIdeal.nD Cert.DwInRefIdeal.τ).loc Cert.DwInRefIdeal.main_arg3)) (m ((c.tc : Thread Cert.DwInRefIdeal.nD Cert.DwInRefIdeal.τ).loc Cert.DwInRefIdeal.main_arg4)) (m ((c.tc : Thread Cert.DwInRefIdeal.nD Cert.DwInRefIdeal.τ).loc Cert.DwInRefIdeal.main_arg5))).1 = (fun _ => 1#1)
    ∧ (Cert.Pre_gamma_nonneg_in.fn (F := Ideal) (m ((c.tc : Thread Cert.DwInRefIdeal.nD Cert.DwInRefIdeal.τ).loc Cert.DwInRefIdeal.main_arg0)) (m ((c.tc : Thread Cert.DwInRefIdeal.nD Cert.DwInRefIdeal.τ).loc Cert.DwInRefIdeal.main_arg1)) (m ((c.tc : Thread Cert.DwInRefIdeal.nD Cert.DwInRefIdeal.τ).loc Cert.DwInRefIdeal.main_arg2)) (m ((c.tc : Thread Cert.DwInRefIdeal.nD Cert.DwInRefIdeal.τ).loc Cert.DwInRefIdeal.main_arg3)) (m ((c.tc : Thread Cert.DwInRefIdeal.nD Cert.DwInRefIdeal.τ).loc Cert.DwInRefIdeal.main_arg4)) (m ((c.tc : Thread Cert.DwInRefIdeal.nD Cert.DwInRefIdeal.τ).loc Cert.DwInRefIdeal.main_arg5))).2.1 = (fun _ => 1#1)
    ∧ (Cert.Pre_gamma_nonneg_in.fn (F := Ideal) (m ((c.tc : Thread Cert.DwInRefIdeal.nD Cert.DwInRefIdeal.τ).loc Cert.DwInRefIdeal.main_arg0)) (m ((c.tc : Thread Cert.DwInRefIdeal.nD Cert.DwInRefIdeal.τ).loc Cert.DwInRefIdeal.main_arg1)) (m ((c.tc : Thread Cert.DwInRefIdeal.nD Cert.DwInRefIdeal.τ).loc Cert.DwInRefIdeal.main_arg2)) (m ((c.tc : Thread Cert.DwInRefIdeal.nD Cert.DwInRefIdeal.τ).loc Cert.DwInRefIdeal.main_arg3)) (m ((c.tc : Thread Cert.DwInRefIdeal.nD Cert.DwInRefIdeal.τ).loc Cert.DwInRefIdeal.main_arg4)) (m ((c.tc : Thread Cert.DwInRefIdeal.nD Cert.DwInRefIdeal.τ).loc Cert.DwInRefIdeal.main_arg5))).2.2.1 = (fun _ => 1#1)
    ∧ (Cert.Pre_gamma_nonneg_in.fn (F := Ideal) (m ((c.tc : Thread Cert.DwInRefIdeal.nD Cert.DwInRefIdeal.τ).loc Cert.DwInRefIdeal.main_arg0)) (m ((c.tc : Thread Cert.DwInRefIdeal.nD Cert.DwInRefIdeal.τ).loc Cert.DwInRefIdeal.main_arg1)) (m ((c.tc : Thread Cert.DwInRefIdeal.nD Cert.DwInRefIdeal.τ).loc Cert.DwInRefIdeal.main_arg2)) (m ((c.tc : Thread Cert.DwInRefIdeal.nD Cert.DwInRefIdeal.τ).loc Cert.DwInRefIdeal.main_arg3)) (m ((c.tc : Thread Cert.DwInRefIdeal.nD Cert.DwInRefIdeal.τ).loc Cert.DwInRefIdeal.main_arg4)) (m ((c.tc : Thread Cert.DwInRefIdeal.nD Cert.DwInRefIdeal.τ).loc Cert.DwInRefIdeal.main_arg5))).2.2.2.1 = (fun _ => 1#1)
    ∧ (Cert.Pre_gamma_nonneg_in.fn (F := Ideal) (m ((c.tc : Thread Cert.DwInRefIdeal.nD Cert.DwInRefIdeal.τ).loc Cert.DwInRefIdeal.main_arg0)) (m ((c.tc : Thread Cert.DwInRefIdeal.nD Cert.DwInRefIdeal.τ).loc Cert.DwInRefIdeal.main_arg1)) (m ((c.tc : Thread Cert.DwInRefIdeal.nD Cert.DwInRefIdeal.τ).loc Cert.DwInRefIdeal.main_arg2)) (m ((c.tc : Thread Cert.DwInRefIdeal.nD Cert.DwInRefIdeal.τ).loc Cert.DwInRefIdeal.main_arg3)) (m ((c.tc : Thread Cert.DwInRefIdeal.nD Cert.DwInRefIdeal.τ).loc Cert.DwInRefIdeal.main_arg4)) (m ((c.tc : Thread Cert.DwInRefIdeal.nD Cert.DwInRefIdeal.τ).loc Cert.DwInRefIdeal.main_arg5))).2.2.2.2.1 = (fun _ => 1#1)
    ∧ (Cert.Pre_gamma_nonneg_in.fn (F := Ideal) (m ((c.tc : Thread Cert.DwInRefIdeal.nD Cert.DwInRefIdeal.τ).loc Cert.DwInRefIdeal.main_arg0)) (m ((c.tc : Thread Cert.DwInRefIdeal.nD Cert.DwInRefIdeal.τ).loc Cert.DwInRefIdeal.main_arg1)) (m ((c.tc : Thread Cert.DwInRefIdeal.nD Cert.DwInRefIdeal.τ).loc Cert.DwInRefIdeal.main_arg2)) (m ((c.tc : Thread Cert.DwInRefIdeal.nD Cert.DwInRefIdeal.τ).loc Cert.DwInRefIdeal.main_arg3)) (m ((c.tc : Thread Cert.DwInRefIdeal.nD Cert.DwInRefIdeal.τ).loc Cert.DwInRefIdeal.main_arg4)) (m ((c.tc : Thread Cert.DwInRefIdeal.nD Cert.DwInRefIdeal.τ).loc Cert.DwInRefIdeal.main_arg5))).2.2.2.2.2 = (fun _ => 1#1)

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvIdeal_gamma_nonneg_qkv [hPre_gamma_nonneg_qkv : Cert.Pre_gamma_nonneg_qkv.Facts] (m : (ℓ : Loc Cert.DwQkvIdeal.nD Cert.DwQkvIdeal.τ Cert.DwQkvIdeal.sig) → Buf (Elt Ideal) ℓ) : Prop :=
  ∀ c : Dev Cert.DwQkvIdeal.nD,
    (Cert.Pre_gamma_nonneg_qkv.fn (F := Ideal) (m ((c.tc : Thread Cert.DwQkvIdeal.nD Cert.DwQkvIdeal.τ).loc Cert.DwQkvIdeal.main_arg0)) (m ((c.tc : Thread Cert.DwQkvIdeal.nD Cert.DwQkvIdeal.τ).loc Cert.DwQkvIdeal.main_arg1)) (m ((c.tc : Thread Cert.DwQkvIdeal.nD Cert.DwQkvIdeal.τ).loc Cert.DwQkvIdeal.main_arg2)) (m ((c.tc : Thread Cert.DwQkvIdeal.nD Cert.DwQkvIdeal.τ).loc Cert.DwQkvIdeal.main_arg3)) (m ((c.tc : Thread Cert.DwQkvIdeal.nD Cert.DwQkvIdeal.τ).loc Cert.DwQkvIdeal.main_arg4)) (m ((c.tc : Thread Cert.DwQkvIdeal.nD Cert.DwQkvIdeal.τ).loc Cert.DwQkvIdeal.main_arg5))).1 = (fun _ => 1#1)
    ∧ (Cert.Pre_gamma_nonneg_qkv.fn (F := Ideal) (m ((c.tc : Thread Cert.DwQkvIdeal.nD Cert.DwQkvIdeal.τ).loc Cert.DwQkvIdeal.main_arg0)) (m ((c.tc : Thread Cert.DwQkvIdeal.nD Cert.DwQkvIdeal.τ).loc Cert.DwQkvIdeal.main_arg1)) (m ((c.tc : Thread Cert.DwQkvIdeal.nD Cert.DwQkvIdeal.τ).loc Cert.DwQkvIdeal.main_arg2)) (m ((c.tc : Thread Cert.DwQkvIdeal.nD Cert.DwQkvIdeal.τ).loc Cert.DwQkvIdeal.main_arg3)) (m ((c.tc : Thread Cert.DwQkvIdeal.nD Cert.DwQkvIdeal.τ).loc Cert.DwQkvIdeal.main_arg4)) (m ((c.tc : Thread Cert.DwQkvIdeal.nD Cert.DwQkvIdeal.τ).loc Cert.DwQkvIdeal.main_arg5))).2.1 = (fun _ => 1#1)
    ∧ (Cert.Pre_gamma_nonneg_qkv.fn (F := Ideal) (m ((c.tc : Thread Cert.DwQkvIdeal.nD Cert.DwQkvIdeal.τ).loc Cert.DwQkvIdeal.main_arg0)) (m ((c.tc : Thread Cert.DwQkvIdeal.nD Cert.DwQkvIdeal.τ).loc Cert.DwQkvIdeal.main_arg1)) (m ((c.tc : Thread Cert.DwQkvIdeal.nD Cert.DwQkvIdeal.τ).loc Cert.DwQkvIdeal.main_arg2)) (m ((c.tc : Thread Cert.DwQkvIdeal.nD Cert.DwQkvIdeal.τ).loc Cert.DwQkvIdeal.main_arg3)) (m ((c.tc : Thread Cert.DwQkvIdeal.nD Cert.DwQkvIdeal.τ).loc Cert.DwQkvIdeal.main_arg4)) (m ((c.tc : Thread Cert.DwQkvIdeal.nD Cert.DwQkvIdeal.τ).loc Cert.DwQkvIdeal.main_arg5))).2.2.1 = (fun _ => 1#1)
    ∧ (Cert.Pre_gamma_nonneg_qkv.fn (F := Ideal) (m ((c.tc : Thread Cert.DwQkvIdeal.nD Cert.DwQkvIdeal.τ).loc Cert.DwQkvIdeal.main_arg0)) (m ((c.tc : Thread Cert.DwQkvIdeal.nD Cert.DwQkvIdeal.τ).loc Cert.DwQkvIdeal.main_arg1)) (m ((c.tc : Thread Cert.DwQkvIdeal.nD Cert.DwQkvIdeal.τ).loc Cert.DwQkvIdeal.main_arg2)) (m ((c.tc : Thread Cert.DwQkvIdeal.nD Cert.DwQkvIdeal.τ).loc Cert.DwQkvIdeal.main_arg3)) (m ((c.tc : Thread Cert.DwQkvIdeal.nD Cert.DwQkvIdeal.τ).loc Cert.DwQkvIdeal.main_arg4)) (m ((c.tc : Thread Cert.DwQkvIdeal.nD Cert.DwQkvIdeal.τ).loc Cert.DwQkvIdeal.main_arg5))).2.2.2.1 = (fun _ => 1#1)
    ∧ (Cert.Pre_gamma_nonneg_qkv.fn (F := Ideal) (m ((c.tc : Thread Cert.DwQkvIdeal.nD Cert.DwQkvIdeal.τ).loc Cert.DwQkvIdeal.main_arg0)) (m ((c.tc : Thread Cert.DwQkvIdeal.nD Cert.DwQkvIdeal.τ).loc Cert.DwQkvIdeal.main_arg1)) (m ((c.tc : Thread Cert.DwQkvIdeal.nD Cert.DwQkvIdeal.τ).loc Cert.DwQkvIdeal.main_arg2)) (m ((c.tc : Thread Cert.DwQkvIdeal.nD Cert.DwQkvIdeal.τ).loc Cert.DwQkvIdeal.main_arg3)) (m ((c.tc : Thread Cert.DwQkvIdeal.nD Cert.DwQkvIdeal.τ).loc Cert.DwQkvIdeal.main_arg4)) (m ((c.tc : Thread Cert.DwQkvIdeal.nD Cert.DwQkvIdeal.τ).loc Cert.DwQkvIdeal.main_arg5))).2.2.2.2.1 = (fun _ => 1#1)
    ∧ (Cert.Pre_gamma_nonneg_qkv.fn (F := Ideal) (m ((c.tc : Thread Cert.DwQkvIdeal.nD Cert.DwQkvIdeal.τ).loc Cert.DwQkvIdeal.main_arg0)) (m ((c.tc : Thread Cert.DwQkvIdeal.nD Cert.DwQkvIdeal.τ).loc Cert.DwQkvIdeal.main_arg1)) (m ((c.tc : Thread Cert.DwQkvIdeal.nD Cert.DwQkvIdeal.τ).loc Cert.DwQkvIdeal.main_arg2)) (m ((c.tc : Thread Cert.DwQkvIdeal.nD Cert.DwQkvIdeal.τ).loc Cert.DwQkvIdeal.main_arg3)) (m ((c.tc : Thread Cert.DwQkvIdeal.nD Cert.DwQkvIdeal.τ).loc Cert.DwQkvIdeal.main_arg4)) (m ((c.tc : Thread Cert.DwQkvIdeal.nD Cert.DwQkvIdeal.τ).loc Cert.DwQkvIdeal.main_arg5))).2.2.2.2.2 = (fun _ => 1#1)

def Pre_DwQkvRefIdeal (m : (ℓ : Loc Cert.DwQkvRefIdeal.nD Cert.DwQkvRefIdeal.τ Cert.DwQkvRefIdeal.sig) → Buf (Elt Ideal) ℓ) : Prop :=
  True

def Pre_DwQkvRefIdeal_gamma_nonneg_qkv [hPre_gamma_nonneg_qkv : Cert.Pre_gamma_nonneg_qkv.Facts] (m : (ℓ : Loc Cert.DwQkvRefIdeal.nD Cert.DwQkvRefIdeal.τ Cert.DwQkvRefIdeal.sig) → Buf (Elt Ideal) ℓ) : Prop :=
  ∀ c : Dev Cert.DwQkvRefIdeal.nD,
    (Cert.Pre_gamma_nonneg_qkv.fn (F := Ideal) (m ((c.tc : Thread Cert.DwQkvRefIdeal.nD Cert.DwQkvRefIdeal.τ).loc Cert.DwQkvRefIdeal.main_arg0)) (m ((c.tc : Thread Cert.DwQkvRefIdeal.nD Cert.DwQkvRefIdeal.τ).loc Cert.DwQkvRefIdeal.main_arg1)) (m ((c.tc : Thread Cert.DwQkvRefIdeal.nD Cert.DwQkvRefIdeal.τ).loc Cert.DwQkvRefIdeal.main_arg2)) (m ((c.tc : Thread Cert.DwQkvRefIdeal.nD Cert.DwQkvRefIdeal.τ).loc Cert.DwQkvRefIdeal.main_arg3)) (m ((c.tc : Thread Cert.DwQkvRefIdeal.nD Cert.DwQkvRefIdeal.τ).loc Cert.DwQkvRefIdeal.main_arg4)) (m ((c.tc : Thread Cert.DwQkvRefIdeal.nD Cert.DwQkvRefIdeal.τ).loc Cert.DwQkvRefIdeal.main_arg5))).1 = (fun _ => 1#1)
    ∧ (Cert.Pre_gamma_nonneg_qkv.fn (F := Ideal) (m ((c.tc : Thread Cert.DwQkvRefIdeal.nD Cert.DwQkvRefIdeal.τ).loc Cert.DwQkvRefIdeal.main_arg0)) (m ((c.tc : Thread Cert.DwQkvRefIdeal.nD Cert.DwQkvRefIdeal.τ).loc Cert.DwQkvRefIdeal.main_arg1)) (m ((c.tc : Thread Cert.DwQkvRefIdeal.nD Cert.DwQkvRefIdeal.τ).loc Cert.DwQkvRefIdeal.main_arg2)) (m ((c.tc : Thread Cert.DwQkvRefIdeal.nD Cert.DwQkvRefIdeal.τ).loc Cert.DwQkvRefIdeal.main_arg3)) (m ((c.tc : Thread Cert.DwQkvRefIdeal.nD Cert.DwQkvRefIdeal.τ).loc Cert.DwQkvRefIdeal.main_arg4)) (m ((c.tc : Thread Cert.DwQkvRefIdeal.nD Cert.DwQkvRefIdeal.τ).loc Cert.DwQkvRefIdeal.main_arg5))).2.1 = (fun _ => 1#1)
    ∧ (Cert.Pre_gamma_nonneg_qkv.fn (F := Ideal) (m ((c.tc : Thread Cert.DwQkvRefIdeal.nD Cert.DwQkvRefIdeal.τ).loc Cert.DwQkvRefIdeal.main_arg0)) (m ((c.tc : Thread Cert.DwQkvRefIdeal.nD Cert.DwQkvRefIdeal.τ).loc Cert.DwQkvRefIdeal.main_arg1)) (m ((c.tc : Thread Cert.DwQkvRefIdeal.nD Cert.DwQkvRefIdeal.τ).loc Cert.DwQkvRefIdeal.main_arg2)) (m ((c.tc : Thread Cert.DwQkvRefIdeal.nD Cert.DwQkvRefIdeal.τ).loc Cert.DwQkvRefIdeal.main_arg3)) (m ((c.tc : Thread Cert.DwQkvRefIdeal.nD Cert.DwQkvRefIdeal.τ).loc Cert.DwQkvRefIdeal.main_arg4)) (m ((c.tc : Thread Cert.DwQkvRefIdeal.nD Cert.DwQkvRefIdeal.τ).loc Cert.DwQkvRefIdeal.main_arg5))).2.2.1 = (fun _ => 1#1)
    ∧ (Cert.Pre_gamma_nonneg_qkv.fn (F := Ideal) (m ((c.tc : Thread Cert.DwQkvRefIdeal.nD Cert.DwQkvRefIdeal.τ).loc Cert.DwQkvRefIdeal.main_arg0)) (m ((c.tc : Thread Cert.DwQkvRefIdeal.nD Cert.DwQkvRefIdeal.τ).loc Cert.DwQkvRefIdeal.main_arg1)) (m ((c.tc : Thread Cert.DwQkvRefIdeal.nD Cert.DwQkvRefIdeal.τ).loc Cert.DwQkvRefIdeal.main_arg2)) (m ((c.tc : Thread Cert.DwQkvRefIdeal.nD Cert.DwQkvRefIdeal.τ).loc Cert.DwQkvRefIdeal.main_arg3)) (m ((c.tc : Thread Cert.DwQkvRefIdeal.nD Cert.DwQkvRefIdeal.τ).loc Cert.DwQkvRefIdeal.main_arg4)) (m ((c.tc : Thread Cert.DwQkvRefIdeal.nD Cert.DwQkvRefIdeal.τ).loc Cert.DwQkvRefIdeal.main_arg5))).2.2.2.1 = (fun _ => 1#1)
    ∧ (Cert.Pre_gamma_nonneg_qkv.fn (F := Ideal) (m ((c.tc : Thread Cert.DwQkvRefIdeal.nD Cert.DwQkvRefIdeal.τ).loc Cert.DwQkvRefIdeal.main_arg0)) (m ((c.tc : Thread Cert.DwQkvRefIdeal.nD Cert.DwQkvRefIdeal.τ).loc Cert.DwQkvRefIdeal.main_arg1)) (m ((c.tc : Thread Cert.DwQkvRefIdeal.nD Cert.DwQkvRefIdeal.τ).loc Cert.DwQkvRefIdeal.main_arg2)) (m ((c.tc : Thread Cert.DwQkvRefIdeal.nD Cert.DwQkvRefIdeal.τ).loc Cert.DwQkvRefIdeal.main_arg3)) (m ((c.tc : Thread Cert.DwQkvRefIdeal.nD Cert.DwQkvRefIdeal.τ).loc Cert.DwQkvRefIdeal.main_arg4)) (m ((c.tc : Thread Cert.DwQkvRefIdeal.nD Cert.DwQkvRefIdeal.τ).loc Cert.DwQkvRefIdeal.main_arg5))).2.2.2.2.1 = (fun _ => 1#1)
    ∧ (Cert.Pre_gamma_nonneg_qkv.fn (F := Ideal) (m ((c.tc : Thread Cert.DwQkvRefIdeal.nD Cert.DwQkvRefIdeal.τ).loc Cert.DwQkvRefIdeal.main_arg0)) (m ((c.tc : Thread Cert.DwQkvRefIdeal.nD Cert.DwQkvRefIdeal.τ).loc Cert.DwQkvRefIdeal.main_arg1)) (m ((c.tc : Thread Cert.DwQkvRefIdeal.nD Cert.DwQkvRefIdeal.τ).loc Cert.DwQkvRefIdeal.main_arg2)) (m ((c.tc : Thread Cert.DwQkvRefIdeal.nD Cert.DwQkvRefIdeal.τ).loc Cert.DwQkvRefIdeal.main_arg3)) (m ((c.tc : Thread Cert.DwQkvRefIdeal.nD Cert.DwQkvRefIdeal.τ).loc Cert.DwQkvRefIdeal.main_arg4)) (m ((c.tc : Thread Cert.DwQkvRefIdeal.nD Cert.DwQkvRefIdeal.τ).loc Cert.DwQkvRefIdeal.main_arg5))).2.2.2.2.2 = (fun _ => 1#1)

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxIdeal_scales_nonneg [hPre_scales_nonneg : Cert.Pre_scales_nonneg.Facts] (m : (ℓ : Loc Cert.DxIdeal.nD Cert.DxIdeal.τ Cert.DxIdeal.sig) → Buf (Elt Ideal) ℓ) : Prop :=
  ∀ c : Dev Cert.DxIdeal.nD,
    (Cert.Pre_scales_nonneg.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9)) (m ((c.tc : Thread Cert.DxIdeal.nD Cert.DxIdeal.τ).loc Cert.DxIdeal.main_arg10)) (m ((c.tc : Thread Cert.DxIdeal.nD Cert.DxIdeal.τ).loc Cert.DxIdeal.main_arg11)) (m ((c.tc : Thread Cert.DxIdeal.nD Cert.DxIdeal.τ).loc Cert.DxIdeal.main_arg12)) (m ((c.tc : Thread Cert.DxIdeal.nD Cert.DxIdeal.τ).loc Cert.DxIdeal.main_arg13))).1 = (fun _ => 1#1)
    ∧ (Cert.Pre_scales_nonneg.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9)) (m ((c.tc : Thread Cert.DxIdeal.nD Cert.DxIdeal.τ).loc Cert.DxIdeal.main_arg10)) (m ((c.tc : Thread Cert.DxIdeal.nD Cert.DxIdeal.τ).loc Cert.DxIdeal.main_arg11)) (m ((c.tc : Thread Cert.DxIdeal.nD Cert.DxIdeal.τ).loc Cert.DxIdeal.main_arg12)) (m ((c.tc : Thread Cert.DxIdeal.nD Cert.DxIdeal.τ).loc Cert.DxIdeal.main_arg13))).2.1 = (fun _ => 1#1)
    ∧ (Cert.Pre_scales_nonneg.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9)) (m ((c.tc : Thread Cert.DxIdeal.nD Cert.DxIdeal.τ).loc Cert.DxIdeal.main_arg10)) (m ((c.tc : Thread Cert.DxIdeal.nD Cert.DxIdeal.τ).loc Cert.DxIdeal.main_arg11)) (m ((c.tc : Thread Cert.DxIdeal.nD Cert.DxIdeal.τ).loc Cert.DxIdeal.main_arg12)) (m ((c.tc : Thread Cert.DxIdeal.nD Cert.DxIdeal.τ).loc Cert.DxIdeal.main_arg13))).2.2.1 = (fun _ => 1#1)
    ∧ (Cert.Pre_scales_nonneg.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9)) (m ((c.tc : Thread Cert.DxIdeal.nD Cert.DxIdeal.τ).loc Cert.DxIdeal.main_arg10)) (m ((c.tc : Thread Cert.DxIdeal.nD Cert.DxIdeal.τ).loc Cert.DxIdeal.main_arg11)) (m ((c.tc : Thread Cert.DxIdeal.nD Cert.DxIdeal.τ).loc Cert.DxIdeal.main_arg12)) (m ((c.tc : Thread Cert.DxIdeal.nD Cert.DxIdeal.τ).loc Cert.DxIdeal.main_arg13))).2.2.2.1 = (fun _ => 1#1)
    ∧ (Cert.Pre_scales_nonneg.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9)) (m ((c.tc : Thread Cert.DxIdeal.nD Cert.DxIdeal.τ).loc Cert.DxIdeal.main_arg10)) (m ((c.tc : Thread Cert.DxIdeal.nD Cert.DxIdeal.τ).loc Cert.DxIdeal.main_arg11)) (m ((c.tc : Thread Cert.DxIdeal.nD Cert.DxIdeal.τ).loc Cert.DxIdeal.main_arg12)) (m ((c.tc : Thread Cert.DxIdeal.nD Cert.DxIdeal.τ).loc Cert.DxIdeal.main_arg13))).2.2.2.2.1 = (fun _ => 1#1)
    ∧ (Cert.Pre_scales_nonneg.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9)) (m ((c.tc : Thread Cert.DxIdeal.nD Cert.DxIdeal.τ).loc Cert.DxIdeal.main_arg10)) (m ((c.tc : Thread Cert.DxIdeal.nD Cert.DxIdeal.τ).loc Cert.DxIdeal.main_arg11)) (m ((c.tc : Thread Cert.DxIdeal.nD Cert.DxIdeal.τ).loc Cert.DxIdeal.main_arg12)) (m ((c.tc : Thread Cert.DxIdeal.nD Cert.DxIdeal.τ).loc Cert.DxIdeal.main_arg13))).2.2.2.2.2.1 = (fun _ => 1#1)
    ∧ (Cert.Pre_scales_nonneg.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9)) (m ((c.tc : Thread Cert.DxIdeal.nD Cert.DxIdeal.τ).loc Cert.DxIdeal.main_arg10)) (m ((c.tc : Thread Cert.DxIdeal.nD Cert.DxIdeal.τ).loc Cert.DxIdeal.main_arg11)) (m ((c.tc : Thread Cert.DxIdeal.nD Cert.DxIdeal.τ).loc Cert.DxIdeal.main_arg12)) (m ((c.tc : Thread Cert.DxIdeal.nD Cert.DxIdeal.τ).loc Cert.DxIdeal.main_arg13))).2.2.2.2.2.2.1 = (fun _ => 1#1)
    ∧ (Cert.Pre_scales_nonneg.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9)) (m ((c.tc : Thread Cert.DxIdeal.nD Cert.DxIdeal.τ).loc Cert.DxIdeal.main_arg10)) (m ((c.tc : Thread Cert.DxIdeal.nD Cert.DxIdeal.τ).loc Cert.DxIdeal.main_arg11)) (m ((c.tc : Thread Cert.DxIdeal.nD Cert.DxIdeal.τ).loc Cert.DxIdeal.main_arg12)) (m ((c.tc : Thread Cert.DxIdeal.nD Cert.DxIdeal.τ).loc Cert.DxIdeal.main_arg13))).2.2.2.2.2.2.2.1 = (fun _ => 1#1)
    ∧ (Cert.Pre_scales_nonneg.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9)) (m ((c.tc : Thread Cert.DxIdeal.nD Cert.DxIdeal.τ).loc Cert.DxIdeal.main_arg10)) (m ((c.tc : Thread Cert.DxIdeal.nD Cert.DxIdeal.τ).loc Cert.DxIdeal.main_arg11)) (m ((c.tc : Thread Cert.DxIdeal.nD Cert.DxIdeal.τ).loc Cert.DxIdeal.main_arg12)) (m ((c.tc : Thread Cert.DxIdeal.nD Cert.DxIdeal.τ).loc Cert.DxIdeal.main_arg13))).2.2.2.2.2.2.2.2.1 = (fun _ => 1#1)
    ∧ (Cert.Pre_scales_nonneg.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9)) (m ((c.tc : Thread Cert.DxIdeal.nD Cert.DxIdeal.τ).loc Cert.DxIdeal.main_arg10)) (m ((c.tc : Thread Cert.DxIdeal.nD Cert.DxIdeal.τ).loc Cert.DxIdeal.main_arg11)) (m ((c.tc : Thread Cert.DxIdeal.nD Cert.DxIdeal.τ).loc Cert.DxIdeal.main_arg12)) (m ((c.tc : Thread Cert.DxIdeal.nD Cert.DxIdeal.τ).loc Cert.DxIdeal.main_arg13))).2.2.2.2.2.2.2.2.2.1 = (fun _ => 1#1)
    ∧ (Cert.Pre_scales_nonneg.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9)) (m ((c.tc : Thread Cert.DxIdeal.nD Cert.DxIdeal.τ).loc Cert.DxIdeal.main_arg10)) (m ((c.tc : Thread Cert.DxIdeal.nD Cert.DxIdeal.τ).loc Cert.DxIdeal.main_arg11)) (m ((c.tc : Thread Cert.DxIdeal.nD Cert.DxIdeal.τ).loc Cert.DxIdeal.main_arg12)) (m ((c.tc : Thread Cert.DxIdeal.nD Cert.DxIdeal.τ).loc Cert.DxIdeal.main_arg13))).2.2.2.2.2.2.2.2.2.2.1 = (fun _ => 1#1)
    ∧ (Cert.Pre_scales_nonneg.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9)) (m ((c.tc : Thread Cert.DxIdeal.nD Cert.DxIdeal.τ).loc Cert.DxIdeal.main_arg10)) (m ((c.tc : Thread Cert.DxIdeal.nD Cert.DxIdeal.τ).loc Cert.DxIdeal.main_arg11)) (m ((c.tc : Thread Cert.DxIdeal.nD Cert.DxIdeal.τ).loc Cert.DxIdeal.main_arg12)) (m ((c.tc : Thread Cert.DxIdeal.nD Cert.DxIdeal.τ).loc Cert.DxIdeal.main_arg13))).2.2.2.2.2.2.2.2.2.2.2.1 = (fun _ => 1#1)
    ∧ (Cert.Pre_scales_nonneg.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9)) (m ((c.tc : Thread Cert.DxIdeal.nD Cert.DxIdeal.τ).loc Cert.DxIdeal.main_arg10)) (m ((c.tc : Thread Cert.DxIdeal.nD Cert.DxIdeal.τ).loc Cert.DxIdeal.main_arg11)) (m ((c.tc : Thread Cert.DxIdeal.nD Cert.DxIdeal.τ).loc Cert.DxIdeal.main_arg12)) (m ((c.tc : Thread Cert.DxIdeal.nD Cert.DxIdeal.τ).loc Cert.DxIdeal.main_arg13))).2.2.2.2.2.2.2.2.2.2.2.2.1 = (fun _ => 1#1)
    ∧ (Cert.Pre_scales_nonneg.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6)) (m ((c.tc : Thread Cert.DxIdeal.nD Cert.DxIdeal.τ).loc Cert.DxIdeal.main_arg7)) (m ((c.tc : Thread Cert.DxIdeal.nD Cert.DxIdeal.τ).loc Cert.DxIdeal.main_arg8)) (m ((c.tc : Thread Cert.DxIdeal.nD Cert.DxIdeal.τ).loc Cert.DxIdeal.main_arg9)) (m ((c.tc : Thread Cert.DxIdeal.nD Cert.DxIdeal.τ).loc Cert.DxIdeal.main_arg10)) (m ((c.tc : Thread Cert.DxIdeal.nD Cert.DxIdeal.τ).loc Cert.DxIdeal.main_arg11)) (m ((c.tc : Thread Cert.DxIdeal.nD Cert.DxIdeal.τ).loc Cert.DxIdeal.main_arg12)) (m ((c.tc : Thread Cert.DxIdeal.nD Cert.DxIdeal.τ).loc Cert.DxIdeal.main_arg13))).2.2.2.2.2.2.2.2.2.2.2.2.2 = (fun _ => 1#1)

def Pre_DxRefIdeal (m : (ℓ : Loc Cert.DxRefIdeal.nD Cert.DxRefIdeal.τ Cert.DxRefIdeal.sig) → Buf (Elt Ideal) ℓ) : Prop :=
  True

def Pre_DxRefIdeal_scales_nonneg [hPre_scales_nonneg : Cert.Pre_scales_nonneg.Facts] (m : (ℓ : Loc Cert.DxRefIdeal.nD Cert.DxRefIdeal.τ Cert.DxRefIdeal.sig) → Buf (Elt Ideal) ℓ) : Prop :=
  ∀ c : Dev Cert.DxRefIdeal.nD,
    (Cert.Pre_scales_nonneg.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9)) (m ((c.tc : Thread Cert.DxRefIdeal.nD Cert.DxRefIdeal.τ).loc Cert.DxRefIdeal.main_arg10)) (m ((c.tc : Thread Cert.DxRefIdeal.nD Cert.DxRefIdeal.τ).loc Cert.DxRefIdeal.main_arg11)) (m ((c.tc : Thread Cert.DxRefIdeal.nD Cert.DxRefIdeal.τ).loc Cert.DxRefIdeal.main_arg12)) (m ((c.tc : Thread Cert.DxRefIdeal.nD Cert.DxRefIdeal.τ).loc Cert.DxRefIdeal.main_arg13))).1 = (fun _ => 1#1)
    ∧ (Cert.Pre_scales_nonneg.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9)) (m ((c.tc : Thread Cert.DxRefIdeal.nD Cert.DxRefIdeal.τ).loc Cert.DxRefIdeal.main_arg10)) (m ((c.tc : Thread Cert.DxRefIdeal.nD Cert.DxRefIdeal.τ).loc Cert.DxRefIdeal.main_arg11)) (m ((c.tc : Thread Cert.DxRefIdeal.nD Cert.DxRefIdeal.τ).loc Cert.DxRefIdeal.main_arg12)) (m ((c.tc : Thread Cert.DxRefIdeal.nD Cert.DxRefIdeal.τ).loc Cert.DxRefIdeal.main_arg13))).2.1 = (fun _ => 1#1)
    ∧ (Cert.Pre_scales_nonneg.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9)) (m ((c.tc : Thread Cert.DxRefIdeal.nD Cert.DxRefIdeal.τ).loc Cert.DxRefIdeal.main_arg10)) (m ((c.tc : Thread Cert.DxRefIdeal.nD Cert.DxRefIdeal.τ).loc Cert.DxRefIdeal.main_arg11)) (m ((c.tc : Thread Cert.DxRefIdeal.nD Cert.DxRefIdeal.τ).loc Cert.DxRefIdeal.main_arg12)) (m ((c.tc : Thread Cert.DxRefIdeal.nD Cert.DxRefIdeal.τ).loc Cert.DxRefIdeal.main_arg13))).2.2.1 = (fun _ => 1#1)
    ∧ (Cert.Pre_scales_nonneg.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9)) (m ((c.tc : Thread Cert.DxRefIdeal.nD Cert.DxRefIdeal.τ).loc Cert.DxRefIdeal.main_arg10)) (m ((c.tc : Thread Cert.DxRefIdeal.nD Cert.DxRefIdeal.τ).loc Cert.DxRefIdeal.main_arg11)) (m ((c.tc : Thread Cert.DxRefIdeal.nD Cert.DxRefIdeal.τ).loc Cert.DxRefIdeal.main_arg12)) (m ((c.tc : Thread Cert.DxRefIdeal.nD Cert.DxRefIdeal.τ).loc Cert.DxRefIdeal.main_arg13))).2.2.2.1 = (fun _ => 1#1)
    ∧ (Cert.Pre_scales_nonneg.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9)) (m ((c.tc : Thread Cert.DxRefIdeal.nD Cert.DxRefIdeal.τ).loc Cert.DxRefIdeal.main_arg10)) (m ((c.tc : Thread Cert.DxRefIdeal.nD Cert.DxRefIdeal.τ).loc Cert.DxRefIdeal.main_arg11)) (m ((c.tc : Thread Cert.DxRefIdeal.nD Cert.DxRefIdeal.τ).loc Cert.DxRefIdeal.main_arg12)) (m ((c.tc : Thread Cert.DxRefIdeal.nD Cert.DxRefIdeal.τ).loc Cert.DxRefIdeal.main_arg13))).2.2.2.2.1 = (fun _ => 1#1)
    ∧ (Cert.Pre_scales_nonneg.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9)) (m ((c.tc : Thread Cert.DxRefIdeal.nD Cert.DxRefIdeal.τ).loc Cert.DxRefIdeal.main_arg10)) (m ((c.tc : Thread Cert.DxRefIdeal.nD Cert.DxRefIdeal.τ).loc Cert.DxRefIdeal.main_arg11)) (m ((c.tc : Thread Cert.DxRefIdeal.nD Cert.DxRefIdeal.τ).loc Cert.DxRefIdeal.main_arg12)) (m ((c.tc : Thread Cert.DxRefIdeal.nD Cert.DxRefIdeal.τ).loc Cert.DxRefIdeal.main_arg13))).2.2.2.2.2.1 = (fun _ => 1#1)
    ∧ (Cert.Pre_scales_nonneg.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9)) (m ((c.tc : Thread Cert.DxRefIdeal.nD Cert.DxRefIdeal.τ).loc Cert.DxRefIdeal.main_arg10)) (m ((c.tc : Thread Cert.DxRefIdeal.nD Cert.DxRefIdeal.τ).loc Cert.DxRefIdeal.main_arg11)) (m ((c.tc : Thread Cert.DxRefIdeal.nD Cert.DxRefIdeal.τ).loc Cert.DxRefIdeal.main_arg12)) (m ((c.tc : Thread Cert.DxRefIdeal.nD Cert.DxRefIdeal.τ).loc Cert.DxRefIdeal.main_arg13))).2.2.2.2.2.2.1 = (fun _ => 1#1)
    ∧ (Cert.Pre_scales_nonneg.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9)) (m ((c.tc : Thread Cert.DxRefIdeal.nD Cert.DxRefIdeal.τ).loc Cert.DxRefIdeal.main_arg10)) (m ((c.tc : Thread Cert.DxRefIdeal.nD Cert.DxRefIdeal.τ).loc Cert.DxRefIdeal.main_arg11)) (m ((c.tc : Thread Cert.DxRefIdeal.nD Cert.DxRefIdeal.τ).loc Cert.DxRefIdeal.main_arg12)) (m ((c.tc : Thread Cert.DxRefIdeal.nD Cert.DxRefIdeal.τ).loc Cert.DxRefIdeal.main_arg13))).2.2.2.2.2.2.2.1 = (fun _ => 1#1)
    ∧ (Cert.Pre_scales_nonneg.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9)) (m ((c.tc : Thread Cert.DxRefIdeal.nD Cert.DxRefIdeal.τ).loc Cert.DxRefIdeal.main_arg10)) (m ((c.tc : Thread Cert.DxRefIdeal.nD Cert.DxRefIdeal.τ).loc Cert.DxRefIdeal.main_arg11)) (m ((c.tc : Thread Cert.DxRefIdeal.nD Cert.DxRefIdeal.τ).loc Cert.DxRefIdeal.main_arg12)) (m ((c.tc : Thread Cert.DxRefIdeal.nD Cert.DxRefIdeal.τ).loc Cert.DxRefIdeal.main_arg13))).2.2.2.2.2.2.2.2.1 = (fun _ => 1#1)
    ∧ (Cert.Pre_scales_nonneg.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9)) (m ((c.tc : Thread Cert.DxRefIdeal.nD Cert.DxRefIdeal.τ).loc Cert.DxRefIdeal.main_arg10)) (m ((c.tc : Thread Cert.DxRefIdeal.nD Cert.DxRefIdeal.τ).loc Cert.DxRefIdeal.main_arg11)) (m ((c.tc : Thread Cert.DxRefIdeal.nD Cert.DxRefIdeal.τ).loc Cert.DxRefIdeal.main_arg12)) (m ((c.tc : Thread Cert.DxRefIdeal.nD Cert.DxRefIdeal.τ).loc Cert.DxRefIdeal.main_arg13))).2.2.2.2.2.2.2.2.2.1 = (fun _ => 1#1)
    ∧ (Cert.Pre_scales_nonneg.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9)) (m ((c.tc : Thread Cert.DxRefIdeal.nD Cert.DxRefIdeal.τ).loc Cert.DxRefIdeal.main_arg10)) (m ((c.tc : Thread Cert.DxRefIdeal.nD Cert.DxRefIdeal.τ).loc Cert.DxRefIdeal.main_arg11)) (m ((c.tc : Thread Cert.DxRefIdeal.nD Cert.DxRefIdeal.τ).loc Cert.DxRefIdeal.main_arg12)) (m ((c.tc : Thread Cert.DxRefIdeal.nD Cert.DxRefIdeal.τ).loc Cert.DxRefIdeal.main_arg13))).2.2.2.2.2.2.2.2.2.2.1 = (fun _ => 1#1)
    ∧ (Cert.Pre_scales_nonneg.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9)) (m ((c.tc : Thread Cert.DxRefIdeal.nD Cert.DxRefIdeal.τ).loc Cert.DxRefIdeal.main_arg10)) (m ((c.tc : Thread Cert.DxRefIdeal.nD Cert.DxRefIdeal.τ).loc Cert.DxRefIdeal.main_arg11)) (m ((c.tc : Thread Cert.DxRefIdeal.nD Cert.DxRefIdeal.τ).loc Cert.DxRefIdeal.main_arg12)) (m ((c.tc : Thread Cert.DxRefIdeal.nD Cert.DxRefIdeal.τ).loc Cert.DxRefIdeal.main_arg13))).2.2.2.2.2.2.2.2.2.2.2.1 = (fun _ => 1#1)
    ∧ (Cert.Pre_scales_nonneg.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9)) (m ((c.tc : Thread Cert.DxRefIdeal.nD Cert.DxRefIdeal.τ).loc Cert.DxRefIdeal.main_arg10)) (m ((c.tc : Thread Cert.DxRefIdeal.nD Cert.DxRefIdeal.τ).loc Cert.DxRefIdeal.main_arg11)) (m ((c.tc : Thread Cert.DxRefIdeal.nD Cert.DxRefIdeal.τ).loc Cert.DxRefIdeal.main_arg12)) (m ((c.tc : Thread Cert.DxRefIdeal.nD Cert.DxRefIdeal.τ).loc Cert.DxRefIdeal.main_arg13))).2.2.2.2.2.2.2.2.2.2.2.2.1 = (fun _ => 1#1)
    ∧ (Cert.Pre_scales_nonneg.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6)) (m ((c.tc : Thread Cert.DxRefIdeal.nD Cert.DxRefIdeal.τ).loc Cert.DxRefIdeal.main_arg7)) (m ((c.tc : Thread Cert.DxRefIdeal.nD Cert.DxRefIdeal.τ).loc Cert.DxRefIdeal.main_arg8)) (m ((c.tc : Thread Cert.DxRefIdeal.nD Cert.DxRefIdeal.τ).loc Cert.DxRefIdeal.main_arg9)) (m ((c.tc : Thread Cert.DxRefIdeal.nD Cert.DxRefIdeal.τ).loc Cert.DxRefIdeal.main_arg10)) (m ((c.tc : Thread Cert.DxRefIdeal.nD Cert.DxRefIdeal.τ).loc Cert.DxRefIdeal.main_arg11)) (m ((c.tc : Thread Cert.DxRefIdeal.nD Cert.DxRefIdeal.τ).loc Cert.DxRefIdeal.main_arg12)) (m ((c.tc : Thread Cert.DxRefIdeal.nD Cert.DxRefIdeal.τ).loc Cert.DxRefIdeal.main_arg13))).2.2.2.2.2.2.2.2.2.2.2.2.2 = (fun _ => 1#1)

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaRefIdeal (m : (ℓ : Loc Cert.DaRefIdeal.nD Cert.DaRefIdeal.τ Cert.DaRefIdeal.sig) → Buf (Elt Ideal) ℓ) : Prop :=
  True

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2)
      ∧ r.2.mem ((c.tc : Thread Cert.DwOut.nD Cert.DwOut.τ).loc Cert.DwOut.main_arg3) = m ((c.tc : Thread Cert.DwOut.nD Cert.DwOut.τ).loc Cert.DwOut.main_arg3)
      ∧ r.2.mem ((c.tc : Thread Cert.DwOut.nD Cert.DwOut.τ).loc Cert.DwOut.main_arg4) = m ((c.tc : Thread Cert.DwOut.nD Cert.DwOut.τ).loc Cert.DwOut.main_arg4))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
      ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3)
      ∧ r.2.mem ((c.tc : Thread Cert.DwOutIdeal.nD Cert.DwOutIdeal.τ).loc Cert.DwOutIdeal.main_arg4) = m ((c.tc : Thread Cert.DwOutIdeal.nD Cert.DwOutIdeal.τ).loc Cert.DwOutIdeal.main_arg4))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2)
      ∧ r.2.mem ((c.tc : Thread Cert.DwOutRefIdeal.nD Cert.DwOutRefIdeal.τ).loc Cert.DwOutRefIdeal.main_arg3) = m ((c.tc : Thread Cert.DwOutRefIdeal.nD Cert.DwOutRefIdeal.τ).loc Cert.DwOutRefIdeal.main_arg3)
      ∧ r.2.mem ((c.tc : Thread Cert.DwOutRefIdeal.nD Cert.DwOutRefIdeal.τ).loc Cert.DwOutRefIdeal.main_arg4) = m ((c.tc : Thread Cert.DwOutRefIdeal.nD Cert.DwOutRefIdeal.τ).loc Cert.DwOutRefIdeal.main_arg4))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3)
      ∧ r.2.mem ((c.tc : Thread Cert.DwIn.nD Cert.DwIn.τ).loc Cert.DwIn.main_arg4) = m ((c.tc : Thread Cert.DwIn.nD Cert.DwIn.τ).loc Cert.DwIn.main_arg4)
      ∧ r.2.mem ((c.tc : Thread Cert.DwIn.nD Cert.DwIn.τ).loc Cert.DwIn.main_arg5) = m ((c.tc : Thread Cert.DwIn.nD Cert.DwIn.τ).loc Cert.DwIn.main_arg5))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
      ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
      ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5))
      ∧ r.2.sem = fun _ => 0)

def quiescent_DwInIdeal_pre_gamma_nonneg_in [hDwInIdeal : Cert.DwInIdeal.Facts] [hPre_gamma_nonneg_in : Cert.Pre_gamma_nonneg_in.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal_gamma_nonneg_in m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
      ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
      ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3)
      ∧ r.2.mem ((c.tc : Thread Cert.DwInRefIdeal.nD Cert.DwInRefIdeal.τ).loc Cert.DwInRefIdeal.main_arg4) = m ((c.tc : Thread Cert.DwInRefIdeal.nD Cert.DwInRefIdeal.τ).loc Cert.DwInRefIdeal.main_arg4)
      ∧ r.2.mem ((c.tc : Thread Cert.DwInRefIdeal.nD Cert.DwInRefIdeal.τ).loc Cert.DwInRefIdeal.main_arg5) = m ((c.tc : Thread Cert.DwInRefIdeal.nD Cert.DwInRefIdeal.τ).loc Cert.DwInRefIdeal.main_arg5))
      ∧ r.2.sem = fun _ => 0)

def quiescent_DwInRefIdeal_pre_gamma_nonneg_in [hDwInRefIdeal : Cert.DwInRefIdeal.Facts] [hPre_gamma_nonneg_in : Cert.Pre_gamma_nonneg_in.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal_gamma_nonneg_in m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3)
      ∧ r.2.mem ((c.tc : Thread Cert.DwInRefIdeal.nD Cert.DwInRefIdeal.τ).loc Cert.DwInRefIdeal.main_arg4) = m ((c.tc : Thread Cert.DwInRefIdeal.nD Cert.DwInRefIdeal.τ).loc Cert.DwInRefIdeal.main_arg4)
      ∧ r.2.mem ((c.tc : Thread Cert.DwInRefIdeal.nD Cert.DwInRefIdeal.τ).loc Cert.DwInRefIdeal.main_arg5) = m ((c.tc : Thread Cert.DwInRefIdeal.nD Cert.DwInRefIdeal.τ).loc Cert.DwInRefIdeal.main_arg5))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1)
      ∧ r.2.mem ((c.tc : Thread Cert.DwQkv.nD Cert.DwQkv.τ).loc Cert.DwQkv.main_arg2) = m ((c.tc : Thread Cert.DwQkv.nD Cert.DwQkv.τ).loc Cert.DwQkv.main_arg2)
      ∧ r.2.mem ((c.tc : Thread Cert.DwQkv.nD Cert.DwQkv.τ).loc Cert.DwQkv.main_arg3) = m ((c.tc : Thread Cert.DwQkv.nD Cert.DwQkv.τ).loc Cert.DwQkv.main_arg3)
      ∧ r.2.mem ((c.tc : Thread Cert.DwQkv.nD Cert.DwQkv.τ).loc Cert.DwQkv.main_arg4) = m ((c.tc : Thread Cert.DwQkv.nD Cert.DwQkv.τ).loc Cert.DwQkv.main_arg4)
      ∧ r.2.mem ((c.tc : Thread Cert.DwQkv.nD Cert.DwQkv.τ).loc Cert.DwQkv.main_arg5) = m ((c.tc : Thread Cert.DwQkv.nD Cert.DwQkv.τ).loc Cert.DwQkv.main_arg5))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
      ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
      ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3)
      ∧ r.2.mem ((c.tc : Thread Cert.DwQkvIdeal.nD Cert.DwQkvIdeal.τ).loc Cert.DwQkvIdeal.main_arg4) = m ((c.tc : Thread Cert.DwQkvIdeal.nD Cert.DwQkvIdeal.τ).loc Cert.DwQkvIdeal.main_arg4)
      ∧ r.2.mem ((c.tc : Thread Cert.DwQkvIdeal.nD Cert.DwQkvIdeal.τ).loc Cert.DwQkvIdeal.main_arg5) = m ((c.tc : Thread Cert.DwQkvIdeal.nD Cert.DwQkvIdeal.τ).loc Cert.DwQkvIdeal.main_arg5))
      ∧ r.2.sem = fun _ => 0)

def quiescent_DwQkvIdeal_pre_gamma_nonneg_qkv [hDwQkvIdeal : Cert.DwQkvIdeal.Facts] [hPre_gamma_nonneg_qkv : Cert.Pre_gamma_nonneg_qkv.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal_gamma_nonneg_qkv m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
      ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
      ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3)
      ∧ r.2.mem ((c.tc : Thread Cert.DwQkvIdeal.nD Cert.DwQkvIdeal.τ).loc Cert.DwQkvIdeal.main_arg4) = m ((c.tc : Thread Cert.DwQkvIdeal.nD Cert.DwQkvIdeal.τ).loc Cert.DwQkvIdeal.main_arg4)
      ∧ r.2.mem ((c.tc : Thread Cert.DwQkvIdeal.nD Cert.DwQkvIdeal.τ).loc Cert.DwQkvIdeal.main_arg5) = m ((c.tc : Thread Cert.DwQkvIdeal.nD Cert.DwQkvIdeal.τ).loc Cert.DwQkvIdeal.main_arg5))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1)
      ∧ r.2.mem ((c.tc : Thread Cert.DwQkvRefIdeal.nD Cert.DwQkvRefIdeal.τ).loc Cert.DwQkvRefIdeal.main_arg2) = m ((c.tc : Thread Cert.DwQkvRefIdeal.nD Cert.DwQkvRefIdeal.τ).loc Cert.DwQkvRefIdeal.main_arg2)
      ∧ r.2.mem ((c.tc : Thread Cert.DwQkvRefIdeal.nD Cert.DwQkvRefIdeal.τ).loc Cert.DwQkvRefIdeal.main_arg3) = m ((c.tc : Thread Cert.DwQkvRefIdeal.nD Cert.DwQkvRefIdeal.τ).loc Cert.DwQkvRefIdeal.main_arg3)
      ∧ r.2.mem ((c.tc : Thread Cert.DwQkvRefIdeal.nD Cert.DwQkvRefIdeal.τ).loc Cert.DwQkvRefIdeal.main_arg4) = m ((c.tc : Thread Cert.DwQkvRefIdeal.nD Cert.DwQkvRefIdeal.τ).loc Cert.DwQkvRefIdeal.main_arg4)
      ∧ r.2.mem ((c.tc : Thread Cert.DwQkvRefIdeal.nD Cert.DwQkvRefIdeal.τ).loc Cert.DwQkvRefIdeal.main_arg5) = m ((c.tc : Thread Cert.DwQkvRefIdeal.nD Cert.DwQkvRefIdeal.τ).loc Cert.DwQkvRefIdeal.main_arg5))
      ∧ r.2.sem = fun _ => 0)

def quiescent_DwQkvRefIdeal_pre_gamma_nonneg_qkv [hDwQkvRefIdeal : Cert.DwQkvRefIdeal.Facts] [hPre_gamma_nonneg_qkv : Cert.Pre_gamma_nonneg_qkv.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal_gamma_nonneg_qkv m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1)
      ∧ r.2.mem ((c.tc : Thread Cert.DwQkvRefIdeal.nD Cert.DwQkvRefIdeal.τ).loc Cert.DwQkvRefIdeal.main_arg2) = m ((c.tc : Thread Cert.DwQkvRefIdeal.nD Cert.DwQkvRefIdeal.τ).loc Cert.DwQkvRefIdeal.main_arg2)
      ∧ r.2.mem ((c.tc : Thread Cert.DwQkvRefIdeal.nD Cert.DwQkvRefIdeal.τ).loc Cert.DwQkvRefIdeal.main_arg3) = m ((c.tc : Thread Cert.DwQkvRefIdeal.nD Cert.DwQkvRefIdeal.τ).loc Cert.DwQkvRefIdeal.main_arg3)
      ∧ r.2.mem ((c.tc : Thread Cert.DwQkvRefIdeal.nD Cert.DwQkvRefIdeal.τ).loc Cert.DwQkvRefIdeal.main_arg4) = m ((c.tc : Thread Cert.DwQkvRefIdeal.nD Cert.DwQkvRefIdeal.τ).loc Cert.DwQkvRefIdeal.main_arg4)
      ∧ r.2.mem ((c.tc : Thread Cert.DwQkvRefIdeal.nD Cert.DwQkvRefIdeal.τ).loc Cert.DwQkvRefIdeal.main_arg5) = m ((c.tc : Thread Cert.DwQkvRefIdeal.nD Cert.DwQkvRefIdeal.τ).loc Cert.DwQkvRefIdeal.main_arg5))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6)
      ∧ r.2.mem ((c.tc : Thread Cert.Dx.nD Cert.Dx.τ).loc Cert.Dx.main_arg7) = m ((c.tc : Thread Cert.Dx.nD Cert.Dx.τ).loc Cert.Dx.main_arg7)
      ∧ r.2.mem ((c.tc : Thread Cert.Dx.nD Cert.Dx.τ).loc Cert.Dx.main_arg8) = m ((c.tc : Thread Cert.Dx.nD Cert.Dx.τ).loc Cert.Dx.main_arg8)
      ∧ r.2.mem ((c.tc : Thread Cert.Dx.nD Cert.Dx.τ).loc Cert.Dx.main_arg9) = m ((c.tc : Thread Cert.Dx.nD Cert.Dx.τ).loc Cert.Dx.main_arg9)
      ∧ r.2.mem ((c.tc : Thread Cert.Dx.nD Cert.Dx.τ).loc Cert.Dx.main_arg10) = m ((c.tc : Thread Cert.Dx.nD Cert.Dx.τ).loc Cert.Dx.main_arg10)
      ∧ r.2.mem ((c.tc : Thread Cert.Dx.nD Cert.Dx.τ).loc Cert.Dx.main_arg11) = m ((c.tc : Thread Cert.Dx.nD Cert.Dx.τ).loc Cert.Dx.main_arg11)
      ∧ r.2.mem ((c.tc : Thread Cert.Dx.nD Cert.Dx.τ).loc Cert.Dx.main_arg12) = m ((c.tc : Thread Cert.Dx.nD Cert.Dx.τ).loc Cert.Dx.main_arg12)
      ∧ r.2.mem ((c.tc : Thread Cert.Dx.nD Cert.Dx.τ).loc Cert.Dx.main_arg13) = m ((c.tc : Thread Cert.Dx.nD Cert.Dx.τ).loc Cert.Dx.main_arg13))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
      ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
      ∧ r.2.mem ((c.tc : Thread Cert.DxIdeal.nD Cert.DxIdeal.τ).loc Cert.DxIdeal.main_arg9) = m ((c.tc : Thread Cert.DxIdeal.nD Cert.DxIdeal.τ).loc Cert.DxIdeal.main_arg9)
      ∧ r.2.mem ((c.tc : Thread Cert.DxIdeal.nD Cert.DxIdeal.τ).loc Cert.DxIdeal.main_arg10) = m ((c.tc : Thread Cert.DxIdeal.nD Cert.DxIdeal.τ).loc Cert.DxIdeal.main_arg10)
      ∧ r.2.mem ((c.tc : Thread Cert.DxIdeal.nD Cert.DxIdeal.τ).loc Cert.DxIdeal.main_arg11) = m ((c.tc : Thread Cert.DxIdeal.nD Cert.DxIdeal.τ).loc Cert.DxIdeal.main_arg11)
      ∧ r.2.mem ((c.tc : Thread Cert.DxIdeal.nD Cert.DxIdeal.τ).loc Cert.DxIdeal.main_arg12) = m ((c.tc : Thread Cert.DxIdeal.nD Cert.DxIdeal.τ).loc Cert.DxIdeal.main_arg12)
      ∧ r.2.mem ((c.tc : Thread Cert.DxIdeal.nD Cert.DxIdeal.τ).loc Cert.DxIdeal.main_arg13) = m ((c.tc : Thread Cert.DxIdeal.nD Cert.DxIdeal.τ).loc Cert.DxIdeal.main_arg13))
      ∧ r.2.sem = fun _ => 0)

def quiescent_DxIdeal_pre_scales_nonneg [hDxIdeal : Cert.DxIdeal.Facts] [hPre_scales_nonneg : Cert.Pre_scales_nonneg.Facts] : Prop :=
  ∀ (m : (ℓ : Loc Cert.DxIdeal.nD Cert.DxIdeal.τ Cert.DxIdeal.sig) → Buf (Elt Ideal) ℓ) (g : Dev Cert.DxIdeal.nD → PrngReg), Pre_DxIdeal_scales_nonneg m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
      ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
      ∧ r.2.mem ((c.tc : Thread Cert.DxIdeal.nD Cert.DxIdeal.τ).loc Cert.DxIdeal.main_arg9) = m ((c.tc : Thread Cert.DxIdeal.nD Cert.DxIdeal.τ).loc Cert.DxIdeal.main_arg9)
      ∧ r.2.mem ((c.tc : Thread Cert.DxIdeal.nD Cert.DxIdeal.τ).loc Cert.DxIdeal.main_arg10) = m ((c.tc : Thread Cert.DxIdeal.nD Cert.DxIdeal.τ).loc Cert.DxIdeal.main_arg10)
      ∧ r.2.mem ((c.tc : Thread Cert.DxIdeal.nD Cert.DxIdeal.τ).loc Cert.DxIdeal.main_arg11) = m ((c.tc : Thread Cert.DxIdeal.nD Cert.DxIdeal.τ).loc Cert.DxIdeal.main_arg11)
      ∧ r.2.mem ((c.tc : Thread Cert.DxIdeal.nD Cert.DxIdeal.τ).loc Cert.DxIdeal.main_arg12) = m ((c.tc : Thread Cert.DxIdeal.nD Cert.DxIdeal.τ).loc Cert.DxIdeal.main_arg12)
      ∧ r.2.mem ((c.tc : Thread Cert.DxIdeal.nD Cert.DxIdeal.τ).loc Cert.DxIdeal.main_arg13) = m ((c.tc : Thread Cert.DxIdeal.nD Cert.DxIdeal.τ).loc Cert.DxIdeal.main_arg13))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6)
      ∧ r.2.mem ((c.tc : Thread Cert.DxRefIdeal.nD Cert.DxRefIdeal.τ).loc Cert.DxRefIdeal.main_arg7) = m ((c.tc : Thread Cert.DxRefIdeal.nD Cert.DxRefIdeal.τ).loc Cert.DxRefIdeal.main_arg7)
      ∧ r.2.mem ((c.tc : Thread Cert.DxRefIdeal.nD Cert.DxRefIdeal.τ).loc Cert.DxRefIdeal.main_arg8) = m ((c.tc : Thread Cert.DxRefIdeal.nD Cert.DxRefIdeal.τ).loc Cert.DxRefIdeal.main_arg8)
      ∧ r.2.mem ((c.tc : Thread Cert.DxRefIdeal.nD Cert.DxRefIdeal.τ).loc Cert.DxRefIdeal.main_arg9) = m ((c.tc : Thread Cert.DxRefIdeal.nD Cert.DxRefIdeal.τ).loc Cert.DxRefIdeal.main_arg9)
      ∧ r.2.mem ((c.tc : Thread Cert.DxRefIdeal.nD Cert.DxRefIdeal.τ).loc Cert.DxRefIdeal.main_arg10) = m ((c.tc : Thread Cert.DxRefIdeal.nD Cert.DxRefIdeal.τ).loc Cert.DxRefIdeal.main_arg10)
      ∧ r.2.mem ((c.tc : Thread Cert.DxRefIdeal.nD Cert.DxRefIdeal.τ).loc Cert.DxRefIdeal.main_arg11) = m ((c.tc : Thread Cert.DxRefIdeal.nD Cert.DxRefIdeal.τ).loc Cert.DxRefIdeal.main_arg11)
      ∧ r.2.mem ((c.tc : Thread Cert.DxRefIdeal.nD Cert.DxRefIdeal.τ).loc Cert.DxRefIdeal.main_arg12) = m ((c.tc : Thread Cert.DxRefIdeal.nD Cert.DxRefIdeal.τ).loc Cert.DxRefIdeal.main_arg12)
      ∧ r.2.mem ((c.tc : Thread Cert.DxRefIdeal.nD Cert.DxRefIdeal.τ).loc Cert.DxRefIdeal.main_arg13) = m ((c.tc : Thread Cert.DxRefIdeal.nD Cert.DxRefIdeal.τ).loc Cert.DxRefIdeal.main_arg13))
      ∧ r.2.sem = fun _ => 0)

def quiescent_DxRefIdeal_pre_scales_nonneg [hDxRefIdeal : Cert.DxRefIdeal.Facts] [hPre_scales_nonneg : Cert.Pre_scales_nonneg.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal_scales_nonneg m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6)
      ∧ r.2.mem ((c.tc : Thread Cert.DxRefIdeal.nD Cert.DxRefIdeal.τ).loc Cert.DxRefIdeal.main_arg7) = m ((c.tc : Thread Cert.DxRefIdeal.nD Cert.DxRefIdeal.τ).loc Cert.DxRefIdeal.main_arg7)
      ∧ r.2.mem ((c.tc : Thread Cert.DxRefIdeal.nD Cert.DxRefIdeal.τ).loc Cert.DxRefIdeal.main_arg8) = m ((c.tc : Thread Cert.DxRefIdeal.nD Cert.DxRefIdeal.τ).loc Cert.DxRefIdeal.main_arg8)
      ∧ r.2.mem ((c.tc : Thread Cert.DxRefIdeal.nD Cert.DxRefIdeal.τ).loc Cert.DxRefIdeal.main_arg9) = m ((c.tc : Thread Cert.DxRefIdeal.nD Cert.DxRefIdeal.τ).loc Cert.DxRefIdeal.main_arg9)
      ∧ r.2.mem ((c.tc : Thread Cert.DxRefIdeal.nD Cert.DxRefIdeal.τ).loc Cert.DxRefIdeal.main_arg10) = m ((c.tc : Thread Cert.DxRefIdeal.nD Cert.DxRefIdeal.τ).loc Cert.DxRefIdeal.main_arg10)
      ∧ r.2.mem ((c.tc : Thread Cert.DxRefIdeal.nD Cert.DxRefIdeal.τ).loc Cert.DxRefIdeal.main_arg11) = m ((c.tc : Thread Cert.DxRefIdeal.nD Cert.DxRefIdeal.τ).loc Cert.DxRefIdeal.main_arg11)
      ∧ r.2.mem ((c.tc : Thread Cert.DxRefIdeal.nD Cert.DxRefIdeal.τ).loc Cert.DxRefIdeal.main_arg12) = m ((c.tc : Thread Cert.DxRefIdeal.nD Cert.DxRefIdeal.τ).loc Cert.DxRefIdeal.main_arg12)
      ∧ r.2.mem ((c.tc : Thread Cert.DxRefIdeal.nD Cert.DxRefIdeal.τ).loc Cert.DxRefIdeal.main_arg13) = m ((c.tc : Thread Cert.DxRefIdeal.nD Cert.DxRefIdeal.τ).loc Cert.DxRefIdeal.main_arg13))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1)
      ∧ r.2.mem ((c.tc : Thread Cert.Da.nD Cert.Da.τ).loc Cert.Da.main_arg2) = m ((c.tc : Thread Cert.Da.nD Cert.Da.τ).loc Cert.Da.main_arg2)
      ∧ r.2.mem ((c.tc : Thread Cert.Da.nD Cert.Da.τ).loc Cert.Da.main_arg3) = m ((c.tc : Thread Cert.Da.nD Cert.Da.τ).loc Cert.Da.main_arg3)
      ∧ r.2.mem ((c.tc : Thread Cert.Da.nD Cert.Da.τ).loc Cert.Da.main_arg4) = m ((c.tc : Thread Cert.Da.nD Cert.Da.τ).loc Cert.Da.main_arg4)
      ∧ r.2.mem ((c.tc : Thread Cert.Da.nD Cert.Da.τ).loc Cert.Da.main_arg5) = m ((c.tc : Thread Cert.Da.nD Cert.Da.τ).loc Cert.Da.main_arg5))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
      ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
      ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
      ∧ r.2.mem ((c.tc : Thread Cert.DaIdeal.nD Cert.DaIdeal.τ).loc Cert.DaIdeal.main_arg5) = m ((c.tc : Thread Cert.DaIdeal.nD Cert.DaIdeal.τ).loc Cert.DaIdeal.main_arg5))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2)
      ∧ r.2.mem ((c.tc : Thread Cert.DaRefIdeal.nD Cert.DaRefIdeal.τ).loc Cert.DaRefIdeal.main_arg3) = m ((c.tc : Thread Cert.DaRefIdeal.nD Cert.DaRefIdeal.τ).loc Cert.DaRefIdeal.main_arg3)
      ∧ r.2.mem ((c.tc : Thread Cert.DaRefIdeal.nD Cert.DaRefIdeal.τ).loc Cert.DaRefIdeal.main_arg4) = m ((c.tc : Thread Cert.DaRefIdeal.nD Cert.DaRefIdeal.τ).loc Cert.DaRefIdeal.main_arg4)
      ∧ r.2.mem ((c.tc : Thread Cert.DaRefIdeal.nD Cert.DaRefIdeal.τ).loc Cert.DaRefIdeal.main_arg5) = m ((c.tc : Thread Cert.DaRefIdeal.nD Cert.DaRefIdeal.τ).loc Cert.DaRefIdeal.main_arg5))
      ∧ r.2.sem = fun _ => 0)

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)
      ∧ m' ((c.tc : Thread Cert.DwOutRefIdeal.nD Cert.DwOutRefIdeal.τ).loc Cert.DwOutRefIdeal.main_arg3) = m ((c.tc : Thread Cert.DwOutIdeal.nD Cert.DwOutIdeal.τ).loc Cert.DwOutIdeal.main_arg3)
      ∧ m' ((c.tc : Thread Cert.DwOutRefIdeal.nD Cert.DwOutRefIdeal.τ).loc Cert.DwOutRefIdeal.main_arg4) = m ((c.tc : Thread Cert.DwOutIdeal.nD Cert.DwOutIdeal.τ).loc Cert.DwOutIdeal.main_arg4)) →
    ∃ (v0 : (c : Dev Cert.DwOutIdeal.nD) → Buf (Elt Ideal) ((c.tc : Thread Cert.DwOutIdeal.nD Cert.DwOutIdeal.τ).loc Cert.DwOutIdeal.main_v5)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v5) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
          ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3)
          ∧ r.2.mem ((c.tc : Thread Cert.DwOutIdeal.nD Cert.DwOutIdeal.τ).loc Cert.DwOutIdeal.main_arg4) = m ((c.tc : Thread Cert.DwOutIdeal.nD Cert.DwOutIdeal.τ).loc Cert.DwOutIdeal.main_arg4))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v4) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2)
          ∧ r.2.mem ((c.tc : Thread Cert.DwOutRefIdeal.nD Cert.DwOutRefIdeal.τ).loc Cert.DwOutRefIdeal.main_arg3) = m' ((c.tc : Thread Cert.DwOutRefIdeal.nD Cert.DwOutRefIdeal.τ).loc Cert.DwOutRefIdeal.main_arg3)
          ∧ r.2.mem ((c.tc : Thread Cert.DwOutRefIdeal.nD Cert.DwOutRefIdeal.τ).loc Cert.DwOutRefIdeal.main_arg4) = m' ((c.tc : Thread Cert.DwOutRefIdeal.nD Cert.DwOutRefIdeal.τ).loc Cert.DwOutRefIdeal.main_arg4))

def preserves_DwIn_DwInIdeal : Prop :=
  True

def algebraic_DwInIdeal_DwInRefIdeal_pre_gamma_nonneg_in [hDwInIdeal : Cert.DwInIdeal.Facts] [hDwInRefIdeal : Cert.DwInRefIdeal.Facts] [hPre_gamma_nonneg_in : Cert.Pre_gamma_nonneg_in.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal_gamma_nonneg_in m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)
      ∧ m' ((c.tc : Thread Cert.DwInRefIdeal.nD Cert.DwInRefIdeal.τ).loc Cert.DwInRefIdeal.main_arg4) = m ((c.tc : Thread Cert.DwInIdeal.nD Cert.DwInIdeal.τ).loc Cert.DwInIdeal.main_arg4)
      ∧ m' ((c.tc : Thread Cert.DwInRefIdeal.nD Cert.DwInRefIdeal.τ).loc Cert.DwInRefIdeal.main_arg5) = m ((c.tc : Thread Cert.DwInIdeal.nD Cert.DwInIdeal.τ).loc Cert.DwInIdeal.main_arg5)) →
    ∃ (v0 : (c : Dev Cert.DwInIdeal.nD) → Buf (Elt Ideal) ((c.tc : Thread Cert.DwInIdeal.nD Cert.DwInIdeal.τ).loc Cert.DwInIdeal.main_v4)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v4) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3)
          ∧ r.2.mem ((c.tc : Thread Cert.DwInIdeal.nD Cert.DwInIdeal.τ).loc Cert.DwInIdeal.main_arg4) = m ((c.tc : Thread Cert.DwInIdeal.nD Cert.DwInIdeal.τ).loc Cert.DwInIdeal.main_arg4)
          ∧ r.2.mem ((c.tc : Thread Cert.DwInIdeal.nD Cert.DwInIdeal.τ).loc Cert.DwInIdeal.main_arg5) = m ((c.tc : Thread Cert.DwInIdeal.nD Cert.DwInIdeal.τ).loc Cert.DwInIdeal.main_arg5))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v3) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3)
          ∧ r.2.mem ((c.tc : Thread Cert.DwInRefIdeal.nD Cert.DwInRefIdeal.τ).loc Cert.DwInRefIdeal.main_arg4) = m' ((c.tc : Thread Cert.DwInRefIdeal.nD Cert.DwInRefIdeal.τ).loc Cert.DwInRefIdeal.main_arg4)
          ∧ r.2.mem ((c.tc : Thread Cert.DwInRefIdeal.nD Cert.DwInRefIdeal.τ).loc Cert.DwInRefIdeal.main_arg5) = m' ((c.tc : Thread Cert.DwInRefIdeal.nD Cert.DwInRefIdeal.τ).loc Cert.DwInRefIdeal.main_arg5))

def preserves_DwQkv_DwQkvIdeal : Prop :=
  True

def algebraic_DwQkvIdeal_DwQkvRefIdeal_pre_gamma_nonneg_qkv [hDwQkvIdeal : Cert.DwQkvIdeal.Facts] [hDwQkvRefIdeal : Cert.DwQkvRefIdeal.Facts] [hPre_gamma_nonneg_qkv : Cert.Pre_gamma_nonneg_qkv.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvIdeal_gamma_nonneg_qkv m →
    (∀ c : Dev Cert.DwQkvIdeal.nD,
      m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0)
      ∧ m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1)
      ∧ m' ((c.tc : Thread Cert.DwQkvRefIdeal.nD Cert.DwQkvRefIdeal.τ).loc Cert.DwQkvRefIdeal.main_arg2) = m ((c.tc : Thread Cert.DwQkvIdeal.nD Cert.DwQkvIdeal.τ).loc Cert.DwQkvIdeal.main_arg2)
      ∧ m' ((c.tc : Thread Cert.DwQkvRefIdeal.nD Cert.DwQkvRefIdeal.τ).loc Cert.DwQkvRefIdeal.main_arg3) = m ((c.tc : Thread Cert.DwQkvIdeal.nD Cert.DwQkvIdeal.τ).loc Cert.DwQkvIdeal.main_arg3)
      ∧ m' ((c.tc : Thread Cert.DwQkvRefIdeal.nD Cert.DwQkvRefIdeal.τ).loc Cert.DwQkvRefIdeal.main_arg4) = m ((c.tc : Thread Cert.DwQkvIdeal.nD Cert.DwQkvIdeal.τ).loc Cert.DwQkvIdeal.main_arg4)
      ∧ m' ((c.tc : Thread Cert.DwQkvRefIdeal.nD Cert.DwQkvRefIdeal.τ).loc Cert.DwQkvRefIdeal.main_arg5) = m ((c.tc : Thread Cert.DwQkvIdeal.nD Cert.DwQkvIdeal.τ).loc Cert.DwQkvIdeal.main_arg5)) →
    ∃ (v0 : (c : Dev Cert.DwQkvIdeal.nD) → Buf (Elt Ideal) ((c.tc : Thread Cert.DwQkvIdeal.nD Cert.DwQkvIdeal.τ).loc Cert.DwQkvIdeal.main_v6)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v6) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
          ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
          ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3)
          ∧ r.2.mem ((c.tc : Thread Cert.DwQkvIdeal.nD Cert.DwQkvIdeal.τ).loc Cert.DwQkvIdeal.main_arg4) = m ((c.tc : Thread Cert.DwQkvIdeal.nD Cert.DwQkvIdeal.τ).loc Cert.DwQkvIdeal.main_arg4)
          ∧ r.2.mem ((c.tc : Thread Cert.DwQkvIdeal.nD Cert.DwQkvIdeal.τ).loc Cert.DwQkvIdeal.main_arg5) = m ((c.tc : Thread Cert.DwQkvIdeal.nD Cert.DwQkvIdeal.τ).loc Cert.DwQkvIdeal.main_arg5))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          r.2.mem ((c.tc : Thread Cert.DwQkvRefIdeal.nD Cert.DwQkvRefIdeal.τ).loc Cert.DwQkvRefIdeal.main_v6) = v0 c
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1)
          ∧ r.2.mem ((c.tc : Thread Cert.DwQkvRefIdeal.nD Cert.DwQkvRefIdeal.τ).loc Cert.DwQkvRefIdeal.main_arg2) = m' ((c.tc : Thread Cert.DwQkvRefIdeal.nD Cert.DwQkvRefIdeal.τ).loc Cert.DwQkvRefIdeal.main_arg2)
          ∧ r.2.mem ((c.tc : Thread Cert.DwQkvRefIdeal.nD Cert.DwQkvRefIdeal.τ).loc Cert.DwQkvRefIdeal.main_arg3) = m' ((c.tc : Thread Cert.DwQkvRefIdeal.nD Cert.DwQkvRefIdeal.τ).loc Cert.DwQkvRefIdeal.main_arg3)
          ∧ r.2.mem ((c.tc : Thread Cert.DwQkvRefIdeal.nD Cert.DwQkvRefIdeal.τ).loc Cert.DwQkvRefIdeal.main_arg4) = m' ((c.tc : Thread Cert.DwQkvRefIdeal.nD Cert.DwQkvRefIdeal.τ).loc Cert.DwQkvRefIdeal.main_arg4)
          ∧ r.2.mem ((c.tc : Thread Cert.DwQkvRefIdeal.nD Cert.DwQkvRefIdeal.τ).loc Cert.DwQkvRefIdeal.main_arg5) = m' ((c.tc : Thread Cert.DwQkvRefIdeal.nD Cert.DwQkvRefIdeal.τ).loc Cert.DwQkvRefIdeal.main_arg5))

def preserves_Dx_DxIdeal : Prop :=
  IdealRules.named_const.Statement Cert.DxIdeal.κ "inv_d" .f32 0x39AAAAAB#32 ((1 / 3072 : ℝ) : EReal)

def algebraic_DxIdeal_DxRefIdeal_pre_scales_nonneg [hDxIdeal : Cert.DxIdeal.Facts] [hDxRefIdeal : Cert.DxRefIdeal.Facts] [hPre_scales_nonneg : Cert.Pre_scales_nonneg.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal_scales_nonneg m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)
      ∧ m' ((c.tc : Thread Cert.DxRefIdeal.nD Cert.DxRefIdeal.τ).loc Cert.DxRefIdeal.main_arg7) = m ((c.tc : Thread Cert.DxIdeal.nD Cert.DxIdeal.τ).loc Cert.DxIdeal.main_arg7)
      ∧ m' ((c.tc : Thread Cert.DxRefIdeal.nD Cert.DxRefIdeal.τ).loc Cert.DxRefIdeal.main_arg8) = m ((c.tc : Thread Cert.DxIdeal.nD Cert.DxIdeal.τ).loc Cert.DxIdeal.main_arg8)
      ∧ m' ((c.tc : Thread Cert.DxRefIdeal.nD Cert.DxRefIdeal.τ).loc Cert.DxRefIdeal.main_arg9) = m ((c.tc : Thread Cert.DxIdeal.nD Cert.DxIdeal.τ).loc Cert.DxIdeal.main_arg9)
      ∧ m' ((c.tc : Thread Cert.DxRefIdeal.nD Cert.DxRefIdeal.τ).loc Cert.DxRefIdeal.main_arg10) = m ((c.tc : Thread Cert.DxIdeal.nD Cert.DxIdeal.τ).loc Cert.DxIdeal.main_arg10)
      ∧ m' ((c.tc : Thread Cert.DxRefIdeal.nD Cert.DxRefIdeal.τ).loc Cert.DxRefIdeal.main_arg11) = m ((c.tc : Thread Cert.DxIdeal.nD Cert.DxIdeal.τ).loc Cert.DxIdeal.main_arg11)
      ∧ m' ((c.tc : Thread Cert.DxRefIdeal.nD Cert.DxRefIdeal.τ).loc Cert.DxRefIdeal.main_arg12) = m ((c.tc : Thread Cert.DxIdeal.nD Cert.DxIdeal.τ).loc Cert.DxIdeal.main_arg12)
      ∧ m' ((c.tc : Thread Cert.DxRefIdeal.nD Cert.DxRefIdeal.τ).loc Cert.DxRefIdeal.main_arg13) = m ((c.tc : Thread Cert.DxIdeal.nD Cert.DxIdeal.τ).loc Cert.DxIdeal.main_arg13)) →
    ∃ (v0 : (c : Dev Cert.DxIdeal.nD) → Buf (Elt Ideal) ((c.tc : Thread Cert.DxIdeal.nD Cert.DxIdeal.τ).loc Cert.DxIdeal.main_v13_0)) (v1 : (c : Dev Cert.DxIdeal.nD) → Buf (Elt Ideal) ((c.tc : Thread Cert.DxIdeal.nD Cert.DxIdeal.τ).loc Cert.DxIdeal.main_v14)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v13_0) = v0 c
          ∧ r.2.mem ((c.tc : Thread Cert.DxIdeal.nD Cert.DxIdeal.τ).loc Cert.DxIdeal.main_v14) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
          ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
          ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
          ∧ r.2.mem ((c.tc : Thread Cert.DxIdeal.nD Cert.DxIdeal.τ).loc Cert.DxIdeal.main_arg9) = m ((c.tc : Thread Cert.DxIdeal.nD Cert.DxIdeal.τ).loc Cert.DxIdeal.main_arg9)
          ∧ r.2.mem ((c.tc : Thread Cert.DxIdeal.nD Cert.DxIdeal.τ).loc Cert.DxIdeal.main_arg10) = m ((c.tc : Thread Cert.DxIdeal.nD Cert.DxIdeal.τ).loc Cert.DxIdeal.main_arg10)
          ∧ r.2.mem ((c.tc : Thread Cert.DxIdeal.nD Cert.DxIdeal.τ).loc Cert.DxIdeal.main_arg11) = m ((c.tc : Thread Cert.DxIdeal.nD Cert.DxIdeal.τ).loc Cert.DxIdeal.main_arg11)
          ∧ r.2.mem ((c.tc : Thread Cert.DxIdeal.nD Cert.DxIdeal.τ).loc Cert.DxIdeal.main_arg12) = m ((c.tc : Thread Cert.DxIdeal.nD Cert.DxIdeal.τ).loc Cert.DxIdeal.main_arg12)
          ∧ r.2.mem ((c.tc : Thread Cert.DxIdeal.nD Cert.DxIdeal.τ).loc Cert.DxIdeal.main_arg13) = m ((c.tc : Thread Cert.DxIdeal.nD Cert.DxIdeal.τ).loc Cert.DxIdeal.main_arg13))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v11_0) = v0 c
          ∧ r.2.mem ((c.tc : Thread Cert.DxRefIdeal.nD Cert.DxRefIdeal.τ).loc Cert.DxRefIdeal.main_v11_1) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6)
          ∧ r.2.mem ((c.tc : Thread Cert.DxRefIdeal.nD Cert.DxRefIdeal.τ).loc Cert.DxRefIdeal.main_arg7) = m' ((c.tc : Thread Cert.DxRefIdeal.nD Cert.DxRefIdeal.τ).loc Cert.DxRefIdeal.main_arg7)
          ∧ r.2.mem ((c.tc : Thread Cert.DxRefIdeal.nD Cert.DxRefIdeal.τ).loc Cert.DxRefIdeal.main_arg8) = m' ((c.tc : Thread Cert.DxRefIdeal.nD Cert.DxRefIdeal.τ).loc Cert.DxRefIdeal.main_arg8)
          ∧ r.2.mem ((c.tc : Thread Cert.DxRefIdeal.nD Cert.DxRefIdeal.τ).loc Cert.DxRefIdeal.main_arg9) = m' ((c.tc : Thread Cert.DxRefIdeal.nD Cert.DxRefIdeal.τ).loc Cert.DxRefIdeal.main_arg9)
          ∧ r.2.mem ((c.tc : Thread Cert.DxRefIdeal.nD Cert.DxRefIdeal.τ).loc Cert.DxRefIdeal.main_arg10) = m' ((c.tc : Thread Cert.DxRefIdeal.nD Cert.DxRefIdeal.τ).loc Cert.DxRefIdeal.main_arg10)
          ∧ r.2.mem ((c.tc : Thread Cert.DxRefIdeal.nD Cert.DxRefIdeal.τ).loc Cert.DxRefIdeal.main_arg11) = m' ((c.tc : Thread Cert.DxRefIdeal.nD Cert.DxRefIdeal.τ).loc Cert.DxRefIdeal.main_arg11)
          ∧ r.2.mem ((c.tc : Thread Cert.DxRefIdeal.nD Cert.DxRefIdeal.τ).loc Cert.DxRefIdeal.main_arg12) = m' ((c.tc : Thread Cert.DxRefIdeal.nD Cert.DxRefIdeal.τ).loc Cert.DxRefIdeal.main_arg12)
          ∧ r.2.mem ((c.tc : Thread Cert.DxRefIdeal.nD Cert.DxRefIdeal.τ).loc Cert.DxRefIdeal.main_arg13) = m' ((c.tc : Thread Cert.DxRefIdeal.nD Cert.DxRefIdeal.τ).loc Cert.DxRefIdeal.main_arg13))

def preserves_Da_DaIdeal : Prop :=
  IdealRules.named_const.Statement Cert.DaIdeal.κ "inv_max" .f32 0x37924925#32 ((1 / 57344 : ℝ) : EReal)
  ∧ IdealRules.named_const.Statement Cert.DaIdeal.κ "ln2" .f32 0x3F317218#32 ((Real.log 2 : ℝ) : EReal)
  ∧ IdealRules.named_const.Statement Cert.DaIdeal.κ "gelu_ca" .f32 0x3D122279#32 ((35677408136300126361 / 1000000000000000000000 : ℝ) : EReal)
  ∧ IdealRules.named_const.Statement Cert.DaIdeal.κ "gelu_c" .f32 0x3F4C422A#32 ((3989422804014327 / 5000000000000000 : ℝ) : EReal)
  ∧ IdealRules.named_const.Statement Cert.DaIdeal.κ "ca_15" .f32 0x3D5B33B6#32 ((107032224408900379083 / 2000000000000000000000 : ℝ) : EReal)
  ∧ IdealRules.named_const.Statement Cert.DaIdeal.κ "half_c" .f32 0x3ECC422A#32 ((3989422804014327 / 10000000000000000 : ℝ) : EReal)

def algebraic_DaIdeal_DaRefIdeal [hDaIdeal : Cert.DaIdeal.Facts] [hDaRefIdeal : Cert.DaRefIdeal.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)
      ∧ m' ((c.tc : Thread Cert.DaRefIdeal.nD Cert.DaRefIdeal.τ).loc Cert.DaRefIdeal.main_arg2) = m ((c.tc : Thread Cert.DaIdeal.nD Cert.DaIdeal.τ).loc Cert.DaIdeal.main_arg2)
      ∧ m' ((c.tc : Thread Cert.DaRefIdeal.nD Cert.DaRefIdeal.τ).loc Cert.DaRefIdeal.main_arg3) = m ((c.tc : Thread Cert.DaIdeal.nD Cert.DaIdeal.τ).loc Cert.DaIdeal.main_arg3)
      ∧ m' ((c.tc : Thread Cert.DaRefIdeal.nD Cert.DaRefIdeal.τ).loc Cert.DaRefIdeal.main_arg4) = m ((c.tc : Thread Cert.DaIdeal.nD Cert.DaIdeal.τ).loc Cert.DaIdeal.main_arg4)
      ∧ m' ((c.tc : Thread Cert.DaRefIdeal.nD Cert.DaRefIdeal.τ).loc Cert.DaRefIdeal.main_arg5) = m ((c.tc : Thread Cert.DaIdeal.nD Cert.DaIdeal.τ).loc Cert.DaIdeal.main_arg5)) →
    ∃ (v0 : (c : Dev Cert.DaIdeal.nD) → Buf (Elt Ideal) ((c.tc : Thread Cert.DaIdeal.nD Cert.DaIdeal.τ).loc Cert.DaIdeal.main_v6_0)) (v1 : (c : Dev Cert.DaIdeal.nD) → Buf (Elt Ideal) ((c.tc : Thread Cert.DaIdeal.nD Cert.DaIdeal.τ).loc Cert.DaIdeal.main_v6_1)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v6_0) = v0 c
          ∧ r.2.mem ((c.tc : Thread Cert.DaIdeal.nD Cert.DaIdeal.τ).loc Cert.DaIdeal.main_v6_1) = v1 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
          ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
          ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
          ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
          ∧ r.2.mem ((c.tc : Thread Cert.DaIdeal.nD Cert.DaIdeal.τ).loc Cert.DaIdeal.main_arg5) = m ((c.tc : Thread Cert.DaIdeal.nD Cert.DaIdeal.τ).loc Cert.DaIdeal.main_arg5))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v5_0) = v0 c
          ∧ r.2.mem ((c.tc : Thread Cert.DaRefIdeal.nD Cert.DaRefIdeal.τ).loc Cert.DaRefIdeal.main_v5_1) = v1 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1)
          ∧ r.2.mem ((c.tc : Thread Cert.DaRefIdeal.nD Cert.DaRefIdeal.τ).loc Cert.DaRefIdeal.main_arg2) = m' ((c.tc : Thread Cert.DaRefIdeal.nD Cert.DaRefIdeal.τ).loc Cert.DaRefIdeal.main_arg2)
          ∧ r.2.mem ((c.tc : Thread Cert.DaRefIdeal.nD Cert.DaRefIdeal.τ).loc Cert.DaRefIdeal.main_arg3) = m' ((c.tc : Thread Cert.DaRefIdeal.nD Cert.DaRefIdeal.τ).loc Cert.DaRefIdeal.main_arg3)
          ∧ r.2.mem ((c.tc : Thread Cert.DaRefIdeal.nD Cert.DaRefIdeal.τ).loc Cert.DaRefIdeal.main_arg4) = m' ((c.tc : Thread Cert.DaRefIdeal.nD Cert.DaRefIdeal.τ).loc Cert.DaRefIdeal.main_arg4)
          ∧ r.2.mem ((c.tc : Thread Cert.DaRefIdeal.nD Cert.DaRefIdeal.τ).loc Cert.DaRefIdeal.main_arg5) = m' ((c.tc : Thread Cert.DaRefIdeal.nD Cert.DaRefIdeal.τ).loc Cert.DaRefIdeal.main_arg5))

def Claim : Prop :=
  ∃ (hDwOut : Cert.DwOut.Facts) (hDwOutIdeal : Cert.DwOutIdeal.Facts) (hDwOutRefIdeal : Cert.DwOutRefIdeal.Facts) (hDwIn : Cert.DwIn.Facts) (hDwInIdeal : Cert.DwInIdeal.Facts) (hDwInRefIdeal : Cert.DwInRefIdeal.Facts) (hDwQkv : Cert.DwQkv.Facts) (hDwQkvIdeal : Cert.DwQkvIdeal.Facts) (hDwQkvRefIdeal : Cert.DwQkvRefIdeal.Facts) (hDx : Cert.Dx.Facts) (hDxIdeal : Cert.DxIdeal.Facts) (hDxRefIdeal : Cert.DxRefIdeal.Facts) (hDa : Cert.Da.Facts) (hDaIdeal : Cert.DaIdeal.Facts) (hDaRefIdeal : Cert.DaRefIdeal.Facts) (hPre_gamma_nonneg_in : Cert.Pre_gamma_nonneg_in.Facts) (hPre_gamma_nonneg_qkv : Cert.Pre_gamma_nonneg_qkv.Facts) (hPre_scales_nonneg : Cert.Pre_scales_nonneg.Facts),
    quiescent_DwOut (hDwOut := hDwOut)
    ∧ quiescent_DwOutIdeal (hDwOutIdeal := hDwOutIdeal)
    ∧ quiescent_DwOutRefIdeal (hDwOutRefIdeal := hDwOutRefIdeal)
    ∧ quiescent_DwIn (hDwIn := hDwIn)
    ∧ quiescent_DwInIdeal (hDwInIdeal := hDwInIdeal)
    ∧ quiescent_DwInIdeal_pre_gamma_nonneg_in (hDwInIdeal := hDwInIdeal) (hPre_gamma_nonneg_in := hPre_gamma_nonneg_in)
    ∧ quiescent_DwInRefIdeal (hDwInRefIdeal := hDwInRefIdeal)
    ∧ quiescent_DwInRefIdeal_pre_gamma_nonneg_in (hDwInRefIdeal := hDwInRefIdeal) (hPre_gamma_nonneg_in := hPre_gamma_nonneg_in)
    ∧ quiescent_DwQkv (hDwQkv := hDwQkv)
    ∧ quiescent_DwQkvIdeal (hDwQkvIdeal := hDwQkvIdeal)
    ∧ quiescent_DwQkvIdeal_pre_gamma_nonneg_qkv (hDwQkvIdeal := hDwQkvIdeal) (hPre_gamma_nonneg_qkv := hPre_gamma_nonneg_qkv)
    ∧ quiescent_DwQkvRefIdeal (hDwQkvRefIdeal := hDwQkvRefIdeal)
    ∧ quiescent_DwQkvRefIdeal_pre_gamma_nonneg_qkv (hDwQkvRefIdeal := hDwQkvRefIdeal) (hPre_gamma_nonneg_qkv := hPre_gamma_nonneg_qkv)
    ∧ quiescent_Dx (hDx := hDx)
    ∧ quiescent_DxIdeal (hDxIdeal := hDxIdeal)
    ∧ quiescent_DxIdeal_pre_scales_nonneg (hDxIdeal := hDxIdeal) (hPre_scales_nonneg := hPre_scales_nonneg)
    ∧ quiescent_DxRefIdeal (hDxRefIdeal := hDxRefIdeal)
    ∧ quiescent_DxRefIdeal_pre_scales_nonneg (hDxRefIdeal := hDxRefIdeal) (hPre_scales_nonneg := hPre_scales_nonneg)
    ∧ quiescent_Da (hDa := hDa)
    ∧ quiescent_DaIdeal (hDaIdeal := hDaIdeal)
    ∧ quiescent_DaRefIdeal (hDaRefIdeal := hDaRefIdeal)
    ∧ preserves_DwOut_DwOutIdeal
    ∧ algebraic_DwOutIdeal_DwOutRefIdeal (hDwOutIdeal := hDwOutIdeal) (hDwOutRefIdeal := hDwOutRefIdeal)
    ∧ preserves_DwIn_DwInIdeal
    ∧ algebraic_DwInIdeal_DwInRefIdeal_pre_gamma_nonneg_in (hDwInIdeal := hDwInIdeal) (hDwInRefIdeal := hDwInRefIdeal) (hPre_gamma_nonneg_in := hPre_gamma_nonneg_in)
    ∧ preserves_DwQkv_DwQkvIdeal
    ∧ algebraic_DwQkvIdeal_DwQkvRefIdeal_pre_gamma_nonneg_qkv (hDwQkvIdeal := hDwQkvIdeal) (hDwQkvRefIdeal := hDwQkvRefIdeal) (hPre_gamma_nonneg_qkv := hPre_gamma_nonneg_qkv)
    ∧ preserves_Dx_DxIdeal
    ∧ algebraic_DxIdeal_DxRefIdeal_pre_scales_nonneg (hDxIdeal := hDxIdeal) (hDxRefIdeal := hDxRefIdeal) (hPre_scales_nonneg := hPre_scales_nonneg)
    ∧ preserves_Da_DaIdeal
    ∧ algebraic_DaIdeal_DaRefIdeal (hDaIdeal := hDaIdeal) (hDaRefIdeal := hDaRefIdeal)
-- ==== Pre_gamma_nonneg_in.lean ====
abbrev S8x2048x3072 : Shape := ⟨3, ![8, 2048, 3072]⟩
abbrev S8x2048 : Shape := ⟨2, ![8, 2048]⟩
abbrev S16384x8192 : Shape := ⟨2, ![16384, 8192]⟩
abbrev S16384x1 : Shape := ⟨2, ![16384, 1]⟩
abbrev S3072 : Shape := ⟨1, ![3072]⟩
abbrev S3072x8192 : Shape := ⟨2, ![3072, 8192]⟩
abbrev S_ : Shape := ⟨0, ![]⟩

class Facts : Prop where
  bcast_S_S8x2048x3072 : S_.BroadcastsInDim S8x2048x3072 (![] : Fin 0 → Fin S8x2048x3072.rank)
  bcast_S_S8x2048 : S_.BroadcastsInDim S8x2048 (![] : Fin 0 → Fin S8x2048.rank)
  bcast_S_S16384x8192 : S_.BroadcastsInDim S16384x8192 (![] : Fin 0 → Fin S16384x8192.rank)
  bcast_S_S16384x1 : S_.BroadcastsInDim S16384x1 (![] : Fin 0 → Fin S16384x1.rank)
  bcast_S_S3072 : S_.BroadcastsInDim S3072 (![] : Fin 0 → Fin S3072.rank)
  bcast_S_S3072x8192 : S_.BroadcastsInDim S3072x8192 (![] : Fin 0 → Fin S3072x8192.rank)

variable [Facts]

def fn {F : FTy → Type} [FloatOps F] (main_arg0 : FVec F S8x2048x3072 .fp8e4m3) (main_arg1 : FVec F S8x2048 .f32) (main_arg2 : FVec F S16384x8192 .fp8e5m2) (main_arg3 : FVec F S16384x1 .f32) (main_arg4 : FVec F S3072 .f32) (main_arg5 : FVec F S3072x8192 .f32) : IVec S8x2048x3072 1 × IVec S8x2048 1 × IVec S16384x8192 1 × IVec S16384x1 1 × IVec S3072 1 × IVec S3072x8192 1 :=
  let main_c : IVec S_ 1 := constantI S_ 1 1#1
  let main_v0 : IVec S8x2048x3072 1 := broadcastInDim S8x2048x3072 ![] bcast_S_S8x2048x3072 main_c
  let main_c_0 : IVec S_ 1 := constantI S_ 1 1#1
  let main_v1 : IVec S8x2048 1 := broadcastInDim S8x2048 ![] bcast_S_S8x2048 main_c_0
  let main_c_1 : IVec S_ 1 := constantI S_ 1 1#1
  let main_v2 : IVec S16384x8192 1 := broadcastInDim S16384x8192 ![] bcast_S_S16384x8192 main_c_1
  let main_c_2 : IVec S_ 1 := constantI S_ 1 1#1
  let main_v3 : IVec S16384x1 1 := broadcastInDim S16384x1 ![] bcast_S_S16384x1 main_c_2
  let main_cst : FVec F S_ .f32 := constant S_ .f32 0x00000000#32
  let main_v4 : FVec F S3072 .f32 := broadcastInDim S3072 ![] bcast_S_S3072 main_cst
  let main_v5 : IVec S3072 1 := cmpf .oge main_arg4 main_v4
  let main_cst_3 : FVec F S_ .f32 := constant S_ .f32 0x7F800000#32
  let main_v6 : FVec F S3072 .f32 := broadcastInDim S3072 ![] bcast_S_S3072 main_cst_3
  let main_v7 : IVec S3072 1 := cmpf .olt main_arg4 main_v6
  let main_v8 : IVec S3072 1 := andi main_v5 main_v7
  let main_c_4 : IVec S_ 1 := constantI S_ 1 1#1
  let main_v9 : IVec S3072x8192 1 := broadcastInDim S3072x8192 ![] bcast_S_S3072x8192 main_c_4
  (main_v0, main_v1, main_v2, main_v3, main_v8, main_v9)
-- ==== Pre_gamma_nonneg_qkv.lean ====
abbrev S8x2048x3072 : Shape := ⟨3, ![8, 2048, 3072]⟩
abbrev S8x2048 : Shape := ⟨2, ![8, 2048]⟩
abbrev S8x2048x3x24x128 : Shape := ⟨5, ![8, 2048, 3, 24, 128]⟩
abbrev S3072 : Shape := ⟨1, ![3072]⟩
abbrev S3072x3x24x128 : Shape := ⟨4, ![3072, 3, 24, 128]⟩
abbrev S_ : Shape := ⟨0, ![]⟩

class Facts : Prop where
  bcast_S_S8x2048x3072 : S_.BroadcastsInDim S8x2048x3072 (![] : Fin 0 → Fin S8x2048x3072.rank)
  bcast_S_S8x2048 : S_.BroadcastsInDim S8x2048 (![] : Fin 0 → Fin S8x2048.rank)
  bcast_S_S8x2048x3x24x128 : S_.BroadcastsInDim S8x2048x3x24x128 (![] : Fin 0 → Fin S8x2048x3x24x128.rank)
  bcast_S_S3072 : S_.BroadcastsInDim S3072 (![] : Fin 0 → Fin S3072.rank)
  bcast_S_S3072x3x24x128 : S_.BroadcastsInDim S3072x3x24x128 (![] : Fin 0 → Fin S3072x3x24x128.rank)

variable [Facts]

def fn {F : FTy → Type} [FloatOps F] (main_arg0 : FVec F S8x2048x3072 .fp8e4m3) (main_arg1 : FVec F S8x2048 .f32) (main_arg2 : FVec F S8x2048x3x24x128 .fp8e5m2) (main_arg3 : FVec F S8x2048 .f32) (main_arg4 : FVec F S3072 .f32) (main_arg5 : FVec F S3072x3x24x128 .f32) : IVec S8x2048x3072 1 × IVec S8x2048 1 × IVec S8x2048x3x24x128 1 × IVec S8x2048 1 × IVec S3072 1 × IVec S3072x3x24x128 1 :=
  let main_c : IVec S_ 1 := constantI S_ 1 1#1
  let main_v0 : IVec S8x2048x3072 1 := broadcastInDim S8x2048x3072 ![] bcast_S_S8x2048x3072 main_c
  let main_c_0 : IVec S_ 1 := constantI S_ 1 1#1
  let main_v1 : IVec S8x2048 1 := broadcastInDim S8x2048 ![] bcast_S_S8x2048 main_c_0
  let main_c_1 : IVec S_ 1 := constantI S_ 1 1#1
  let main_v2 : IVec S8x2048x3x24x128 1 := broadcastInDim S8x2048x3x24x128 ![] bcast_S_S8x2048x3x24x128 main_c_1
  let main_c_2 : IVec S_ 1 := constantI S_ 1 1#1
  let main_v3 : IVec S8x2048 1 := broadcastInDim S8x2048 ![] bcast_S_S8x2048 main_c_2
  let main_cst : FVec F S_ .f32 := constant S_ .f32 0x00000000#32
  let main_v4 : FVec F S3072 .f32 := broadcastInDim S3072 ![] bcast_S_S3072 main_cst
  let main_v5 : IVec S3072 1 := cmpf .oge main_arg4 main_v4
  let main_cst_3 : FVec F S_ .f32 := constant S_ .f32 0x7F800000#32
  let main_v6 : FVec F S3072 .f32 := broadcastInDim S3072 ![] bcast_S_S3072 main_cst_3
  let main_v7 : IVec S3072 1 := cmpf .olt main_arg4 main_v6
  let main_v8 : IVec S3072 1 := andi main_v5 main_v7
  let main_c_4 : IVec S_ 1 := constantI S_ 1 1#1
  let main_v9 : IVec S3072x3x24x128 1 := broadcastInDim S3072x3x24x128 ![] bcast_S_S3072x3x24x128 main_c_4
  (main_v0, main_v1, main_v2, main_v3, main_v8, main_v9)
-- ==== Pre_scales_nonneg.lean ====
abbrev S8x2048x3072 : Shape := ⟨3, ![8, 2048, 3072]⟩
abbrev S8x2048 : Shape := ⟨2, ![8, 2048]⟩
abbrev S8x2048x3x24x128 : Shape := ⟨5, ![8, 2048, 3, 24, 128]⟩
abbrev S3072 : Shape := ⟨1, ![3072]⟩
abbrev S16384x8192 : Shape := ⟨2, ![16384, 8192]⟩
abbrev S16384x1 : Shape := ⟨2, ![16384, 1]⟩
abbrev S3072x8192 : Shape := ⟨2, ![3072, 8192]⟩
abbrev S8192 : Shape := ⟨1, ![8192]⟩
abbrev S3072x3x24x128 : Shape := ⟨4, ![3072, 3, 24, 128]⟩
abbrev S3x24x128 : Shape := ⟨3, ![3, 24, 128]⟩
abbrev S_ : Shape := ⟨0, ![]⟩

class Facts : Prop where
  bcast_S_S8x2048x3072 : S_.BroadcastsInDim S8x2048x3072 (![] : Fin 0 → Fin S8x2048x3072.rank)
  bcast_S_S8x2048 : S_.BroadcastsInDim S8x2048 (![] : Fin 0 → Fin S8x2048.rank)
  bcast_S_S8x2048x3x24x128 : S_.BroadcastsInDim S8x2048x3x24x128 (![] : Fin 0 → Fin S8x2048x3x24x128.rank)
  bcast_S_S3072 : S_.BroadcastsInDim S3072 (![] : Fin 0 → Fin S3072.rank)
  bcast_S_S16384x8192 : S_.BroadcastsInDim S16384x8192 (![] : Fin 0 → Fin S16384x8192.rank)
  bcast_S_S16384x1 : S_.BroadcastsInDim S16384x1 (![] : Fin 0 → Fin S16384x1.rank)
  bcast_S_S3072x8192 : S_.BroadcastsInDim S3072x8192 (![] : Fin 0 → Fin S3072x8192.rank)
  bcast_S_S8192 : S_.BroadcastsInDim S8192 (![] : Fin 0 → Fin S8192.rank)
  bcast_S_S3072x3x24x128 : S_.BroadcastsInDim S3072x3x24x128 (![] : Fin 0 → Fin S3072x3x24x128.rank)
  bcast_S_S3x24x128 : S_.BroadcastsInDim S3x24x128 (![] : Fin 0 → Fin S3x24x128.rank)

variable [Facts]

def fn_part1 {F : FTy → Type} [FloatOps F] (main_arg9 : FVec F S16384x1 .f32) (main_v0 : IVec S8x2048x3072 1) (main_v1 : IVec S8x2048 1) (main_v2 : IVec S8x2048x3x24x128 1) (main_v7 : IVec S8x2048 1) (main_v8 : IVec S8x2048x3072 1) (main_v9 : IVec S8x2048 1) (main_v10 : IVec S8x2048 1) (main_v11 : IVec S3072 1) (main_v12 : IVec S16384x8192 1) (main_cst_8 : FVec F S_ .f32) : IVec S8x2048x3072 1 × IVec S8x2048 1 × IVec S8x2048x3x24x128 1 × IVec S8x2048 1 × IVec S8x2048x3072 1 × IVec S8x2048 1 × IVec S8x2048 1 × IVec S3072 1 × IVec S16384x8192 1 × IVec S16384x1 1 × IVec S3072x8192 1 × IVec S8192 1 × IVec S3072x3x24x128 1 × IVec S3x24x128 1 :=
  let main_v13 : FVec F S16384x1 .f32 := broadcastInDim S16384x1 ![] bcast_S_S16384x1 main_cst_8
  let main_v14 : IVec S16384x1 1 := cmpf .oge main_arg9 main_v13
  let main_cst_9 : FVec F S_ .f32 := constant S_ .f32 0x7F800000#32
  let main_v15 : FVec F S16384x1 .f32 := broadcastInDim S16384x1 ![] bcast_S_S16384x1 main_cst_9
  let main_v16 : IVec S16384x1 1 := cmpf .olt main_arg9 main_v15
  let main_v17 : IVec S16384x1 1 := andi main_v14 main_v16
  let main_c_10 : IVec S_ 1 := constantI S_ 1 1#1
  let main_v18 : IVec S3072x8192 1 := broadcastInDim S3072x8192 ![] bcast_S_S3072x8192 main_c_10
  let main_c_11 : IVec S_ 1 := constantI S_ 1 1#1
  let main_v19 : IVec S8192 1 := broadcastInDim S8192 ![] bcast_S_S8192 main_c_11
  let main_c_12 : IVec S_ 1 := constantI S_ 1 1#1
  let main_v20 : IVec S3072x3x24x128 1 := broadcastInDim S3072x3x24x128 ![] bcast_S_S3072x3x24x128 main_c_12
  let main_c_13 : IVec S_ 1 := constantI S_ 1 1#1
  let main_v21 : IVec S3x24x128 1 := broadcastInDim S3x24x128 ![] bcast_S_S3x24x128 main_c_13
  (main_v0, main_v1, main_v2, main_v7, main_v8, main_v9, main_v10, main_v11, main_v12, main_v17, main_v18, main_v19, main_v20, main_v21)

def fn {F : FTy → Type} [FloatOps F] (main_arg0 : FVec F S8x2048x3072 .fp8e5m2) (main_arg1 : FVec F S8x2048 .f32) (main_arg2 : FVec F S8x2048x3x24x128 .fp8e5m2) (main_arg3 : FVec F S8x2048 .f32) (main_arg4 : FVec F S8x2048x3072 .fp8e4m3) (main_arg5 : FVec F S8x2048 .f32) (main_arg6 : FVec F S8x2048 .f32) (main_arg7 : FVec F S3072 .f32) (main_arg8 : FVec F S16384x8192 .fp8e5m2) (main_arg9 : FVec F S16384x1 .f32) (main_arg10 : FVec F S3072x8192 .fp8e4m3) (main_arg11 : FVec F S8192 .f32) (main_arg12 : FVec F S3072x3x24x128 .fp8e4m3) (main_arg13 : FVec F S3x24x128 .f32) : IVec S8x2048x3072 1 × IVec S8x2048 1 × IVec S8x2048x3x24x128 1 × IVec S8x2048 1 × IVec S8x2048x3072 1 × IVec S8x2048 1 × IVec S8x2048 1 × IVec S3072 1 × IVec S16384x8192 1 × IVec S16384x1 1 × IVec S3072x8192 1 × IVec S8192 1 × IVec S3072x3x24x128 1 × IVec S3x24x128 1 :=
  let main_c : IVec S_ 1 := constantI S_ 1 1#1
  let main_v0 : IVec S8x2048x3072 1 := broadcastInDim S8x2048x3072 ![] bcast_S_S8x2048x3072 main_c
  let main_c_0 : IVec S_ 1 := constantI S_ 1 1#1
  let main_v1 : IVec S8x2048 1 := broadcastInDim S8x2048 ![] bcast_S_S8x2048 main_c_0
  let main_c_1 : IVec S_ 1 := constantI S_ 1 1#1
  let main_v2 : IVec S8x2048x3x24x128 1 := broadcastInDim S8x2048x3x24x128 ![] bcast_S_S8x2048x3x24x128 main_c_1
  let main_cst : FVec F S_ .f32 := constant S_ .f32 0x00000000#32
  let main_v3 : FVec F S8x2048 .f32 := broadcastInDim S8x2048 ![] bcast_S_S8x2048 main_cst
  let main_v4 : IVec S8x2048 1 := cmpf .oge main_arg3 main_v3
  let main_cst_2 : FVec F S_ .f32 := constant S_ .f32 0x7F800000#32
  let main_v5 : FVec F S8x2048 .f32 := broadcastInDim S8x2048 ![] bcast_S_S8x2048 main_cst_2
  let main_v6 : IVec S8x2048 1 := cmpf .olt main_arg3 main_v5
  let main_v7 : IVec S8x2048 1 := andi main_v4 main_v6
  let main_c_3 : IVec S_ 1 := constantI S_ 1 1#1
  let main_v8 : IVec S8x2048x3072 1 := broadcastInDim S8x2048x3072 ![] bcast_S_S8x2048x3072 main_c_3
  let main_c_4 : IVec S_ 1 := constantI S_ 1 1#1
  let main_v9 : IVec S8x2048 1 := broadcastInDim S8x2048 ![] bcast_S_S8x2048 main_c_4
  let main_c_5 : IVec S_ 1 := constantI S_ 1 1#1
  let main_v10 : IVec S8x2048 1 := broadcastInDim S8x2048 ![] bcast_S_S8x2048 main_c_5
  let main_c_6 : IVec S_ 1 := constantI S_ 1 1#1
  let main_v11 : IVec S3072 1 := broadcastInDim S3072 ![] bcast_S_S3072 main_c_6
  let main_c_7 : IVec S_ 1 := constantI S_ 1 1#1
  let main_v12 : IVec S16384x8192 1 := broadcastInDim S16384x8192 ![] bcast_S_S16384x8192 main_c_7
  let main_cst_8 : FVec F S_ .f32 := constant S_ .f32 0x00000000#32
  fn_part1 (F := F) main_arg9 main_v0 main_v1 main_v2 main_v7 main_v8 main_v9 main_v10 main_v11 main_v12 main_cst_8
-- ==== DwOut.lean ====
abbrev S8x2048x3072 : Shape := ⟨3, ![8, 2048, 3072]⟩
abbrev S8x2048 : Shape := ⟨2, ![8, 2048]⟩
abbrev S8x2048x8192 : Shape := ⟨3, ![8, 2048, 8192]⟩
abbrev S8192x3072 : Shape := ⟨2, ![8192, 3072]⟩
abbrev S16384x3072 : Shape := ⟨2, ![16384, 3072]⟩
abbrev S16384x8192 : Shape := ⟨2, ![16384, 8192]⟩
abbrev S16384x1 : Shape := ⟨2, ![16384, 1]⟩
abbrev S_ : Shape := ⟨0, ![]⟩
abbrev S8192x1 : Shape := ⟨2, ![8192, 1]⟩
abbrev S1024x1024 : Shape := ⟨2, ![1024, 1024]⟩
abbrev S1024x1 : Shape := ⟨2, ![1024, 1]⟩
abbrev S1024x1536 : Shape := ⟨2, ![1024, 1536]⟩

abbrev nBuf : Space → Nat
  | .hbm => 12
  | .vmem => 12
  | .smem => 0
  | _ => 0

abbrev bufTy : (tb : Table) → Fin (tcTables nBuf tb) → BufTy
  | .hbm, ⟨0, _⟩ => ⟨S8x2048x3072, .fp8e5m2⟩
  | .hbm, ⟨1, _⟩ => ⟨S8x2048, .f32⟩
  | .hbm, ⟨2, _⟩ => ⟨S8x2048x8192, .fp8e4m3⟩
  | .hbm, ⟨3, _⟩ => ⟨S8x2048, .f32⟩
  | .hbm, ⟨4, _⟩ => ⟨S8192x3072, .f32⟩
  | .hbm, ⟨5, _⟩ => ⟨S16384x3072, .fp8e5m2⟩
  | .hbm, ⟨6, _⟩ => ⟨S16384x8192, .fp8e4m3⟩
  | .hbm, ⟨7, _⟩ => ⟨S8x2048, .f32⟩
  | .hbm, ⟨8, _⟩ => ⟨S16384x1, .f32⟩
  | .hbm, ⟨9, _⟩ => ⟨S_, .f32⟩
  | .hbm, ⟨10, _⟩ => ⟨S8192x1, .f32⟩
  | .hbm, ⟨11, _⟩ => ⟨S8192x3072, .f32⟩
  | .local _ .vmem, ⟨0, _⟩ => ⟨S1024x1024, .fp8e4m3⟩
  | .local _ .vmem, ⟨1, _⟩ => ⟨S1024x1024, .fp8e4m3⟩
  | .local _ .vmem, ⟨2, _⟩ => ⟨S1024x1, .f32⟩
  | .local _ .vmem, ⟨3, _⟩ => ⟨S1024x1, .f32⟩
  | .local _ .vmem, ⟨4, _⟩ => ⟨S1024x1536, .fp8e5m2⟩
  | .local _ .vmem, ⟨5, _⟩ => ⟨S1024x1536, .fp8e5m2⟩
  | .local _ .vmem, ⟨6, _⟩ => ⟨S1024x1536, .f32⟩
  | .local _ .vmem, ⟨7, _⟩ => ⟨S1024x1536, .f32⟩
  | .local _ .vmem, ⟨8, _⟩ => ⟨S1024x1, .f32⟩
  | .local _ .vmem, ⟨9, _⟩ => ⟨S1024x1, .f32⟩
  | .local _ .vmem, ⟨10, _⟩ => ⟨S1024x1536, .f32⟩
  | .local _ .vmem, ⟨11, _⟩ => ⟨S1024x1536, .f32⟩
  | _, _ => ⟨S8x2048x3072, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1536 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DwOutRefIdeal.lean ====
abbrev S8x2048x3072 : Shape := ⟨3, ![8, 2048, 3072]⟩
abbrev S8x2048 : Shape := ⟨2, ![8, 2048]⟩
abbrev S8x2048x8192 : Shape := ⟨3, ![8, 2048, 8192]⟩
abbrev S8192x3072 : Shape := ⟨2, ![8192, 3072]⟩
abbrev S16384x3072 : Shape := ⟨2, ![16384, 3072]⟩
abbrev S16384x1 : Shape := ⟨2, ![16384, 1]⟩
abbrev S16384x8192 : Shape := ⟨2, ![16384, 8192]⟩

abbrev nBuf : Space → Nat
  | .hbm => 10
  | .vmem => 6
  | .smem => 0
  | _ => 0

abbrev bufTy : (tb : Table) → Fin (tcTables nBuf tb) → BufTy
  | .hbm, ⟨0, _⟩ => ⟨S8x2048x3072, .fp8e5m2⟩
  | .hbm, ⟨1, _⟩ => ⟨S8x2048, .f32⟩
  | .hbm, ⟨2, _⟩ => ⟨S8x2048x8192, .fp8e4m3⟩
  | .hbm, ⟨3, _⟩ => ⟨S8x2048, .f32⟩
  | .hbm, ⟨4, _⟩ => ⟨S8192x3072, .f32⟩
  | .hbm, ⟨5, _⟩ => ⟨S16384x3072, .fp8e5m2⟩
  | .hbm, ⟨6, _⟩ => ⟨S16384x1, .f32⟩
  | .hbm, ⟨7, _⟩ => ⟨S16384x8192, .fp8e4m3⟩
  | .hbm, ⟨8, _⟩ => ⟨S16384x1, .f32⟩
  | .hbm, ⟨9, _⟩ => ⟨S8192x3072, .f32⟩
  | .local _ .vmem, ⟨0, _⟩ => ⟨S16384x3072, .fp8e5m2⟩
  | .local _ .vmem, ⟨1, _⟩ => ⟨S16384x1, .f32⟩
  | .local _ .vmem, ⟨2, _⟩ => ⟨S16384x8192, .fp8e4m3⟩
  | .local _ .vmem, ⟨3, _⟩ => ⟨S16384x1, .f32⟩
  | .local _ .vmem, ⟨4, _⟩ => ⟨S8192x3072, .f32⟩
  | .local _ .vmem, ⟨5, _⟩ => ⟨S8192x3072, .f32⟩
  | _, _ => ⟨S8x2048x3072, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x3072 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== DwIn.lean ====
abbrev S8x2048x3072 : Shape := ⟨3, ![8, 2048, 3072]⟩
abbrev S8x2048 : Shape := ⟨2, ![8, 2048]⟩
abbrev S16384x8192 : Shape := ⟨2, ![16384, 8192]⟩
abbrev S16384x1 : Shape := ⟨2, ![16384, 1]⟩
abbrev S3072 : Shape := ⟨1, ![3072]⟩
abbrev S3072x8192 : Shape := ⟨2, ![3072, 8192]⟩
abbrev S16384x3072 : Shape := ⟨2, ![16384, 3072]⟩
abbrev S3072x1 : Shape := ⟨2, ![3072, 1]⟩
abbrev S1024x1536 : Shape := ⟨2, ![1024, 1536]⟩
abbrev S1024x1 : Shape := ⟨2, ![1024, 1]⟩
abbrev S1024x1024 : Shape := ⟨2, ![1024, 1024]⟩
abbrev S1536x1024 : Shape := ⟨2, ![1536, 1024]⟩
abbrev S1536x1 : Shape := ⟨2, ![1536, 1]⟩

abbrev nBuf : Space → Nat
  | .hbm => 11
  | .vmem => 12
  | .smem => 0
  | _ => 0

abbrev bufTy : (tb : Table) → Fin (tcTables nBuf tb) → BufTy
  | .hbm, ⟨0, _⟩ => ⟨S8x2048x3072, .fp8e4m3⟩
  | .hbm, ⟨1, _⟩ => ⟨S8x2048, .f32⟩
  | .hbm, ⟨2, _⟩ => ⟨S16384x8192, .fp8e5m2⟩
  | .hbm, ⟨3, _⟩ => ⟨S16384x1, .f32⟩
  | .hbm, ⟨4, _⟩ => ⟨S3072, .f32⟩
  | .hbm, ⟨5, _⟩ => ⟨S3072x8192, .f32⟩
  | .hbm, ⟨6, _⟩ => ⟨S16384x3072, .fp8e4m3⟩
  | .hbm, ⟨7, _⟩ => ⟨S3072x1, .f32⟩
  | .hbm, ⟨8, _⟩ => ⟨S16384x1, .f32⟩
  | .hbm, ⟨9, _⟩ => ⟨S16384x1, .f32⟩
  | .hbm, ⟨10, _⟩ => ⟨S3072x8192, .f32⟩
  | .local _ .vmem, ⟨0, _⟩ => ⟨S1024x1536, .fp8e4m3⟩
  | .local _ .vmem, ⟨1, _⟩ => ⟨S1024x1536, .fp8e4m3⟩
  | .local _ .vmem, ⟨2, _⟩ => ⟨S1024x1, .f32⟩
  | .local _ .vmem, ⟨3, _⟩ => ⟨S1024x1, .f32⟩
  | .local _ .vmem, ⟨4, _⟩ => ⟨S1024x1024, .fp8e5m2⟩
  | .local _ .vmem, ⟨5, _⟩ => ⟨S1024x1024, .fp8e5m2⟩
  | .local _ .vmem, ⟨6, _⟩ => ⟨S1536x1024, .f32⟩
  | .local _ .vmem, ⟨7, _⟩ => ⟨S1536x1024, .f32⟩
  | .local _ .vmem, ⟨8, _⟩ => ⟨S1536x1, .f32⟩
  | .local _ .vmem, ⟨9, _⟩ => ⟨S1536x1, .f32⟩
  | .local _ .vmem, ⟨10, _⟩ => ⟨S1536x1024, .f32⟩
  | .local _ .vmem, ⟨11, _⟩ => ⟨S1536x1024, .f32⟩
  | _, _ => ⟨S8x2048x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1536x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1536x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1536x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DwInRefIdeal.lean ====
abbrev S8x2048x3072 : Shape := ⟨3, ![8, 2048, 3072]⟩
abbrev S8x2048 : Shape := ⟨2, ![8, 2048]⟩
abbrev S16384x8192 : Shape := ⟨2, ![16384, 8192]⟩
abbrev S16384x1 : Shape := ⟨2, ![16384, 1]⟩
abbrev S3072 : Shape := ⟨1, ![3072]⟩
abbrev S3072x8192 : Shape := ⟨2, ![3072, 8192]⟩
abbrev S16384x3072 : Shape := ⟨2, ![16384, 3072]⟩
abbrev S3072x1 : Shape := ⟨2, ![3072, 1]⟩

abbrev nBuf : Space → Nat
  | .hbm => 10
  | .vmem => 7
  | .smem => 0
  | _ => 0

abbrev bufTy : (tb : Table) → Fin (tcTables nBuf tb) → BufTy
  | .hbm, ⟨0, _⟩ => ⟨S8x2048x3072, .fp8e4m3⟩
  | .hbm, ⟨1, _⟩ => ⟨S8x2048, .f32⟩
  | .hbm, ⟨2, _⟩ => ⟨S16384x8192, .fp8e5m2⟩
  | .hbm, ⟨3, _⟩ => ⟨S16384x1, .f32⟩
  | .hbm, ⟨4, _⟩ => ⟨S3072, .f32⟩
  | .hbm, ⟨5, _⟩ => ⟨S3072x8192, .f32⟩
  | .hbm, ⟨6, _⟩ => ⟨S16384x3072, .fp8e4m3⟩
  | .hbm, ⟨7, _⟩ => ⟨S16384x1, .f32⟩
  | .hbm, ⟨8, _⟩ => ⟨S3072x1, .f32⟩
  | .hbm, ⟨9, _⟩ => ⟨S3072x8192, .f32⟩
  | .local _ .vmem, ⟨0, _⟩ => ⟨S16384x3072, .fp8e4m3⟩
  | .local _ .vmem, ⟨1, _⟩ => ⟨S16384x1, .f32⟩
  | .local _ .vmem, ⟨2, _⟩ => ⟨S16384x8192, .fp8e5m2⟩
  | .local _ .vmem, ⟨3, _⟩ => ⟨S16384x1, .f32⟩
  | .local _ .vmem, ⟨4, _⟩ => ⟨S3072x1, .f32⟩
  | .local _ .vmem, ⟨5, _⟩ => ⟨S3072x8192, .f32⟩
  | .local _ .vmem, ⟨6, _⟩ => ⟨S3072x8192, .f32⟩
  | _, _ => ⟨S8x2048x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16384x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x8192 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== DwQkv.lean ====
abbrev S8x2048x3072 : Shape := ⟨3, ![8, 2048, 3072]⟩
abbrev S8x2048 : Shape := ⟨2, ![8, 2048]⟩
abbrev S8x2048x3x24x128 : Shape := ⟨5, ![8, 2048, 3, 24, 128]⟩
abbrev S3072 : Shape := ⟨1, ![3072]⟩
abbrev S3072x3x24x128 : Shape := ⟨4, ![3072, 3, 24, 128]⟩
abbrev S16384x3072 : Shape := ⟨2, ![16384, 3072]⟩
abbrev S16384x9216 : Shape := ⟨2, ![16384, 9216]⟩
abbrev S3072x1 : Shape := ⟨2, ![3072, 1]⟩
abbrev S16384x1 : Shape := ⟨2, ![16384, 1]⟩
abbrev S3072x9216 : Shape := ⟨2, ![3072, 9216]⟩
abbrev S1024x1536 : Shape := ⟨2, ![1024, 1536]⟩
abbrev S1024x1 : Shape := ⟨2, ![1024, 1]⟩
abbrev S1024x1024 : Shape := ⟨2, ![1024, 1024]⟩
abbrev S1536x1024 : Shape := ⟨2, ![1536, 1024]⟩
abbrev S1536x1 : Shape := ⟨2, ![1536, 1]⟩

abbrev nBuf : Space → Nat
  | .hbm => 13
  | .vmem => 12
  | .smem => 0
  | _ => 0

abbrev bufTy : (tb : Table) → Fin (tcTables nBuf tb) → BufTy
  | .hbm, ⟨0, _⟩ => ⟨S8x2048x3072, .fp8e4m3⟩
  | .hbm, ⟨1, _⟩ => ⟨S8x2048, .f32⟩
  | .hbm, ⟨2, _⟩ => ⟨S8x2048x3x24x128, .fp8e5m2⟩
  | .hbm, ⟨3, _⟩ => ⟨S8x2048, .f32⟩
  | .hbm, ⟨4, _⟩ => ⟨S3072, .f32⟩
  | .hbm, ⟨5, _⟩ => ⟨S3072x3x24x128, .f32⟩
  | .hbm, ⟨6, _⟩ => ⟨S16384x3072, .fp8e4m3⟩
  | .hbm, ⟨7, _⟩ => ⟨S16384x9216, .fp8e5m2⟩
  | .hbm, ⟨8, _⟩ => ⟨S3072x1, .f32⟩
  | .hbm, ⟨9, _⟩ => ⟨S8x2048, .f32⟩
  | .hbm, ⟨10, _⟩ => ⟨S16384x1, .f32⟩
  | .hbm, ⟨11, _⟩ => ⟨S3072x9216, .f32⟩
  | .hbm, ⟨12, _⟩ => ⟨S3072x9216, .f32⟩
  | .local _ .vmem, ⟨0, _⟩ => ⟨S1024x1536, .fp8e4m3⟩
  | .local _ .vmem, ⟨1, _⟩ => ⟨S1024x1536, .fp8e4m3⟩
  | .local _ .vmem, ⟨2, _⟩ => ⟨S1024x1, .f32⟩
  | .local _ .vmem, ⟨3, _⟩ => ⟨S1024x1, .f32⟩
  | .local _ .vmem, ⟨4, _⟩ => ⟨S1024x1024, .fp8e5m2⟩
  | .local _ .vmem, ⟨5, _⟩ => ⟨S1024x1024, .fp8e5m2⟩
  | .local _ .vmem, ⟨6, _⟩ => ⟨S1536x1024, .f32⟩
  | .local _ .vmem, ⟨7, _⟩ => ⟨S1536x1024, .f32⟩
  | .local _ .vmem, ⟨8, _⟩ => ⟨S1536x1, .f32⟩
  | .local _ .vmem, ⟨9, _⟩ => ⟨S1536x1, .f32⟩
  | .local _ .vmem, ⟨10, _⟩ => ⟨S1536x1024, .f32⟩
  | .local _ .vmem, ⟨11, _⟩ => ⟨S1536x1024, .f32⟩
  | _, _ => ⟨S8x2048x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 9, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1536x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1536x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1536x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DwQkvRefIdeal.lean ====
abbrev S8x2048x3072 : Shape := ⟨3, ![8, 2048, 3072]⟩
abbrev S8x2048 : Shape := ⟨2, ![8, 2048]⟩
abbrev S8x2048x3x24x128 : Shape := ⟨5, ![8, 2048, 3, 24, 128]⟩
abbrev S3072 : Shape := ⟨1, ![3072]⟩
abbrev S3072x3x24x128 : Shape := ⟨4, ![3072, 3, 24, 128]⟩
abbrev S16384x3072 : Shape := ⟨2, ![16384, 3072]⟩
abbrev S16384x1 : Shape := ⟨2, ![16384, 1]⟩
abbrev S16384x9216 : Shape := ⟨2, ![16384, 9216]⟩
abbrev S3072x1 : Shape := ⟨2, ![3072, 1]⟩
abbrev S3072x9216 : Shape := ⟨2, ![3072, 9216]⟩

abbrev nBuf : Space → Nat
  | .hbm => 13
  | .vmem => 7
  | .smem => 0
  | _ => 0

abbrev bufTy : (tb : Table) → Fin (tcTables nBuf tb) → BufTy
  | .hbm, ⟨0, _⟩ => ⟨S8x2048x3072, .fp8e4m3⟩
  | .hbm, ⟨1, _⟩ => ⟨S8x2048, .f32⟩
  | .hbm, ⟨2, _⟩ => ⟨S8x2048x3x24x128, .fp8e5m2⟩
  | .hbm, ⟨3, _⟩ => ⟨S8x2048, .f32⟩
  | .hbm, ⟨4, _⟩ => ⟨S3072, .f32⟩
  | .hbm, ⟨5, _⟩ => ⟨S3072x3x24x128, .f32⟩
  | .hbm, ⟨6, _⟩ => ⟨S16384x3072, .fp8e4m3⟩
  | .hbm, ⟨7, _⟩ => ⟨S16384x1, .f32⟩
  | .hbm, ⟨8, _⟩ => ⟨S16384x9216, .fp8e5m2⟩
  | .hbm, ⟨9, _⟩ => ⟨S16384x1, .f32⟩
  | .hbm, ⟨10, _⟩ => ⟨S3072x1, .f32⟩
  | .hbm, ⟨11, _⟩ => ⟨S3072x9216, .f32⟩
  | .hbm, ⟨12, _⟩ => ⟨S3072x9216, .f32⟩
  | .local _ .vmem, ⟨0, _⟩ => ⟨S16384x3072, .fp8e4m3⟩
  | .local _ .vmem, ⟨1, _⟩ => ⟨S16384x1, .f32⟩
  | .local _ .vmem, ⟨2, _⟩ => ⟨S16384x9216, .fp8e5m2⟩
  | .local _ .vmem, ⟨3, _⟩ => ⟨S16384x1, .f32⟩
  | .local _ .vmem, ⟨4, _⟩ => ⟨S3072x1, .f32⟩
  | .local _ .vmem, ⟨5, _⟩ => ⟨S3072x9216, .f32⟩
  | .local _ .vmem, ⟨6, _⟩ => ⟨S3072x9216, .f32⟩
  | _, _ => ⟨S8x2048x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16384x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x9216 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x9216 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Dx.lean ====
abbrev S8x2048x3072 : Shape := ⟨3, ![8, 2048, 3072]⟩
abbrev S8x2048 : Shape := ⟨2, ![8, 2048]⟩
abbrev S8x2048x3x24x128 : Shape := ⟨5, ![8, 2048, 3, 24, 128]⟩
abbrev S3072 : Shape := ⟨1, ![3072]⟩
abbrev S16384x8192 : Shape := ⟨2, ![16384, 8192]⟩
abbrev S16384x1 : Shape := ⟨2, ![16384, 1]⟩
abbrev S3072x8192 : Shape := ⟨2, ![3072, 8192]⟩
abbrev S8192 : Shape := ⟨1, ![8192]⟩
abbrev S3072x3x24x128 : Shape := ⟨4, ![3072, 3, 24, 128]⟩
abbrev S3x24x128 : Shape := ⟨3, ![3, 24, 128]⟩
abbrev S16384x3072 : Shape := ⟨2, ![16384, 3072]⟩
abbrev S16384x9216 : Shape := ⟨2, ![16384, 9216]⟩
abbrev S3072x9216 : Shape := ⟨2, ![3072, 9216]⟩
abbrev S1x8192 : Shape := ⟨2, ![1, 8192]⟩
abbrev S1x9216 : Shape := ⟨2, ![1, 9216]⟩
abbrev S1x3072 : Shape := ⟨2, ![1, 3072]⟩
abbrev S8x3072 : Shape := ⟨2, ![8, 3072]⟩
abbrev S1024x1024 : Shape := ⟨2, ![1024, 1024]⟩
abbrev S1024x1 : Shape := ⟨2, ![1024, 1]⟩
abbrev S3072x1024 : Shape := ⟨2, ![3072, 1024]⟩
abbrev S1x1024 : Shape := ⟨2, ![1, 1024]⟩
abbrev S1024x3072 : Shape := ⟨2, ![1024, 3072]⟩
abbrev S64x3072 : Shape := ⟨2, ![64, 3072]⟩
abbrev S64x1 : Shape := ⟨2, ![64, 1]⟩
abbrev S8x8x3072 : Shape := ⟨3, ![8, 8, 3072]⟩
abbrev S64 : Shape := ⟨1, ![64]⟩
abbrev S_ : Shape := ⟨0, ![]⟩

abbrev nBuf : Space → Nat
  | .hbm => 31
  | .vmem => 31
  | .smem => 0
  | _ => 0

abbrev bufTy : (tb : Table) → Fin (tcTables nBuf tb) → BufTy
  | .hbm, ⟨0, _⟩ => ⟨S8x2048x3072, .fp8e5m2⟩
  | .hbm, ⟨1, _⟩ => ⟨S8x2048, .f32⟩
  | .hbm, ⟨2, _⟩ => ⟨S8x2048x3x24x128, .fp8e5m2⟩
  | .hbm, ⟨3, _⟩ => ⟨S8x2048, .f32⟩
  | .hbm, ⟨4, _⟩ => ⟨S8x2048x3072, .fp8e4m3⟩
  | .hbm, ⟨5, _⟩ => ⟨S8x2048, .f32⟩
  | .hbm, ⟨6, _⟩ => ⟨S8x2048, .f32⟩
  | .hbm, ⟨7, _⟩ => ⟨S3072, .f32⟩
  | .hbm, ⟨8, _⟩ => ⟨S16384x8192, .fp8e5m2⟩
  | .hbm, ⟨9, _⟩ => ⟨S16384x1, .f32⟩
  | .hbm, ⟨10, _⟩ => ⟨S3072x8192, .fp8e4m3⟩
  | .hbm, ⟨11, _⟩ => ⟨S8192, .f32⟩
  | .hbm, ⟨12, _⟩ => ⟨S3072x3x24x128, .fp8e4m3⟩
  | .hbm, ⟨13, _⟩ => ⟨S3x24x128, .f32⟩
  | .hbm, ⟨14, _⟩ => ⟨S16384x3072, .fp8e5m2⟩
  | .hbm, ⟨15, _⟩ => ⟨S16384x3072, .fp8e4m3⟩
  | .hbm, ⟨16, _⟩ => ⟨S16384x9216, .fp8e5m2⟩
  | .hbm, ⟨17, _⟩ => ⟨S3072x9216, .fp8e4m3⟩
  | .hbm, ⟨18, _⟩ => ⟨S16384x1, .f32⟩
  | .hbm, ⟨19, _⟩ => ⟨S16384x1, .f32⟩
  | .hbm, ⟨20, _⟩ => ⟨S8192, .bf16⟩
  | .hbm, ⟨21, _⟩ => ⟨S1x8192, .bf16⟩
  | .hbm, ⟨22, _⟩ => ⟨S3x24x128, .bf16⟩
  | .hbm, ⟨23, _⟩ => ⟨S1x9216, .bf16⟩
  | .hbm, ⟨24, _⟩ => ⟨S16384x1, .f32⟩
  | .hbm, ⟨25, _⟩ => ⟨S16384x1, .f32⟩
  | .hbm, ⟨26, _⟩ => ⟨S1x3072, .f32⟩
  | .hbm, ⟨27, _⟩ => ⟨S16384x3072, .bf16⟩
  | .hbm, ⟨28, _⟩ => ⟨S8x3072, .f32⟩
  | .hbm, ⟨29, _⟩ => ⟨S_, .f32⟩
  | .hbm, ⟨30, _⟩ => ⟨S3072, .f32⟩
  | .local _ .vmem, ⟨0, _⟩ => ⟨S1024x1024, .fp8e5m2⟩
  | .local _ .vmem, ⟨1, _⟩ => ⟨S1024x1024, .fp8e5m2⟩
  | .local _ .vmem, ⟨2, _⟩ => ⟨S1024x1, .f32⟩
  | .local _ .vmem, ⟨3, _⟩ => ⟨S1024x1, .f32⟩
  | .local _ .vmem, ⟨4, _⟩ => ⟨S1024x1024, .fp8e5m2⟩
  | .local _ .vmem, ⟨5, _⟩ => ⟨S1024x1024, .fp8e5m2⟩
  | .local _ .vmem, ⟨6, _⟩ => ⟨S1024x1, .f32⟩
  | .local _ .vmem, ⟨7, _⟩ => ⟨S1024x1, .f32⟩
  | .local _ .vmem, ⟨8, _⟩ => ⟨S3072x1024, .fp8e4m3⟩
  | .local _ .vmem, ⟨9, _⟩ => ⟨S3072x1024, .fp8e4m3⟩
  | .local _ .vmem, ⟨10, _⟩ => ⟨S1x1024, .bf16⟩
  | .local _ .vmem, ⟨11, _⟩ => ⟨S1x1024, .bf16⟩
  | .local _ .vmem, ⟨12, _⟩ => ⟨S3072x1024, .fp8e4m3⟩
  | .local _ .vmem, ⟨13, _⟩ => ⟨S3072x1024, .fp8e4m3⟩
  | .local _ .vmem, ⟨14, _⟩ => ⟨S1x1024, .bf16⟩
  | .local _ .vmem, ⟨15, _⟩ => ⟨S1x1024, .bf16⟩
  | .local _ .vmem, ⟨16, _⟩ => ⟨S1024x3072, .fp8e4m3⟩
  | .local _ .vmem, ⟨17, _⟩ => ⟨S1024x3072, .fp8e4m3⟩
  | .local _ .vmem, ⟨18, _⟩ => ⟨S1024x1, .f32⟩
  | .local _ .vmem, ⟨19, _⟩ => ⟨S1024x1, .f32⟩
  | .local _ .vmem, ⟨20, _⟩ => ⟨S1024x3072, .fp8e5m2⟩
  | .local _ .vmem, ⟨21, _⟩ => ⟨S1024x3072, .fp8e5m2⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | .local _ .vmem, ⟨26, _⟩ => ⟨S1x3072, .f32⟩
  | .local _ .vmem, ⟨27, _⟩ => ⟨S1024x3072, .bf16⟩
  | .local _ .vmem, ⟨28, _⟩ => ⟨S1024x3072, .bf16⟩
  | .local _ .vmem, ⟨29, _⟩ => ⟨S8x3072, .f32⟩
  | .local _ .vmem, ⟨30, _⟩ => ⟨S1024x3072, .f32⟩
  | _, _ => ⟨S8x2048x3072, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_cst : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem14_1 : DmaSem sig := 28
abbrev cc0_sem15_0 : DmaSem sig := 29

abbrev nD : Nat := 1
abbrev τ : Topo := Topo.v7x

variable {F : FTy → Type} [FloatOps F]

abbrev grid0 : Pipeline.Grid := ⟨2, ![16, 17], ![false, false]⟩

def k0_cond5 (i : grid0.Coords) : BitVec 1 :=
  let arg1 : BitVec 32 := BitVec.ofNat 32 (i 1).val
  let c16_i32 : BitVec 32 := 16#32
  let v14 : BitVec 1 := Scalar.cmpi .eq arg1 c16_i32
  let v15 : BitVec 32 := Scalar.extui v14
  let c0_i32_7 : BitVec 32 := 0#32
  let v16 : BitVec 1 := Scalar.cmpi .ne v15 c0_i32_7
  v16

def k0_cond4 (i : grid0.Coords) : BitVec 1 :=
  let arg0 : BitVec 32 := BitVec.ofNat 32 (i 0).val
  let c0_i32_4 : BitVec 32 := 0#32
  let v9 : BitVec 1 := Scalar.cmpi .eq arg0 c0_i32_4
  let arg1 : BitVec 32 := BitVec.ofNat 32 (i 1).val
  let c0_i32_5 : BitVec 32 := 0#32
  let v10 : BitVec 1 := Scalar.cmpi .eq arg1 c0_i32_5
  let v11 : BitVec 1 := Scalar.andi v9 v10
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3072x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3072x1024 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x3072 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x3072 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1024x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S8x3072 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== DxIdeal.lean ====
variable {F : FTy → Type} [FloatOps F] [Named F]
def κ : String → Option EReal := fun
  | "inv_d" => some ((1 / 3072 : ℝ) : EReal)
  | _ => none
-- ==== DxRefIdeal.lean ====
abbrev S8x2048x3072 : Shape := ⟨3, ![8, 2048, 3072]⟩
abbrev S8x2048 : Shape := ⟨2, ![8, 2048]⟩
abbrev S8x2048x3x24x128 : Shape := ⟨5, ![8, 2048, 3, 24, 128]⟩
abbrev S3072 : Shape := ⟨1, ![3072]⟩
abbrev S16384x8192 : Shape := ⟨2, ![16384, 8192]⟩
abbrev S16384x1 : Shape := ⟨2, ![16384, 1]⟩
abbrev S3072x8192 : Shape := ⟨2, ![3072, 8192]⟩
abbrev S8192 : Shape := ⟨1, ![8192]⟩
abbrev S3072x3x24x128 : Shape := ⟨4, ![3072, 3, 24, 128]⟩
abbrev S3x24x128 : Shape := ⟨3, ![3, 24, 128]⟩
abbrev S16384x3072 : Shape := ⟨2, ![16384, 3072]⟩
abbrev S16384x9216 : Shape := ⟨2, ![16384, 9216]⟩
abbrev S1x3072 : Shape := ⟨2, ![1, 3072]⟩
abbrev S1x8192 : Shape := ⟨2, ![1, 8192]⟩
abbrev S3072x9216 : Shape := ⟨2, ![3072, 9216]⟩
abbrev S1x9216 : Shape := ⟨2, ![1, 9216]⟩
abbrev S16384 : Shape := ⟨1, ![16384]⟩

abbrev nBuf : Space → Nat
  | .hbm => 27
  | .vmem => 16
  | .smem => 0
  | _ => 0

abbrev bufTy : (tb : Table) → Fin (tcTables nBuf tb) → BufTy
  | .hbm, ⟨0, _⟩ => ⟨S8x2048x3072, .fp8e5m2⟩
  | .hbm, ⟨1, _⟩ => ⟨S8x2048, .f32⟩
  | .hbm, ⟨2, _⟩ => ⟨S8x2048x3x24x128, .fp8e5m2⟩
  | .hbm, ⟨3, _⟩ => ⟨S8x2048, .f32⟩
  | .hbm, ⟨4, _⟩ => ⟨S8x2048x3072, .fp8e4m3⟩
  | .hbm, ⟨5, _⟩ => ⟨S8x2048, .f32⟩
  | .hbm, ⟨6, _⟩ => ⟨S8x2048, .f32⟩
  | .hbm, ⟨7, _⟩ => ⟨S3072, .f32⟩
  | .hbm, ⟨8, _⟩ => ⟨S16384x8192, .fp8e5m2⟩
  | .hbm, ⟨9, _⟩ => ⟨S16384x1, .f32⟩
  | .hbm, ⟨10, _⟩ => ⟨S3072x8192, .fp8e4m3⟩
  | .hbm, ⟨11, _⟩ => ⟨S8192, .f32⟩
  | .hbm, ⟨12, _⟩ => ⟨S3072x3x24x128, .fp8e4m3⟩
  | .hbm, ⟨13, _⟩ => ⟨S3x24x128, .f32⟩
  | .hbm, ⟨14, _⟩ => ⟨S16384x3072, .fp8e5m2⟩
  | .hbm, ⟨15, _⟩ => ⟨S16384x1, .f32⟩
  | .hbm, ⟨16, _⟩ => ⟨S16384x9216, .fp8e5m2⟩
  | .hbm, ⟨17, _⟩ => ⟨S16384x1, .f32⟩
  | .hbm, ⟨18, _⟩ => ⟨S16384x3072, .fp8e4m3⟩
  | .hbm, ⟨19, _⟩ => ⟨S16384x1, .f32⟩
  | .hbm, ⟨20, _⟩ => ⟨S16384x1, .f32⟩
  | .hbm, ⟨21, _⟩ => ⟨S1x3072, .f32⟩
  | .hbm, ⟨22, _⟩ => ⟨S1x8192, .f32⟩
  | .hbm, ⟨23, _⟩ => ⟨S3072x9216, .fp8e4m3⟩
  | .hbm, ⟨24, _⟩ => ⟨S1x9216, .f32⟩
  | .hbm, ⟨25, _⟩ => ⟨S16384x3072, .bf16⟩
  | .hbm, ⟨26, _⟩ => ⟨S3072, .f32⟩
  | .local _ .vmem, ⟨0, _⟩ => ⟨S16384x3072, .fp8e5m2⟩
  | .local _ .vmem, ⟨1, _⟩ => ⟨S16384x1, .f32⟩
  | .local _ .vmem, ⟨2, _⟩ => ⟨S16384x9216, .fp8e5m2⟩
  | .local _ .vmem, ⟨3, _⟩ => ⟨S16384x1, .f32⟩
  | .local _ .vmem, ⟨4, _⟩ => ⟨S16384x3072, .fp8e4m3⟩
  | .local _ .vmem, ⟨5, _⟩ => ⟨S16384x1, .f32⟩
  | .local _ .vmem, ⟨6, _⟩ => ⟨S16384x1, .f32⟩
  | .local _ .vmem, ⟨7, _⟩ => ⟨S1x3072, .f32⟩
  | .local _ .vmem, ⟨8, _⟩ => ⟨S16384x8192, .fp8e5m2⟩
  | .local _ .vmem, ⟨9, _⟩ => ⟨S16384x1, .f32⟩
  | .local _ .vmem, ⟨10, _⟩ => ⟨S3072x8192, .fp8e4m3⟩
  | .local _ .vmem, ⟨11, _⟩ => ⟨S1x8192, .f32⟩
  | .local _ .vmem, ⟨12, _⟩ => ⟨S3072x9216, .fp8e4m3⟩
  | .local _ .vmem, ⟨13, _⟩ => ⟨S1x9216, .f32⟩
  | .local _ .vmem, ⟨14, _⟩ => ⟨S16384x3072, .bf16⟩
  | .local _ .vmem, ⟨15, _⟩ => ⟨S3072, .f32⟩
  | _, _ => ⟨S8x2048x3072, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S16384x3072 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x9216 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x8192 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16384x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3072x8192 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x8192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3072x9216 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x9216 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16384x3072 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3072 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Da.lean ====
abbrev S8x2048x3072 : Shape := ⟨3, ![8, 2048, 3072]⟩
abbrev S8x2048 : Shape := ⟨2, ![8, 2048]⟩
abbrev S8x2048x8192 : Shape := ⟨3, ![8, 2048, 8192]⟩
abbrev S8192x3072 : Shape := ⟨2, ![8192, 3072]⟩
abbrev S3072 : Shape := ⟨1, ![3072]⟩
abbrev S16384x3072 : Shape := ⟨2, ![16384, 3072]⟩
abbrev S16384x8192 : Shape := ⟨2, ![16384, 8192]⟩
abbrev S16384x1 : Shape := ⟨2, ![16384, 1]⟩
abbrev S1x3072 : Shape := ⟨2, ![1, 3072]⟩
abbrev S256x3072 : Shape := ⟨2, ![256, 3072]⟩
abbrev S256x1 : Shape := ⟨2, ![256, 1]⟩
abbrev S256x8192 : Shape := ⟨2, ![256, 8192]⟩
abbrev S2x256x8192 : Shape := ⟨3, ![2, 256, 8192]⟩
abbrev S2x256x128 : Shape := ⟨3, ![2, 256, 128]⟩
abbrev S1x256x128 : Shape := ⟨3, ![1, 256, 128]⟩
abbrev S256x128 : Shape := ⟨2, ![256, 128]⟩
abbrev S256 : Shape := ⟨1, ![256]⟩
abbrev S512x3072 : Shape := ⟨2, ![512, 3072]⟩
abbrev S256x512 : Shape := ⟨2, ![256, 512]⟩
abbrev S1x256x512 : Shape := ⟨3, ![1, 256, 512]⟩

abbrev nBuf : Space → Nat
  | .hbm => 14
  | .vmem => 17
  | .smem => 0
  | _ => 0

abbrev bufTy : (tb : Table) → Fin (tcTables nBuf tb) → BufTy
  | .hbm, ⟨0, _⟩ => ⟨S8x2048x3072, .fp8e5m2⟩
  | .hbm, ⟨1, _⟩ => ⟨S8x2048, .f32⟩
  | .hbm, ⟨2, _⟩ => ⟨S8x2048x8192, .fp8e4m3⟩
  | .hbm, ⟨3, _⟩ => ⟨S8x2048, .f32⟩
  | .hbm, ⟨4, _⟩ => ⟨S8192x3072, .fp8e4m3⟩
  | .hbm, ⟨5, _⟩ => ⟨S3072, .f32⟩
  | .hbm, ⟨6, _⟩ => ⟨S16384x3072, .fp8e5m2⟩
  | .hbm, ⟨7, _⟩ => ⟨S16384x8192, .fp8e4m3⟩
  | .hbm, ⟨8, _⟩ => ⟨S16384x1, .f32⟩
  | .hbm, ⟨9, _⟩ => ⟨S16384x1, .f32⟩
  | .hbm, ⟨10, _⟩ => ⟨S3072, .bf16⟩
  | .hbm, ⟨11, _⟩ => ⟨S1x3072, .bf16⟩
  | .hbm, ⟨12, _⟩ => ⟨S16384x8192, .fp8e5m2⟩
  | .hbm, ⟨13, _⟩ => ⟨S16384x1, .f32⟩
  | .local _ .vmem, ⟨0, _⟩ => ⟨S256x3072, .fp8e5m2⟩
  | .local _ .vmem, ⟨1, _⟩ => ⟨S256x3072, .fp8e5m2⟩
  | .local _ .vmem, ⟨2, _⟩ => ⟨S256x1, .f32⟩
  | .local _ .vmem, ⟨3, _⟩ => ⟨S256x1, .f32⟩
  | .local _ .vmem, ⟨4, _⟩ => ⟨S256x8192, .fp8e4m3⟩
  | .local _ .vmem, ⟨5, _⟩ => ⟨S256x8192, .fp8e4m3⟩
  | .local _ .vmem, ⟨6, _⟩ => ⟨S256x1, .f32⟩
  | .local _ .vmem, ⟨7, _⟩ => ⟨S256x1, .f32⟩
  | .local _ .vmem, ⟨8, _⟩ => ⟨S8192x3072, .fp8e4m3⟩
  | .local _ .vmem, ⟨9, _⟩ => ⟨S1x3072, .bf16⟩
  | .local _ .vmem, ⟨10, _⟩ => ⟨S256x8192, .fp8e5m2⟩
  | .local _ .vmem, ⟨11, _⟩ => ⟨S256x8192, .fp8e5m2⟩
  | .local _ .vmem, ⟨12, _⟩ => ⟨S256x1, .f32⟩
  | .local _ .vmem, ⟨13, _⟩ => ⟨S256x1, .f32⟩
  | .local _ .vmem, ⟨14, _⟩ => ⟨S256x3072, .bf16⟩
  | .local _ .vmem, ⟨15, _⟩ => ⟨S2x256x8192, .f32⟩
  | .local _ .vmem, ⟨16, _⟩ => ⟨S2x256x128, .f32⟩
  | _, _ => ⟨S8x2048x3072, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![65], ![false]⟩

def k0_off1 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v18 : BitVec 32 := Scalar.subi c1_i32 v0
  let v19 : Index := Scalar.indexCast v18
  let c0_10 : Index := 0#32
  let c0_11 : Index := 0#32
  ![v19.toNat, 0, 0]
def k0_off2 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v18 : BitVec 32 := Scalar.subi c1_i32 v0
  let v73 : Index := Scalar.indexCast v18
  let c0_35 : Index := 0#32
  let c0_36 : Index := 0#32
  ![v73.toNat, 0, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let v84 : Index := Scalar.indexCast v0
  let c0_41 : Index := 0#32
  let c0_42 : Index := 0#32
  ![v84.toNat, 0, 0]
def k0_off4 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v18 : BitVec 32 := Scalar.subi c1_i32 v0
  let v128 : Index := Scalar.indexCast v18
  let c0_56 : Index := 0#32
  let c512_57 : Index := 512#32
  ![v128.toNat, 0, 512]
def k0_off5 (i : grid0.Coords) : Fin 3 → Nat :=
  let arg0 : BitVec 32 := BitVec.ofNat 32 (i 0).val
  let c2_i32 : BitVec 32 := 2#32
  let v0 : BitVec 32 := Scalar.remsi arg0 c2_i32
  let v139 : Index := Scalar.indexCast v0
  let c0_62 : Index := 0#32
  let c512_63 : Index := 512#32
  ![v139.toNat, 0, 512]
def k0_off6 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v18 : BitVec 32 := Scalar.subi c1_i32 v0
  let v183 : Index := Scalar.indexCast v18
  let c0_77 : Index := 0#32
  let c1024_78 : Index := 1024#32
  ![v183.toNat, 0, 1024]
def k0_off7 (i : grid0.Coords) : Fin 3 → Nat :=
  let arg0 : BitVec 32 := BitVec.ofNat 32 (i 0).val
  let c2_i32 : BitVec 32 := 2#32
  let v0 : BitVec 32 := Scalar.remsi arg0 c2_i32
  let v194 : Index := Scalar.indexCast v0
  let c0_83 : Index := 0#32
  let c1024_84 : Index := 1024#32
  ![v194.toNat, 0, 1024]
def k0_off8 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v18 : BitVec 32 := Scalar.subi c1_i32 v0
  let v238 : Index := Scalar.indexCast v18
  let c0_98 : Index := 0#32
  let c1536_99 : Index := 1536#32
  ![v238.toNat, 0, 1536]
def k0_off9 (i : grid0.Coords) : Fin 3 → Nat :=
  let arg0 : BitVec 32 := BitVec.ofNat 32 (i 0).val
  let c2_i32 : BitVec 32 := 2#32
  let v0 : BitVec 32 := Scalar.remsi arg0 c2_i32
  let v249 : Index := Scalar.indexCast v0
  let c0_104 : Index := 0#32
  let c1536_105 : Index := 1536#32
  ![v249.toNat, 0, 1536]
def k0_off10 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v18 : BitVec 32 := Scalar.subi c1_i32 v0
  let v293 : Index := Scalar.indexCast v18
  let c0_119 : Index := 0#32
  let c2048_120 : Index := 2048#32
  ![v293.toNat, 0, 2048]
def k0_off11 (i : grid0.Coords) : Fin 3 → Nat :=
  let arg0 : BitVec 32 := BitVec.ofNat 32 (i 0).val
  let c2_i32 : BitVec 32 := 2#32
  let v0 : BitVec 32 := Scalar.remsi arg0 c2_i32
  let v304 : Index := Scalar.indexCast v0
  let c0_125 : Index := 0#32
  let c2048_126 : Index := 2048#32
  ![v304.toNat, 0, 2048]
def k0_off12 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v18 : BitVec 32 := Scalar.subi c1_i32 v0
  let v348 : Index := Scalar.indexCast v18
  let c0_140 : Index := 0#32
  let c2560_141 : Index := 2560#32
  ![v348.toNat, 0, 2560]
def k0_off13 (i : grid0.Coords) : Fin 3 → Nat :=
  let arg0 : BitVec 32 := BitVec.ofNat 32 (i 0).val
  let c2_i32 : BitVec 32 := 2#32
  let v0 : BitVec 32 := Scalar.remsi arg0 c2_i32
  let v359 : Index := Scalar.indexCast v0
  let c0_146 : Index := 0#32
  let c2560_147 : Index := 2560#32
  ![v359.toNat, 0, 2560]
def k0_off14 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v18 : BitVec 32 := Scalar.subi c1_i32 v0
  let v403 : Index := Scalar.indexCast v18
  let c0_161 : Index := 0#32
  let c3072_162 : Index := 3072#32
  ![v403.toNat, 0, 3072]
def k0_off15 (i : grid0.Coords) : Fin 3 → Nat :=
  let arg0 : BitVec 32 := BitVec.ofNat 32 (i 0).val
  let c2_i32 : BitVec 32 := 2#32
  let v0 : BitVec 32 := Scalar.remsi arg0 c2_i32
  let v414 : Index := Scalar.indexCast v0
  let c0_167 : Index := 0#32
  let c3072_168 : Index := 3072#32
  ![v414.toNat, 0, 3072]
def k0_off16 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v18 : BitVec 32 := Scalar.subi c1_i32 v0
  let v458 : Index := Scalar.indexCast v18
  let c0_182 : Index := 0#32
  let c3584_183 : Index := 3584#32
  ![v458.toNat, 0, 3584]
def k0_off17 (i : grid0.Coords) : Fin 3 → Nat :=
  let arg0 : BitVec 32 := BitVec.ofNat 32 (i 0).val
  let c2_i32 : BitVec 32 := 2#32
  let v0 : BitVec 32 := Scalar.remsi arg0 c2_i32
  let v469 : Index := Scalar.indexCast v0
  let c0_188 : Index := 0#32
  let c3584_189 : Index := 3584#32
  ![v469.toNat, 0, 3584]
def k0_off18 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v18 : BitVec 32 := Scalar.subi c1_i32 v0
  let v513 : Index := Scalar.indexCast v18
  let c0_203 : Index := 0#32
  let c4096_204 : Index := 4096#32
  ![v513.toNat, 0, 4096]
def k0_off19 (i : grid0.Coords) : Fin 3 → Nat :=
  let arg0 : BitVec 32 := BitVec.ofNat 32 (i 0).val
  let c2_i32 : BitVec 32 := 2#32
  let v0 : BitVec 32 := Scalar.remsi arg0 c2_i32
  let v524 : Index := Scalar.indexCast v0
  let c0_209 : Index := 0#32
  let c4096_210 : Index := 4096#32
  ![v524.toNat, 0, 4096]
def k0_off20 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v18 : BitVec 32 := Scalar.subi c1_i32 v0
  let v568 : Index := Scalar.indexCast v18
  let c0_224 : Index := 0#32
  let c4608_225 : Index := 4608#32
  ![v568.toNat, 0, 4608]
def k0_off21 (i : grid0.Coords) : Fin 3 → Nat :=
  let arg0 : BitVec 32 := BitVec.ofNat 32 (i 0).val
  let c2_i32 : BitVec 32 := 2#32
  let v0 : BitVec 32 := Scalar.remsi arg0 c2_i32
  let v579 : Index := Scalar.indexCast v0
  let c0_230 : Index := 0#32
  let c4608_231 : Index := 4608#32
  ![v579.toNat, 0, 4608]
def k0_off22 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v18 : BitVec 32 := Scalar.subi c1_i32 v0
  let v623 : Index := Scalar.indexCast v18
  let c0_245 : Index := 0#32
  let c5120_246 : Index := 5120#32
  ![v623.toNat, 0, 5120]
def k0_off23 (i : grid0.Coords) : Fin 3 → Nat :=
  let arg0 : BitVec 32 := BitVec.ofNat 32 (i 0).val
  let c2_i32 : BitVec 32 := 2#32
  let v0 : BitVec 32 := Scalar.remsi arg0 c2_i32
  let v634 : Index := Scalar.indexCast v0
  let c0_251 : Index := 0#32
  let c5120_252 : Index := 5120#32
  ![v634.toNat, 0, 5120]
def k0_off24 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v18 : BitVec 32 := Scalar.subi c1_i32 v0
  let v678 : Index := Scalar.indexCast v18
  let c0_266 : Index := 0#32
  let c5632_267 : Index := 5632#32
  ![v678.toNat, 0, 5632]
def k0_off25 (i : grid0.Coords) : Fin 3 → Nat :=
  let arg0 : BitVec 32 := BitVec.ofNat 32 (i 0).val
  let c2_i32 : BitVec 32 := 2#32
  let v0 : BitVec 32 := Scalar.remsi arg0 c2_i32
  let v689 : Index := Scalar.indexCast v0
  let c0_272 : Index := 0#32
  let c5632_273 : Index := 5632#32
  ![v689.toNat, 0, 5632]
def k0_off26 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v18 : BitVec 32 := Scalar.subi c1_i32 v0
  let v733 : Index := Scalar.indexCast v18
  let c0_287 : Index := 0#32
  let c6144_288 : Index := 6144#32
  ![v733.toNat, 0, 6144]
def k0_off27 (i : grid0.Coords) : Fin 3 → Nat :=
  let arg0 : BitVec 32 := BitVec.ofNat 32 (i 0).val
  let c2_i32 : BitVec 32 := 2#32
  let v0 : BitVec 32 := Scalar.remsi arg0 c2_i32
  let v744 : Index := Scalar.indexCast v0
  let c0_293 : Index := 0#32
  let c6144_294 : Index := 6144#32
  ![v744.toNat, 0, 6144]
def k0_off28 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v18 : BitVec 32 := Scalar.subi c1_i32 v0
  let v788 : Index := Scalar.indexCast v18
  let c0_308 : Index := 0#32
  let c6656_309 : Index := 6656#32
  ![v788.toNat, 0, 6656]
def k0_off29 (i : grid0.Coords) : Fin 3 → Nat :=
  let arg0 : BitVec 32 := BitVec.ofNat 32 (i 0).val
  let c2_i32 : BitVec 32 := 2#32
  let v0 : BitVec 32 := Scalar.remsi arg0 c2_i32
  let v799 : Index := Scalar.indexCast v0
  let c0_314 : Index := 0#32
  let c6656_315 : Index := 6656#32
  ![v799.toNat, 0, 6656]
def k0_off30 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v18 : BitVec 32 := Scalar.subi c1_i32 v0
  let v843 : Index := Scalar.indexCast v18
  let c0_329 : Index := 0#32
  let c7168_330 : Index := 7168#32
  ![v843.toNat, 0, 7168]
def k0_off31 (i : grid0.Coords) : Fin 3 → Nat :=
  let arg0 : BitVec 32 := BitVec.ofNat 32 (i 0).val
  let c2_i32 : BitVec 32 := 2#32
  let v0 : BitVec 32 := Scalar.remsi arg0 c2_i32
  let v854 : Index := Scalar.indexCast v0
  let c0_335 : Index := 0#32
  let c7168_336 : Index := 7168#32
  ![v854.toNat, 0, 7168]
def k0_off32 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v18 : BitVec 32 := Scalar.subi c1_i32 v0
  let v898 : Index := Scalar.indexCast v18
  let c0_350 : Index := 0#32
  let c7680_351 : Index := 7680#32
  ![v898.toNat, 0, 7680]
def k0_off33 (i : grid0.Coords) : Fin 3 → Nat :=
  let arg0 : BitVec 32 := BitVec.ofNat 32 (i 0).val
  let c2_i32 : BitVec 32 := 2#32
  let v0 : BitVec 32 := Scalar.remsi arg0 c2_i32
  let v909 : Index := Scalar.indexCast v0
  let c0_356 : Index := 0#32
  let c7680_357 : Index := 7680#32
  ![v909.toNat, 0, 7680]
def k0_off34 (i : grid0.Coords) : Fin 3 → Nat :=
  let arg0 : BitVec 32 := BitVec.ofNat 32 (i 0).val
  let c2_i32 : BitVec 32 := 2#32
  let v0 : BitVec 32 := Scalar.remsi arg0 c2_i32
  let v922 : Index := Scalar.indexCast v0
  let c0_358 : Index := 0#32
  let c0_359 : Index := 0#32
  ![v922.toNat, 0, 0]
def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x3072 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8192x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x8192 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DaIdeal.lean ====
variable {F : FTy → Type} [FloatOps F] [Named F]
def κ : String → Option EReal := fun
  | "ca_15" => some ((107032224408900379083 / 2000000000000000000000 : ℝ) : EReal)
  | "gelu_c" => some ((3989422804014327 / 5000000000000000 : ℝ) : EReal)
  | "gelu_ca" => some ((35677408136300126361 / 1000000000000000000000 : ℝ) : EReal)
  | "half_c" => some ((3989422804014327 / 10000000000000000 : ℝ) : EReal)
  | "inv_max" => some ((1 / 57344 : ℝ) : EReal)
  | "ln2" => some ((Real.log 2 : ℝ) : EReal)
  | _ => none
-- ==== DaRefIdeal.lean ====
abbrev S8x2048x3072 : Shape := ⟨3, ![8, 2048, 3072]⟩
abbrev S8x2048 : Shape := ⟨2, ![8, 2048]⟩
abbrev S8x2048x8192 : Shape := ⟨3, ![8, 2048, 8192]⟩
abbrev S8192x3072 : Shape := ⟨2, ![8192, 3072]⟩
abbrev S3072 : Shape := ⟨1, ![3072]⟩
abbrev S16384x3072 : Shape := ⟨2, ![16384, 3072]⟩
abbrev S16384x1 : Shape := ⟨2, ![16384, 1]⟩
abbrev S16384x8192 : Shape := ⟨2, ![16384, 8192]⟩
abbrev S1x3072 : Shape := ⟨2, ![1, 3072]⟩
abbrev S16384 : Shape := ⟨1, ![16384]⟩

abbrev nBuf : Space → Nat
  | .hbm => 13
  | .vmem => 8
  | .smem => 0
  | _ => 0

abbrev bufTy : (tb : Table) → Fin (tcTables nBuf tb) → BufTy
  | .hbm, ⟨0, _⟩ => ⟨S8x2048x3072, .fp8e5m2⟩
  | .hbm, ⟨1, _⟩ => ⟨S8x2048, .f32⟩
  | .hbm, ⟨2, _⟩ => ⟨S8x2048x8192, .fp8e4m3⟩
  | .hbm, ⟨3, _⟩ => ⟨S8x2048, .f32⟩
  | .hbm, ⟨4, _⟩ => ⟨S8192x3072, .fp8e4m3⟩
  | .hbm, ⟨5, _⟩ => ⟨S3072, .f32⟩
  | .hbm, ⟨6, _⟩ => ⟨S16384x3072, .fp8e5m2⟩
  | .hbm, ⟨7, _⟩ => ⟨S16384x1, .f32⟩
  | .hbm, ⟨8, _⟩ => ⟨S16384x8192, .fp8e4m3⟩
  | .hbm, ⟨9, _⟩ => ⟨S16384x1, .f32⟩
  | .hbm, ⟨10, _⟩ => ⟨S1x3072, .f32⟩
  | .hbm, ⟨11, _⟩ => ⟨S16384x8192, .fp8e5m2⟩
  | .hbm, ⟨12, _⟩ => ⟨S16384x1, .f32⟩
  | .local _ .vmem, ⟨0, _⟩ => ⟨S16384x3072, .fp8e5m2⟩
  | .local _ .vmem, ⟨1, _⟩ => ⟨S16384x1, .f32⟩
  | .local _ .vmem, ⟨2, _⟩ => ⟨S16384x8192, .fp8e4m3⟩
  | .local _ .vmem, ⟨3, _⟩ => ⟨S16384x1, .f32⟩
  | .local _ .vmem, ⟨4, _⟩ => ⟨S8192x3072, .fp8e4m3⟩
  | .local _ .vmem, ⟨5, _⟩ => ⟨S1x3072, .f32⟩
  | .local _ .vmem, ⟨6, _⟩ => ⟨S16384x8192, .fp8e5m2⟩
  | .local _ .vmem, ⟨7, _⟩ => ⟨S16384x1, .f32⟩
  | _, _ => ⟨S8x2048x3072, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "a_3" => some ((26829 / 200000 : ℝ) : EReal)
  | "gelu_a" => some ((8943 / 200000 : ℝ) : EReal)
  | "gelu_c" => some ((3989422804014327 / 5000000000000000 : ℝ) : EReal)
  | "inv_max" => some ((1 / 57344 : ℝ) : EReal)
  | "ln2" => some ((Real.log 2 : ℝ) : EReal)
  | _ => none

abbrev grid0 : Pipeline.Grid := .none

abbrev stage0_0 : Fin 1 → Memref sig .tc .vmem S16384x3072 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x8192 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Sums.lean ====
/- Sums and products of extended reals, as the proofs of the weight-gradient kernels use them. -/
module

public import Idealize.ShloMosaic.Lib.Pipeline.ValueKit
public import Idealize.ShloMosaic.Lib.Pointwise

@[expose] public section

namespace Cert.Sums

open Finset

/-- A factor that is finite and not negative distributes over a sum, whatever the summands are. -/
theorem mul_sum {ι : Type*} (g : EReal) (h0 : 0 ≤ g) (h1 : g ≠ ⊤) (s : Finset ι) (f : ι → EReal) :
    g * ∑ k ∈ s, f k = ∑ k ∈ s, g * f k := by
  classical
  induction s using Finset.induction_on with
  | empty => simp
  | insert a s ha ih => rw [sum_insert ha, sum_insert ha, EReal.left_distrib_of_nonneg_of_ne_top h0 h1, ih]

/-- Each block's partial sum scaled by the factor, the blocks then added: the factor times the sum over the whole axis. -/
theorem scaled_blocks {S n L : ℕ} (g : EReal) (h0 : 0 ≤ g) (h1 : g ≠ ⊤) (f : Fin L → EReal) (hL : L = S * n)
    (F : ℕ → EReal) (hF : ∀ (s : Fin S), F s.val = g * ∑ k : Fin n, f ⟨s.val * n + k.val, Fin.mul_add_lt_of_eq_mul hL s k⟩) :
    ∑ s ∈ range S, F s = g * ∑ l : Fin L, f l := by
  rw [← Fin.sum_mul_add_fin S n f hL, mul_sum g h0 h1, ← Fin.sum_univ_eq_sum_range]
  exact sum_congr rfl fun s _ => hF s

/-- The two orders in which a row's scales meet its data. -/
theorem mul_regroup (x z a b : EReal) : x * (a * b) * z = x * a * (z * b) := by
  ac_rfl

/-- The two tests of a precondition «finite and not negative», read off their conjunction. -/
theorem nonneg_of_tests {a b : EReal}
    (h : Idealize.ShloMosaic.IntOp.andi (BitVec.ofBool (decide (0 ≤ a))) (BitVec.ofBool (decide (a < b))) = 1#1) : 0 ≤ a ∧ a ≠ ⊤ := by
  by_cases h0 : 0 ≤ a
  · by_cases h1 : a < b
    · exact ⟨h0, ne_top_of_lt h1⟩
    · exfalso
      rw [decide_eq_true h0, decide_eq_false h1] at h
      exact absurd h (by decide)
  · exfalso
    rw [decide_eq_false h0] at h
    by_cases h1 : a < b
    · rw [decide_eq_true h1] at h
      exact absurd h (by decide)
    · rw [decide_eq_false h1] at h
      exact absurd h (by decide)

end Cert.Sums

end
-- ==== Proof.DwOutValue.lean ====
/- What the blocked weight-gradient kernel of the MLP output projection leaves in its result, as one formula. -/
module

public import proofs.«01_k».proof.Proof.Sums
public import proofs.«01_k».proof.Proof.Gen.DwOutIdeal.Value
public import Idealize.ShloMosaic.Lib.Claim

@[expose] public section

set_option maxRecDepth 16384

noncomputable section

namespace Cert.DwOutIdeal.Value

open Cert.DwOutIdeal Cert.DwOutIdeal.Gen Idealize.ShloMosaic Idealize.ShloMosaic.TcCoe Idealize.SL.Sem

variable (m : (ℓ : Loc nD τ sig) → Buf (Elt Ideal) ℓ) (c : Dev nD)

/-- The arrays as the grid finds them: the activations' codes and their folded scales, the incoming gradient's codes,
    the accumulator and the rows' gains. -/
abbrev arrX : S16384x8192.Idx → EReal := V m c main_v1
abbrev arrC : S16384x1.Idx → EReal := V m c main_v3
abbrev arrZ : S16384x3072.Idx → EReal := V m c main_v0
abbrev arrA : S8192x3072.Idx → EReal := V m c main_arg4
abbrev arrG : S8192x1.Idx → EReal := V m c main_v4

/-- The accumulator's block at a point. -/
abbrev accBlk (t : Fin cfg0.N) : S1024x1536.Idx → EReal := iblk m c 3 t

/-- One point's addend: the row's gain times the product of the point's two blocks. -/
def addend (x : Vec Ideal S1024x1024 .fp8e4m3) (s : Vec Ideal S1024x1 .f32) (g : Vec Ideal S1024x1 .f32)
    (z : Vec Ideal S1024x1536 .fp8e5m2) (j : S1024x1536.Idx) : EReal :=
  g (ix2 (j 0) 0) * ∑ k : Fin 1024, x (ix2 k (j 0)) * s (ix2 k 0) * z (ix2 k (j 1))

/-- The body's store at an index. -/
theorem pay_apply (x : Vec Ideal S1024x1024 .fp8e4m3) (s : Vec Ideal S1024x1 .f32) (acc : Vec Ideal S1024x1536 .f32)
    (g : Vec Ideal S1024x1 .f32) (z : Vec Ideal S1024x1536 .fp8e5m2) (j : S1024x1536.Idx) :
    k0_pay1 (F := Ideal) x s acc g z j = (acc j + addend x s g z j : EReal) := by
  unfold addend
  pointwise [k0_pay1]

/-- Where each window's block lies. -/
theorem idx : ∀ t : Fin cfg0.N, win0_0.index t = ![t.val % 16, t.val / 32] ∧ win0_1.index t = ![t.val % 16, 0]
    ∧ win0_2.index t = ![t.val % 16, t.val / 16 % 2] ∧ win0_3.index t = ![t.val / 32, t.val / 16 % 2] ∧ win0_4.index t = ![t.val / 32, 0] :=
  (by decide +kernel : ∀ t : Fin grid0.N, _)

/-- The addend of point `n`. -/
def term (n : ℕ) (j : S1024x1536.Idx) : EReal :=
  if h : n < cfg0.N then addend (iblk m c 0 ⟨n, h⟩) (iblk m c 1 ⟨n, h⟩) (iblk m c 4 ⟨n, h⟩) (iblk m c 2 ⟨n, h⟩) j else 0

/-- The fold of one run: the accumulator's block and the sum of the points' addends. -/
theorem fold_apply (b : ℕ) (h : b + 15 < cfg0.N) (j : S1024x1536.Idx) :
    Pipeline.accAt (reset5 m c) (step5 m c) b 15 h j
      = (accBlk m c ⟨b, by omega⟩ j + ∑ s ∈ Finset.range 16, term m c (b + s) j : EReal) := by
  refine Pipeline.accAt_add_apply (β := EReal) (reset5 m c) (step5 m c) (accBlk m c ⟨b, by omega⟩) (term m c) b 15 ?_ ?_ 15 le_rfl h j
  · intro h i
    unfold reset5 term
    rw [dif_pos h, pay_apply]
  · intro n h acc i _ _
    unfold step5 term
    rw [dif_pos h, pay_apply]

theorem read0 (t : Fin cfg0.N) (k : Fin 1024) (i : Fin 1024) (hk : t.val % 16 * 1024 + k.val < 16384) (hi : t.val / 32 * 1024 + i.val < 8192) :
    (iblk m c 0 t : Vec Ideal S1024x1024 .fp8e4m3) (ix2 k i) = arrX m c (ix2 ⟨_, hk⟩ ⟨_, hi⟩) := by
  blk_ext [iblk, idx t]

theorem read1 (t : Fin cfg0.N) (k : Fin 1024) (hk : t.val % 16 * 1024 + k.val < 16384) :
    (iblk m c 1 t : Vec Ideal S1024x1 .f32) (ix2 k 0) = arrC m c (ix2 ⟨_, hk⟩ 0) := by
  blk_ext [iblk, idx t]

theorem read2 (t : Fin cfg0.N) (k : Fin 1024) (j : Fin 1536) (hk : t.val % 16 * 1024 + k.val < 16384) (hj : t.val / 16 % 2 * 1536 + j.val < 3072) :
    (iblk m c 2 t : Vec Ideal S1024x1536 .fp8e5m2) (ix2 k j) = arrZ m c (ix2 ⟨_, hk⟩ ⟨_, hj⟩) := by
  blk_ext [iblk, idx t]

theorem read3 (t : Fin cfg0.N) (i : Fin 1024) (j : Fin 1536) (hi : t.val / 32 * 1024 + i.val < 8192) (hj : t.val / 16 % 2 * 1536 + j.val < 3072) :
    accBlk m c t (ix2 i j) = arrA m c (ix2 ⟨_, hi⟩ ⟨_, hj⟩) := by
  blk_ext [iblk, idx t]

theorem read4 (t : Fin cfg0.N) (i : Fin 1024) (hi : t.val / 32 * 1024 + i.val < 8192) :
    (iblk m c 4 t : Vec Ideal S1024x1 .f32) (ix2 i 0) = arrG m c (ix2 ⟨_, hi⟩ 0) := by
  blk_ext [iblk, idx t]

/-- The result array, element by element: the accumulator and the gain times the contraction over all the tokens. -/
theorem G5_apply (h0 : ∀ p : Fin 8192, (0 : EReal) ≤ arrG m c (ix2 p 0))
    (h1 : ∀ p : Fin 8192, (arrG m c (ix2 p 0) : EReal) ≠ ⊤) (p : Fin 8192) (q : Fin 3072) :
    (G5 m c : Vec Ideal S8192x3072 .f32) (ix2 p q)
      = (arrA m c (ix2 p q)
        + arrG m c (ix2 p 0)
          * ∑ t : Fin 16384, arrX m c (ix2 t p) * arrC m c (ix2 t 0)
              * arrZ m c (ix2 t q) : EReal) := by
  have hp := p.isLt
  have hq := q.isLt
  have hN : cfg0.N = 256 := N_0
  have hr : run5Of (ix2 p q) = 2 * (p.val / 1024) + q.val / 1536 := by
    show 2 * (p.val / 1024 - 0) + 1 * (q.val / 1536 - 0) = _
    omega
  have hl : loc5Of (ix2 p q) = (ix2 ⟨p.val % 1024, by omega⟩ ⟨q.val % 1536, by omega⟩ : S1024x1536.Idx) := by
    funext a; match a with
    | ⟨0, _⟩ => rfl
    | ⟨1, _⟩ => rfl
  have h : 16 * run5Of (ix2 p q) + 15 < cfg0.N := by rw [hr, hN]; omega
  unfold G5
  rw [dif_pos h, fold_apply, hl]
  rw [read3 m c ⟨_, _⟩ ⟨p.val % 1024, by omega⟩ ⟨q.val % 1536, by omega⟩ (by dsimp only; rw [hr]; omega) (by dsimp only; rw [hr]; omega)]
  refine congrArg₂ (fun a b : EReal => a + b) ?_ ?_
  · congr 2
    · apply Fin.ext; dsimp only; rw [hr]; omega
    · apply Fin.ext; dsimp only; rw [hr]; omega
  · refine Sums.scaled_blocks (S := 16) (n := 1024) _ (h0 p) (h1 p) _ rfl _ fun s => ?_
    have hs := s.isLt
    have hb : 16 * run5Of (ix2 p q) + s.val < cfg0.N := by omega
    have e0 : (16 * run5Of (ix2 p q) + s.val) % 16 = s.val := by omega
    have e1 : (16 * run5Of (ix2 p q) + s.val) / 32 = p.val / 1024 := by rw [hr]; omega
    have e2 : (16 * run5Of (ix2 p q) + s.val) / 16 % 2 = q.val / 1536 := by rw [hr]; omega
    unfold term
    rw [dif_pos hb]
    unfold addend
    refine congrArg₂ (fun a b : EReal => a * b) ?_ (Finset.sum_congr rfl fun k _ => ?_)
    · refine (read4 m c ⟨_, hb⟩ _ ?_).trans ?_
      · show (16 * run5Of (ix2 p q) + s.val) / 32 * 1024 + p.val % 1024 < 8192
        omega
      · congr 2; apply Fin.ext
        show (16 * run5Of (ix2 p q) + s.val) / 32 * 1024 + p.val % 1024 = p.val
        omega
    · have hk := k.isLt
      refine congrArg₂ (fun a b : EReal => a * b) (congrArg₂ (fun a b : EReal => a * b) ?_ ?_) ?_
      · refine (read0 m c ⟨_, hb⟩ k _ ?_ ?_).trans ?_
        · show (16 * run5Of (ix2 p q) + s.val) % 16 * 1024 + k.val < 16384
          omega
        · show (16 * run5Of (ix2 p q) + s.val) / 32 * 1024 + p.val % 1024 < 8192
          omega
        · congr 2
          · apply Fin.ext
            show (16 * run5Of (ix2 p q) + s.val) % 16 * 1024 + k.val = s.val * 1024 + k.val
            omega
          · apply Fin.ext
            show (16 * run5Of (ix2 p q) + s.val) / 32 * 1024 + p.val % 1024 = p.val
            omega
      · refine (read1 m c ⟨_, hb⟩ k ?_).trans ?_
        · show (16 * run5Of (ix2 p q) + s.val) % 16 * 1024 + k.val < 16384
          omega
        · congr 2
          apply Fin.ext
          show (16 * run5Of (ix2 p q) + s.val) % 16 * 1024 + k.val = s.val * 1024 + k.val
          omega
      · refine (read2 m c ⟨_, hb⟩ k _ ?_ ?_).trans ?_
        · show (16 * run5Of (ix2 p q) + s.val) % 16 * 1024 + k.val < 16384
          omega
        · show (16 * run5Of (ix2 p q) + s.val) / 16 % 2 * 1536 + q.val % 1536 < 3072
          omega
        · congr 2
          · apply Fin.ext
            show (16 * run5Of (ix2 p q) + s.val) % 16 * 1024 + k.val = s.val * 1024 + k.val
            omega
          · apply Fin.ext
            show (16 * run5Of (ix2 p q) + s.val) / 16 % 2 * 1536 + q.val % 1536 = q.val
            omega

/-- The arrays in terms of the arguments. -/
theorem arrX_eq : arrX m c = shapeCast S16384x8192 (m ((c : Thread nD τ).loc main_arg2)) shapeCasts_S8x2048x8192_S16384x8192 := by
  show V m c main_v1 = _
  unfold_abbrev_sides
  after_results
  rfl
theorem arrZ_eq : arrZ m c = shapeCast S16384x3072 (m ((c : Thread nD τ).loc main_arg0)) shapeCasts_S8x2048x3072_S16384x3072 := by
  show V m c main_v0 = _
  unfold_abbrev_sides
  after_results
  rfl
theorem arrC_eq : arrC m c = shapeCast S16384x1 (mulf (F := Ideal) (s := S8x2048) (φ := .f32) (m ((c : Thread nD τ).loc main_arg3)) (m ((c : Thread nD τ).loc main_arg1))) shapeCasts_S8x2048_S16384x1 := by
  show V m c main_v3 = _
  unfold_abbrev_sides
  after_results
  rfl
theorem arrA_eq : arrA m c = m ((c : Thread nD τ).loc main_arg4) := V_main_arg4 m c
theorem arrG_apply (i : S8192x1.Idx) : arrG m c i = 1 := by
  have h : arrG m c = broadcastInDim S8192x1 ![] bcast_S_S8192x1 (constant (F := Ideal) S_ .f32 0x3F800000#32) := by
    show V m c main_v4 = _
    unfold_abbrev_sides
    after_results
  rw [h]
  pointwise

end Cert.DwOutIdeal.Value

end
-- ==== Proof.DwOutEq.lean ====
/- The weight gradient of the MLP output projection: the blocked kernel's result is the reference's. -/
module

public import proofs.«01_k».proof.Proof.DwOutValue
public import proofs.«01_k».proof.Proof.Gen.DwOutRefIdeal.Value
public import proofs.«01_k».proof.Proof.Gen.DwOut
public import proofs.«01_k».proof.Defs
public import Idealize.ShloMosaic.Lib.Claim

@[expose] public section

set_option maxRecDepth 16384

noncomputable section

namespace Cert.DwOutRefIdeal.Value

open Cert.DwOutRefIdeal Cert.DwOutRefIdeal.Gen Idealize.ShloMosaic Idealize.ShloMosaic.TcCoe Idealize.SL.Sem

variable (m : (ℓ : Loc nD τ sig) → Buf (Elt Ideal) ℓ) (c : Dev nD)

/-- The arrays as the reference's call finds them: the incoming gradient's codes and scales, the activations' codes and
    scales, the accumulator. -/
abbrev arrZ : S16384x3072.Idx → EReal := V m c main_v0
abbrev arrZs : S16384x1.Idx → EReal := V m c main_v1
abbrev arrX : S16384x8192.Idx → EReal := V m c main_v2
abbrev arrXs : S16384x1.Idx → EReal := V m c main_v3
abbrev arrA : S8192x3072.Idx → EReal := V m c main_arg4

/-- The reference's result, element by element. -/
def G (p : Fin 8192) (q : Fin 3072) : EReal :=
  arrA m c (ix2 p q) + ∑ t : Fin 16384, arrX m c (ix2 t p) * arrXs m c (ix2 t 0) * (arrZ m c (ix2 t q) * arrZs m c (ix2 t 0))

/-- The arrays in terms of the arguments. -/
theorem arrZ_eq : arrZ m c = shapeCast S16384x3072 (m ((c : Thread nD τ).loc main_arg0)) shapeCasts_S8x2048x3072_S16384x3072 := by
  show V m c main_v0 = _
  unfold_abbrev_sides
  after_results
  rfl
theorem arrZs_eq : arrZs m c = shapeCast S16384x1 (m ((c : Thread nD τ).loc main_arg1)) shapeCasts_S8x2048_S16384x1 := by
  show V m c main_v1 = _
  unfold_abbrev_sides
  after_results
  rfl
theorem arrX_eq : arrX m c = shapeCast S16384x8192 (m ((c : Thread nD τ).loc main_arg2)) shapeCasts_S8x2048x8192_S16384x8192 := by
  show V m c main_v2 = _
  unfold_abbrev_sides
  after_results
  rfl
theorem arrXs_eq : arrXs m c = shapeCast S16384x1 (m ((c : Thread nD τ).loc main_arg3)) shapeCasts_S8x2048_S16384x1 := by
  show V m c main_v3 = _
  unfold_abbrev_sides
  after_results
  rfl
theorem arrA_eq : arrA m c = m ((c : Thread nD τ).loc main_arg4) := V_main_arg4 m c

/-- Every window has one block, at the origin. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- Each input's one block is its array. -/
theorem blk0 (t : Fin cfg0.N) : (iblk m c 0 t : S16384x3072.Idx → EReal) = arrZ m c := by
  funext y; blk_ext [iblk, idx t]
theorem blk1 (t : Fin cfg0.N) : (iblk m c 1 t : S16384x1.Idx → EReal) = arrZs m c := by
  funext y; blk_ext [iblk, idx t]
theorem blk2 (t : Fin cfg0.N) : (iblk m c 2 t : S16384x8192.Idx → EReal) = arrX m c := by
  funext y; blk_ext [iblk, idx t]
theorem blk3 (t : Fin cfg0.N) : (iblk m c 3 t : S16384x1.Idx → EReal) = arrXs m c := by
  funext y; blk_ext [iblk, idx t]
theorem blk4 (t : Fin cfg0.N) : (iblk m c 4 t : S8192x3072.Idx → EReal) = arrA m c := by
  funext y; blk_ext [iblk, idx t]

/-- The body's store at an index. -/
theorem pay_apply (z : Vec Ideal S16384x3072 .fp8e5m2) (zs : Vec Ideal S16384x1 .f32) (x : Vec Ideal S16384x8192 .fp8e4m3)
    (xs : Vec Ideal S16384x1 .f32) (acc : Vec Ideal S8192x3072 .f32) (j : S8192x3072.Idx) :
    k0_pay1 (F := Ideal) z zs x xs acc j
      = (acc j + ∑ t : Fin 16384, x (ix2 t (j 0)) * xs (ix2 t 0) * (z (ix2 t (j 1)) * zs (ix2 t 0)) : EReal) := by
  pointwise [k0_pay1]

theorem final : (dats m 0 c).arrAt 5 cfg0.N = (fun i => G m c (i 0) (i 1) : S8192x3072.Idx → EReal) := by
  refine (dats m 0 c).arrAt_eq_of_covers 5 _ (by decide +kernel) fun t hf y => ?_
  blk_simp
  rw [after0_5]
  frame_out
  have e : (((View.whole main_v4).slice (win0_5.rect t)).emb y : S8192x3072.Idx) = y := by
    blk_ext [idx t]
  rw [e]
  refine (congrFun (congr (congr (congr (congr (congrArg (k0_pay1 (F := Ideal)) (blk0 m c t)) (blk1 m c t)) (blk2 m c t)) (blk3 m c t)) (blk4 m c t)) y).trans ?_
  rw [pay_apply]
  unfold G
  rw [← eq_ix2 y]

/-- The run, its result read. -/
theorem run (ρ : Dev nD → PrngReg) : θ_run defs (onTc (τ := τ) (main (F := Ideal))) ⟨m, fun _ => 0, ρ⟩ fun r => ∀ c : Dev nD,
      r.2.mem ((c : Thread nD τ).loc main_v4) = (fun i => G m c (i 0) (i 1) : S8192x3072.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.DwOutRefIdeal.Value

namespace Cert.Proof

open Idealize.ShloMosaic Idealize.ShloMosaic.TcCoe Idealize.SL.Sem

open Cert.DwOutRefIdeal.Value in
theorem dw_out : Cert.algebraic_DwOutIdeal_DwOutRefIdeal (hDwOutIdeal := Cert.DwOutIdeal.Gen.facts) (hDwOutRefIdeal := Cert.DwOutRefIdeal.Gen.facts) := by
  pair_intro
  · run_from Cert.DwOutIdeal.Value.run m g
  · run_from Cert.DwOutRefIdeal.Value.run m' g'
    obtain ⟨a0, a1, a2, a3, a4⟩ := hagree c
    have hX : Cert.DwOutRefIdeal.Value.arrX m' c = Cert.DwOutIdeal.Value.arrX m c := by
      rw [Cert.DwOutRefIdeal.Value.arrX_eq, Cert.DwOutIdeal.Value.arrX_eq]
      exact congrArg (fun x => shapeCast _ x _) a2
    have hZ : Cert.DwOutRefIdeal.Value.arrZ m' c = Cert.DwOutIdeal.Value.arrZ m c := by
      rw [Cert.DwOutRefIdeal.Value.arrZ_eq, Cert.DwOutIdeal.Value.arrZ_eq]
      exact congrArg (fun x => shapeCast _ x _) a0
    have hA : Cert.DwOutRefIdeal.Value.arrA m' c = Cert.DwOutIdeal.Value.arrA m c :=
      (Cert.DwOutRefIdeal.Value.arrA_eq m' c).trans (a4.trans (Cert.DwOutIdeal.Value.arrA_eq m c).symm)
    have hC : ∀ t : Fin 16384, Cert.DwOutIdeal.Value.arrC m c (ix2 t 0)
        = Cert.DwOutRefIdeal.Value.arrXs m' c (ix2 t 0) * Cert.DwOutRefIdeal.Value.arrZs m' c (ix2 t 0) := by
      intro t
      rw [Cert.DwOutIdeal.Value.arrC_eq, Cert.DwOutRefIdeal.Value.arrXs_eq, Cert.DwOutRefIdeal.Value.arrZs_eq, ← a1, ← a3]
      rfl
    have hG := Cert.DwOutIdeal.Value.arrG_apply m c
    funext i
    obtain ⟨p, q, rfl⟩ : ∃ (p : Fin 8192) (q : Fin 3072), i = ix2 p q := ⟨i 0, i 1, eq_ix2 i⟩
    refine Eq.trans ?_ (Cert.DwOutIdeal.Value.G5_apply m c (fun p => by rw [hG]; exact zero_le_one) (fun p => by rw [hG]; exact EReal.coe_ne_top 1) p q).symm
    show Cert.DwOutRefIdeal.Value.G m' c p q = _
    unfold Cert.DwOutRefIdeal.Value.G
    rw [hG, one_mul, hX, hZ, hA]
    refine congrArg₂ (fun a b : EReal => a + b) rfl (Finset.sum_congr rfl fun t _ => ?_)
    rw [hC, Sums.mul_regroup]

end Cert.Proof

end
-- ==== Proof.DwInValue.lean ====
/- What the blocked weight-gradient kernel of the MLP input projection leaves in its result, as one formula. -/
module

public import proofs.«01_k».proof.Proof.Sums
public import proofs.«01_k».proof.Proof.Gen.DwInIdeal.Value
public import Idealize.ShloMosaic.Lib.Claim

@[expose] public section

set_option maxRecDepth 16384

noncomputable section

namespace Cert.DwInIdeal.Value

open Cert.DwInIdeal Cert.DwInIdeal.Gen Idealize.ShloMosaic Idealize.ShloMosaic.TcCoe Idealize.SL.Sem

variable (m : (ℓ : Loc nD τ sig) → Buf (Elt Ideal) ℓ) (c : Dev nD)

/-- The arrays as the grid finds them: the activations' codes and their folded scales, the incoming gradient's codes,
    the accumulator and the rows' gains. -/
abbrev arrX : S16384x3072.Idx → EReal := V m c main_v0
abbrev arrC : S16384x1.Idx → EReal := V m c main_v3
abbrev arrZ : S16384x8192.Idx → EReal := V m c main_arg2
abbrev arrA : S3072x8192.Idx → EReal := V m c main_arg5
abbrev arrG : S3072x1.Idx → EReal := V m c main_v1

/-- The accumulator's block at a point. -/
abbrev accBlk (t : Fin cfg0.N) : S1536x1024.Idx → EReal := iblk m c 3 t

/-- One point's addend: the row's gain times the product of the point's two blocks. -/
def addend (x : Vec Ideal S1024x1536 .fp8e4m3) (s : Vec Ideal S1024x1 .f32) (g : Vec Ideal S1536x1 .f32)
    (z : Vec Ideal S1024x1024 .fp8e5m2) (j : S1536x1024.Idx) : EReal :=
  g (ix2 (j 0) 0) * ∑ k : Fin 1024, x (ix2 k (j 0)) * s (ix2 k 0) * z (ix2 k (j 1))

/-- The body's store at an index. -/
theorem pay_apply (x : Vec Ideal S1024x1536 .fp8e4m3) (s : Vec Ideal S1024x1 .f32) (acc : Vec Ideal S1536x1024 .f32)
    (g : Vec Ideal S1536x1 .f32) (z : Vec Ideal S1024x1024 .fp8e5m2) (j : S1536x1024.Idx) :
    k0_pay1 (F := Ideal) x s acc g z j = (acc j + addend x s g z j : EReal) := by
  unfold addend
  pointwise [k0_pay1]

/-- Where each window's block lies. -/
theorem idx : ∀ t : Fin cfg0.N, win0_0.index t = ![t.val % 16, t.val / 128] ∧ win0_1.index t = ![t.val % 16, 0]
    ∧ win0_2.index t = ![t.val % 16, t.val / 16 % 8] ∧ win0_3.index t = ![t.val / 128, t.val / 16 % 8] ∧ win0_4.index t = ![t.val / 128, 0] :=
  (by decide +kernel : ∀ t : Fin grid0.N, _)

/-- The addend of point `n`. -/
def term (n : ℕ) (j : S1536x1024.Idx) : EReal :=
  if h : n < cfg0.N then addend (iblk m c 0 ⟨n, h⟩) (iblk m c 1 ⟨n, h⟩) (iblk m c 4 ⟨n, h⟩) (iblk m c 2 ⟨n, h⟩) j else 0

/-- The fold of one run: the accumulator's block and the sum of the points' addends. -/
theorem fold_apply (b : ℕ) (h : b + 15 < cfg0.N) (j : S1536x1024.Idx) :
    Pipeline.accAt (reset5 m c) (step5 m c) b 15 h j
      = (accBlk m c ⟨b, by omega⟩ j + ∑ s ∈ Finset.range 16, term m c (b + s) j : EReal) := by
  refine Pipeline.accAt_add_apply (β := EReal) (reset5 m c) (step5 m c) (accBlk m c ⟨b, by omega⟩) (term m c) b 15 ?_ ?_ 15 le_rfl h j
  · intro h i
    unfold reset5 term
    rw [dif_pos h, pay_apply]
  · intro n h acc i _ _
    unfold step5 term
    rw [dif_pos h, pay_apply]

theorem read0 (t : Fin cfg0.N) (k : Fin 1024) (i : Fin 1536) (hk : t.val % 16 * 1024 + k.val < 16384) (hi : t.val / 128 * 1536 + i.val < 3072) :
    (iblk m c 0 t : Vec Ideal S1024x1536 .fp8e4m3) (ix2 k i) = arrX m c (ix2 ⟨_, hk⟩ ⟨_, hi⟩) := by
  blk_ext [iblk, idx t]

theorem read1 (t : Fin cfg0.N) (k : Fin 1024) (hk : t.val % 16 * 1024 + k.val < 16384) :
    (iblk m c 1 t : Vec Ideal S1024x1 .f32) (ix2 k 0) = arrC m c (ix2 ⟨_, hk⟩ 0) := by
  blk_ext [iblk, idx t]

theorem read2 (t : Fin cfg0.N) (k : Fin 1024) (j : Fin 1024) (hk : t.val % 16 * 1024 + k.val < 16384) (hj : t.val / 16 % 8 * 1024 + j.val < 8192) :
    (iblk m c 2 t : Vec Ideal S1024x1024 .fp8e5m2) (ix2 k j) = arrZ m c (ix2 ⟨_, hk⟩ ⟨_, hj⟩) := by
  blk_ext [iblk, idx t]

theorem read3 (t : Fin cfg0.N) (i : Fin 1536) (j : Fin 1024) (hi : t.val / 128 * 1536 + i.val < 3072) (hj : t.val / 16 % 8 * 1024 + j.val < 8192) :
    accBlk m c t (ix2 i j) = arrA m c (ix2 ⟨_, hi⟩ ⟨_, hj⟩) := by
  blk_ext [iblk, idx t]

theorem read4 (t : Fin cfg0.N) (i : Fin 1536) (hi : t.val / 128 * 1536 + i.val < 3072) :
    (iblk m c 4 t : Vec Ideal S1536x1 .f32) (ix2 i 0) = arrG m c (ix2 ⟨_, hi⟩ 0) := by
  blk_ext [iblk, idx t]

/-- The result array, element by element: the accumulator and the gain times the contraction over all the tokens. -/
theorem G5_apply (h0 : ∀ p : Fin 3072, (0 : EReal) ≤ arrG m c (ix2 p 0))
    (h1 : ∀ p : Fin 3072, (arrG m c (ix2 p 0) : EReal) ≠ ⊤) (p : Fin 3072) (q : Fin 8192) :
    (G5 m c : Vec Ideal S3072x8192 .f32) (ix2 p q)
      = (arrA m c (ix2 p q)
        + arrG m c (ix2 p 0)
          * ∑ t : Fin 16384, arrX m c (ix2 t p) * arrC m c (ix2 t 0)
              * arrZ m c (ix2 t q) : EReal) := by
  have hp := p.isLt
  have hq := q.isLt
  have hN : cfg0.N = 256 := N_0
  have hr : run5Of (ix2 p q) = 8 * (p.val / 1536) + q.val / 1024 := by
    show 8 * (p.val / 1536 - 0) + 1 * (q.val / 1024 - 0) = _
    omega
  have hl : loc5Of (ix2 p q) = (ix2 ⟨p.val % 1536, by omega⟩ ⟨q.val % 1024, by omega⟩ : S1536x1024.Idx) := by
    funext a; match a with
    | ⟨0, _⟩ => rfl
    | ⟨1, _⟩ => rfl
  have h : 16 * run5Of (ix2 p q) + 15 < cfg0.N := by rw [hr, hN]; omega
  unfold G5
  rw [dif_pos h, fold_apply, hl]
  rw [read3 m c ⟨_, _⟩ ⟨p.val % 1536, by omega⟩ ⟨q.val % 1024, by omega⟩ (by dsimp only; rw [hr]; omega) (by dsimp only; rw [hr]; omega)]
  refine congrArg₂ (fun a b : EReal => a + b) ?_ ?_
  · congr 2
    · apply Fin.ext; dsimp only; rw [hr]; omega
    · apply Fin.ext; dsimp only; rw [hr]; omega
  · refine Sums.scaled_blocks (S := 16) (n := 1024) _ (h0 p) (h1 p) _ rfl _ fun s => ?_
    have hs := s.isLt
    have hb : 16 * run5Of (ix2 p q) + s.val < cfg0.N := by omega
    have e0 : (16 * run5Of (ix2 p q) + s.val) % 16 = s.val := by omega
    have e1 : (16 * run5Of (ix2 p q) + s.val) / 128 = p.val / 1536 := by rw [hr]; omega
    have e2 : (16 * run5Of (ix2 p q) + s.val) / 16 % 8 = q.val / 1024 := by rw [hr]; omega
    unfold term
    rw [dif_pos hb]
    unfold addend
    refine congrArg₂ (fun a b : EReal => a * b) ?_ (Finset.sum_congr rfl fun k _ => ?_)
    · refine (read4 m c ⟨_, hb⟩ _ ?_).trans ?_
      · show (16 * run5Of (ix2 p q) + s.val) / 128 * 1536 + p.val % 1536 < 3072
        omega
      · congr 2; apply Fin.ext
        show (16 * run5Of (ix2 p q) + s.val) / 128 * 1536 + p.val % 1536 = p.val
        omega
    · have hk := k.isLt
      refine congrArg₂ (fun a b : EReal => a * b) (congrArg₂ (fun a b : EReal => a * b) ?_ ?_) ?_
      · refine (read0 m c ⟨_, hb⟩ k _ ?_ ?_).trans ?_
        · show (16 * run5Of (ix2 p q) + s.val) % 16 * 1024 + k.val < 16384
          omega
        · show (16 * run5Of (ix2 p q) + s.val) / 128 * 1536 + p.val % 1536 < 3072
          omega
        · congr 2
          · apply Fin.ext
            show (16 * run5Of (ix2 p q) + s.val) % 16 * 1024 + k.val = s.val * 1024 + k.val
            omega
          · apply Fin.ext
            show (16 * run5Of (ix2 p q) + s.val) / 128 * 1536 + p.val % 1536 = p.val
            omega
      · refine (read1 m c ⟨_, hb⟩ k ?_).trans ?_
        · show (16 * run5Of (ix2 p q) + s.val) % 16 * 1024 + k.val < 16384
          omega
        · congr 2
          apply Fin.ext
          show (16 * run5Of (ix2 p q) + s.val) % 16 * 1024 + k.val = s.val * 1024 + k.val
          omega
      · refine (read2 m c ⟨_, hb⟩ k _ ?_ ?_).trans ?_
        · show (16 * run5Of (ix2 p q) + s.val) % 16 * 1024 + k.val < 16384
          omega
        · show (16 * run5Of (ix2 p q) + s.val) / 16 % 8 * 1024 + q.val % 1024 < 8192
          omega
        · congr 2
          · apply Fin.ext
            show (16 * run5Of (ix2 p q) + s.val) % 16 * 1024 + k.val = s.val * 1024 + k.val
            omega
          · apply Fin.ext
            show (16 * run5Of (ix2 p q) + s.val) / 16 % 8 * 1024 + q.val % 1024 = q.val
            omega

/-- The arrays in terms of the arguments. -/
theorem arrX_eq : arrX m c = shapeCast S16384x3072 (m ((c : Thread nD τ).loc main_arg0)) shapeCasts_S8x2048x3072_S16384x3072 := by
  show V m c main_v0 = _
  unfold_abbrev_sides
  after_results
  rfl
theorem arrZ_eq : arrZ m c = m ((c : Thread nD τ).loc main_arg2) := V_main_arg2 m c
theorem arrC_eq : arrC m c = mulf (F := Ideal) (s := S16384x1) (φ := .f32) (shapeCast S16384x1 (m ((c : Thread nD τ).loc main_arg1)) shapeCasts_S8x2048_S16384x1) (m ((c : Thread nD τ).loc main_arg3)) := by
  show V m c main_v3 = _
  unfold_abbrev_sides
  after_results
  rfl
theorem arrA_eq : arrA m c = m ((c : Thread nD τ).loc main_arg5) := V_main_arg5 m c
theorem arrG_eq : arrG m c = shapeCast S3072x1 (m ((c : Thread nD τ).loc main_arg4)) shapeCasts_S3072_S3072x1 := by
  show V m c main_v1 = _
  unfold_abbrev_sides
  after_results
  rfl

end Cert.DwInIdeal.Value

end
-- ==== Proof.DwInEq.lean ====
/- The weight gradient of the MLP input projection: the blocked kernel's result is the reference's. -/
module

public import proofs.«01_k».proof.Proof.DwInValue
public import proofs.«01_k».proof.Proof.Gen.DwInRefIdeal.Value
public import proofs.«01_k».proof.Proof.Gen.DwIn
public import proofs.«01_k».proof.Proof.Gen.Pre_gamma_nonneg_in
public import proofs.«01_k».proof.Defs
public import Idealize.ShloMosaic.Lib.Claim

@[expose] public section

set_option maxRecDepth 16384

noncomputable section

namespace Cert.DwInRefIdeal.Value

open Cert.DwInRefIdeal Cert.DwInRefIdeal.Gen Idealize.ShloMosaic Idealize.ShloMosaic.TcCoe Idealize.SL.Sem

variable (m : (ℓ : Loc nD τ sig) → Buf (Elt Ideal) ℓ) (c : Dev nD)

/-- The arrays as the reference's call finds them: the normalised input's codes and scales, the incoming gradient's codes
    and scales, the gain, the accumulator. -/
abbrev arrX : S16384x3072.Idx → EReal := V m c main_v0
abbrev arrXs : S16384x1.Idx → EReal := V m c main_v1
abbrev arrZ : S16384x8192.Idx → EReal := V m c main_arg2
abbrev arrZs : S16384x1.Idx → EReal := V m c main_arg3
abbrev arrG : S3072x1.Idx → EReal := V m c main_v2
abbrev arrA : S3072x8192.Idx → EReal := V m c main_arg5

/-- The reference's result, element by element. -/
def G (p : Fin 3072) (q : Fin 8192) : EReal :=
  arrA m c (ix2 p q) + arrG m c (ix2 p 0) * ∑ t : Fin 16384, arrX m c (ix2 t p) * arrXs m c (ix2 t 0) * (arrZ m c (ix2 t q) * arrZs m c (ix2 t 0))

/-- The arrays in terms of the arguments. -/
theorem arrX_eq : arrX m c = shapeCast S16384x3072 (m ((c : Thread nD τ).loc main_arg0)) shapeCasts_S8x2048x3072_S16384x3072 := by
  show V m c main_v0 = _
  unfold_abbrev_sides
  after_results
  rfl
theorem arrXs_eq : arrXs m c = shapeCast S16384x1 (m ((c : Thread nD τ).loc main_arg1)) shapeCasts_S8x2048_S16384x1 := by
  show V m c main_v1 = _
  unfold_abbrev_sides
  after_results
  rfl
theorem arrZ_eq : arrZ m c = m ((c : Thread nD τ).loc main_arg2) := V_main_arg2 m c
theorem arrZs_eq : arrZs m c = m ((c : Thread nD τ).loc main_arg3) := V_main_arg3 m c
theorem arrA_eq : arrA m c = m ((c : Thread nD τ).loc main_arg5) := V_main_arg5 m c
theorem arrG_eq : arrG m c = shapeCast S3072x1 (m ((c : Thread nD τ).loc main_arg4)) shapeCasts_S3072_S3072x1 := by
  show V m c main_v2 = _
  unfold_abbrev_sides
  after_results
  rfl

/-- Every window has one block, at the origin. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- Each input's one block is its array. -/
theorem blk0 (t : Fin cfg0.N) : (iblk m c 0 t : S16384x3072.Idx → EReal) = arrX m c := by
  funext y; blk_ext [iblk, idx t]
theorem blk1 (t : Fin cfg0.N) : (iblk m c 1 t : S16384x1.Idx → EReal) = arrXs m c := by
  funext y; blk_ext [iblk, idx t]
theorem blk2 (t : Fin cfg0.N) : (iblk m c 2 t : S16384x8192.Idx → EReal) = arrZ m c := by
  funext y; blk_ext [iblk, idx t]
theorem blk3 (t : Fin cfg0.N) : (iblk m c 3 t : S16384x1.Idx → EReal) = arrZs m c := by
  funext y; blk_ext [iblk, idx t]
theorem blk4 (t : Fin cfg0.N) : (iblk m c 4 t : S3072x1.Idx → EReal) = arrG m c := by
  funext y; blk_ext [iblk, idx t]
theorem blk5 (t : Fin cfg0.N) : (iblk m c 5 t : S3072x8192.Idx → EReal) = arrA m c := by
  funext y; blk_ext [iblk, idx t]

/-- The body's store at an index. -/
theorem pay_apply (x : Vec Ideal S16384x3072 .fp8e4m3) (xs : Vec Ideal S16384x1 .f32) (z : Vec Ideal S16384x8192 .fp8e5m2)
    (zs : Vec Ideal S16384x1 .f32) (acc : Vec Ideal S3072x8192 .f32) (g : Vec Ideal S3072x1 .f32) (j : S3072x8192.Idx) :
    k0_pay1 (F := Ideal) x xs z zs acc g j
      = (acc j + g (ix2 (j 0) 0) * ∑ t : Fin 16384, x (ix2 t (j 0)) * xs (ix2 t 0) * (z (ix2 t (j 1)) * zs (ix2 t 0)) : EReal) := by
  pointwise [k0_pay1]

theorem final : (dats m 0 c).arrAt 6 cfg0.N = (fun i => G m c (i 0) (i 1) : S3072x8192.Idx → EReal) := by
  refine (dats m 0 c).arrAt_eq_of_covers 6 _ (by decide +kernel) fun t hf y => ?_
  blk_simp
  rw [after0_6]
  frame_out
  have e : (((View.whole main_v3).slice (win0_6.rect t)).emb y : S3072x8192.Idx) = y := by
    blk_ext [idx t]
  rw [e]
  refine (congrFun (congr (congr (congr (congr (congr (congrArg (k0_pay1 (F := Ideal)) (blk0 m c t)) (blk1 m c t)) (blk2 m c t)) (blk3 m c t)) (blk5 m c t)) (blk4 m c t)) y).trans ?_
  rw [pay_apply]
  unfold G
  rw [← eq_ix2 y]

/-- The run, its result read. -/
theorem run (ρ : Dev nD → PrngReg) : θ_run defs (onTc (τ := τ) (main (F := Ideal))) ⟨m, fun _ => 0, ρ⟩ fun r => ∀ c : Dev nD,
      r.2.mem ((c : Thread nD τ).loc main_v3) = (fun i => G m c (i 0) (i 1) : S3072x8192.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.DwInRefIdeal.Value

namespace Cert.Proof

open Idealize.ShloMosaic Idealize.ShloMosaic.TcCoe Idealize.SL.Sem

/-- What the precondition says of the gain. -/
theorem gamma_in (m : (ℓ : Loc Cert.DwInIdeal.nD Cert.DwInIdeal.τ Cert.DwInIdeal.sig) → Buf (Elt Ideal) ℓ)
    (h : Cert.Pre_DwInIdeal_gamma_nonneg_in (hPre_gamma_nonneg_in := Cert.Pre_gamma_nonneg_in.Gen.facts) m)
    (c : Dev Cert.DwInIdeal.nD) (p : Fin 3072) :
    (0 : EReal) ≤ Cert.DwInIdeal.Value.arrG m c (ix2 p 0) ∧ Cert.DwInIdeal.Value.arrG m c (ix2 p 0) ≠ (⊤ : EReal) := by
  have h5 := congrFun (h c).2.2.2.2.1 (ix1 p)
  have e : Cert.DwInIdeal.Value.arrG m c (ix2 p 0) = (m ((c.tc : Thread Cert.DwInIdeal.nD Cert.DwInIdeal.τ).loc Cert.DwInIdeal.main_arg4) : Cert.DwInIdeal.S3072.Idx → EReal) (ix1 p) := by
    rw [Cert.DwInIdeal.Value.arrG_eq]
    pointwise
  rw [e]
  revert h5
  pointwise [Cert.Pre_gamma_nonneg_in.fn]
  intro h5
  exact Sums.nonneg_of_tests h5

theorem dw_in : Cert.algebraic_DwInIdeal_DwInRefIdeal_pre_gamma_nonneg_in (hDwInIdeal := Cert.DwInIdeal.Gen.facts)
    (hDwInRefIdeal := Cert.DwInRefIdeal.Gen.facts) (hPre_gamma_nonneg_in := Cert.Pre_gamma_nonneg_in.Gen.facts) := by
  pair_intro
  · run_from Cert.DwInIdeal.Value.run m g
  · run_from Cert.DwInRefIdeal.Value.run m' g'
    obtain ⟨a0, a1, a2, a3, a4, a5⟩ := hagree c
    have hX : Cert.DwInRefIdeal.Value.arrX m' c = Cert.DwInIdeal.Value.arrX m c := by
      rw [Cert.DwInRefIdeal.Value.arrX_eq, Cert.DwInIdeal.Value.arrX_eq]
      exact congrArg (fun x => shapeCast _ x _) a0
    have hZ : Cert.DwInRefIdeal.Value.arrZ m' c = Cert.DwInIdeal.Value.arrZ m c :=
      (Cert.DwInRefIdeal.Value.arrZ_eq m' c).trans (a2.trans (Cert.DwInIdeal.Value.arrZ_eq m c).symm)
    have hA : Cert.DwInRefIdeal.Value.arrA m' c = Cert.DwInIdeal.Value.arrA m c :=
      (Cert.DwInRefIdeal.Value.arrA_eq m' c).trans (a5.trans (Cert.DwInIdeal.Value.arrA_eq m c).symm)
    have hG : Cert.DwInRefIdeal.Value.arrG m' c = Cert.DwInIdeal.Value.arrG m c := by
      rw [Cert.DwInRefIdeal.Value.arrG_eq, Cert.DwInIdeal.Value.arrG_eq]
      exact congrArg (fun x => shapeCast _ x _) a4
    have hC : ∀ t : Fin 16384, Cert.DwInIdeal.Value.arrC m c (ix2 t 0) = Cert.DwInRefIdeal.Value.arrXs m' c (ix2 t 0) * Cert.DwInRefIdeal.Value.arrZs m' c (ix2 t 0) := by
      intro t
      rw [Cert.DwInIdeal.Value.arrC_eq, Cert.DwInRefIdeal.Value.arrXs_eq, Cert.DwInRefIdeal.Value.arrZs_eq, ← a1, ← a3]
      rfl
    funext i
    obtain ⟨p, q, rfl⟩ : ∃ (p : Fin 3072) (q : Fin 8192), i = ix2 p q := ⟨i 0, i 1, eq_ix2 i⟩
    refine Eq.trans ?_ (Cert.DwInIdeal.Value.G5_apply m c (fun p => (gamma_in m hpre c p).1) (fun p => (gamma_in m hpre c p).2) p q).symm
    show Cert.DwInRefIdeal.Value.G m' c p q = _
    unfold Cert.DwInRefIdeal.Value.G
    rw [hX, hZ, hA, hG]
    refine congrArg₂ (fun a b : EReal => a + b) rfl (congrArg (fun b : EReal => _ * b) (Finset.sum_congr rfl fun t _ => ?_))
    rw [hC, Sums.mul_regroup]

end Cert.Proof

end
-- ==== Proof.DwQkvValue.lean ====
/- What the blocked weight-gradient kernel of the attention input projection leaves in its result, as one formula. -/
module

public import proofs.«01_k».proof.Proof.Sums
public import proofs.«01_k».proof.Proof.Gen.DwQkvIdeal.Value
public import Idealize.ShloMosaic.Lib.Claim

@[expose] public section

set_option maxRecDepth 16384

noncomputable section

namespace Cert.DwQkvIdeal.Value

open Cert.DwQkvIdeal Cert.DwQkvIdeal.Gen Idealize.ShloMosaic Idealize.ShloMosaic.TcCoe Idealize.SL.Sem

variable (m : (ℓ : Loc nD τ sig) → Buf (Elt Ideal) ℓ) (c : Dev nD)

/-- The arrays as the grid finds them: the activations' codes and their folded scales, the incoming gradient's codes,
    the accumulator and the rows' gains. -/
abbrev arrX : S16384x3072.Idx → EReal := V m c main_v0
abbrev arrC : S16384x1.Idx → EReal := V m c main_v4
abbrev arrZ : S16384x9216.Idx → EReal := V m c main_v1
abbrev arrA : S3072x9216.Idx → EReal := V m c main_v5
abbrev arrG : S3072x1.Idx → EReal := V m c main_v2

/-- The accumulator's block at a point. -/
abbrev accBlk (t : Fin cfg0.N) : S1536x1024.Idx → EReal := iblk m c 3 t

/-- One point's addend: the row's gain times the product of the point's two blocks. -/
def addend (x : Vec Ideal S1024x1536 .fp8e4m3) (s : Vec Ideal S1024x1 .f32) (g : Vec Ideal S1536x1 .f32)
    (z : Vec Ideal S1024x1024 .fp8e5m2) (j : S1536x1024.Idx) : EReal :=
  g (ix2 (j 0) 0) * ∑ k : Fin 1024, x (ix2 k (j 0)) * s (ix2 k 0) * z (ix2 k (j 1))

/-- The body's store at an index. -/
theorem pay_apply (x : Vec Ideal S1024x1536 .fp8e4m3) (s : Vec Ideal S1024x1 .f32) (acc : Vec Ideal S1536x1024 .f32)
    (g : Vec Ideal S1536x1 .f32) (z : Vec Ideal S1024x1024 .fp8e5m2) (j : S1536x1024.Idx) :
    k0_pay2 (F := Ideal) x s acc g z j = (acc j + addend x s g z j : EReal) := by
  unfold addend
  pointwise [k0_pay2]

/-- Where each window's block lies. -/
theorem idx : ∀ t : Fin cfg0.N, win0_0.index t = ![t.val % 16, t.val / 144] ∧ win0_1.index t = ![t.val % 16, 0]
    ∧ win0_2.index t = ![t.val % 16, t.val / 16 % 9] ∧ win0_3.index t = ![t.val / 144, t.val / 16 % 9] ∧ win0_4.index t = ![t.val / 144, 0] :=
  (by decide +kernel : ∀ t : Fin grid0.N, _)

/-- The addend of point `n`. -/
def term (n : ℕ) (j : S1536x1024.Idx) : EReal :=
  if h : n < cfg0.N then addend (iblk m c 0 ⟨n, h⟩) (iblk m c 1 ⟨n, h⟩) (iblk m c 4 ⟨n, h⟩) (iblk m c 2 ⟨n, h⟩) j else 0

/-- The fold of one run: the accumulator's block and the sum of the points' addends. -/
theorem fold_apply (b : ℕ) (h : b + 15 < cfg0.N) (j : S1536x1024.Idx) :
    Pipeline.accAt (reset5 m c) (step5 m c) b 15 h j
      = (accBlk m c ⟨b, by omega⟩ j + ∑ s ∈ Finset.range 16, term m c (b + s) j : EReal) := by
  refine Pipeline.accAt_add_apply (β := EReal) (reset5 m c) (step5 m c) (accBlk m c ⟨b, by omega⟩) (term m c) b 15 ?_ ?_ 15 le_rfl h j
  · intro h i
    unfold reset5 term k0_pay1
    rw [dif_pos h, shapeCast_self, pay_apply]
  · intro n h acc i _ _
    unfold step5 term
    rw [dif_pos h, pay_apply]

theorem read0 (t : Fin cfg0.N) (k : Fin 1024) (i : Fin 1536) (hk : t.val % 16 * 1024 + k.val < 16384) (hi : t.val / 144 * 1536 + i.val < 3072) :
    (iblk m c 0 t : Vec Ideal S1024x1536 .fp8e4m3) (ix2 k i) = arrX m c (ix2 ⟨_, hk⟩ ⟨_, hi⟩) := by
  blk_ext [iblk, idx t]

theorem read1 (t : Fin cfg0.N) (k : Fin 1024) (hk : t.val % 16 * 1024 + k.val < 16384) :
    (iblk m c 1 t : Vec Ideal S1024x1 .f32) (ix2 k 0) = arrC m c (ix2 ⟨_, hk⟩ 0) := by
  blk_ext [iblk, idx t]

theorem read2 (t : Fin cfg0.N) (k : Fin 1024) (j : Fin 1024) (hk : t.val % 16 * 1024 + k.val < 16384) (hj : t.val / 16 % 9 * 1024 + j.val < 9216) :
    (iblk m c 2 t : Vec Ideal S1024x1024 .fp8e5m2) (ix2 k j) = arrZ m c (ix2 ⟨_, hk⟩ ⟨_, hj⟩) := by
  blk_ext [iblk, idx t]

theorem read3 (t : Fin cfg0.N) (i : Fin 1536) (j : Fin 1024) (hi : t.val / 144 * 1536 + i.val < 3072) (hj : t.val / 16 % 9 * 1024 + j.val < 9216) :
    accBlk m c t (ix2 i j) = arrA m c (ix2 ⟨_, hi⟩ ⟨_, hj⟩) := by
  blk_ext [iblk, idx t]

theorem read4 (t : Fin cfg0.N) (i : Fin 1536) (hi : t.val / 144 * 1536 + i.val < 3072) :
    (iblk m c 4 t : Vec Ideal S1536x1 .f32) (ix2 i 0) = arrG m c (ix2 ⟨_, hi⟩ 0) := by
  blk_ext [iblk, idx t]

/-- The result array, element by element: the accumulator and the gain times the contraction over all the tokens. -/
theorem G5_apply (h0 : ∀ p : Fin 3072, (0 : EReal) ≤ arrG m c (ix2 p 0))
    (h1 : ∀ p : Fin 3072, (arrG m c (ix2 p 0) : EReal) ≠ ⊤) (p : Fin 3072) (q : Fin 9216) :
    (G5 m c : Vec Ideal S3072x9216 .f32) (ix2 p q)
      = (arrA m c (ix2 p q)
        + arrG m c (ix2 p 0)
          * ∑ t : Fin 16384, arrX m c (ix2 t p) * arrC m c (ix2 t 0)
              * arrZ m c (ix2 t q) : EReal) := by
  have hp := p.isLt
  have hq := q.isLt
  have hN : cfg0.N = 288 := N_0
  have hr : run5Of (ix2 p q) = 9 * (p.val / 1536) + q.val / 1024 := by
    show 9 * (p.val / 1536 - 0) + 1 * (q.val / 1024 - 0) = _
    omega
  have hl : loc5Of (ix2 p q) = (ix2 ⟨p.val % 1536, by omega⟩ ⟨q.val % 1024, by omega⟩ : S1536x1024.Idx) := by
    funext a; match a with
    | ⟨0, _⟩ => rfl
    | ⟨1, _⟩ => rfl
  have h : 16 * run5Of (ix2 p q) + 15 < cfg0.N := by rw [hr, hN]; omega
  unfold G5
  rw [dif_pos h, fold_apply, hl]
  rw [read3 m c ⟨_, _⟩ ⟨p.val % 1536, by omega⟩ ⟨q.val % 1024, by omega⟩ (by dsimp only; rw [hr]; omega) (by dsimp only; rw [hr]; omega)]
  refine congrArg₂ (fun a b : EReal => a + b) ?_ ?_
  · congr 2
    · apply Fin.ext; dsimp only; rw [hr]; omega
    · apply Fin.ext; dsimp only; rw [hr]; omega
  · refine Sums.scaled_blocks (S := 16) (n := 1024) _ (h0 p) (h1 p) _ rfl _ fun s => ?_
    have hs := s.isLt
    have hb : 16 * run5Of (ix2 p q) + s.val < cfg0.N := by omega
    have e0 : (16 * run5Of (ix2 p q) + s.val) % 16 = s.val := by omega
    have e1 : (16 * run5Of (ix2 p q) + s.val) / 144 = p.val / 1536 := by rw [hr]; omega
    have e2 : (16 * run5Of (ix2 p q) + s.val) / 16 % 9 = q.val / 1024 := by rw [hr]; omega
    unfold term
    rw [dif_pos hb]
    unfold addend
    refine congrArg₂ (fun a b : EReal => a * b) ?_ (Finset.sum_congr rfl fun k _ => ?_)
    · refine (read4 m c ⟨_, hb⟩ _ ?_).trans ?_
      · show (16 * run5Of (ix2 p q) + s.val) / 144 * 1536 + p.val % 1536 < 3072
        omega
      · congr 2; apply Fin.ext
        show (16 * run5Of (ix2 p q) + s.val) / 144 * 1536 + p.val % 1536 = p.val
        omega
    · have hk := k.isLt
      refine congrArg₂ (fun a b : EReal => a * b) (congrArg₂ (fun a b : EReal => a * b) ?_ ?_) ?_
      · refine (read0 m c ⟨_, hb⟩ k _ ?_ ?_).trans ?_
        · show (16 * run5Of (ix2 p q) + s.val) % 16 * 1024 + k.val < 16384
          omega
        · show (16 * run5Of (ix2 p q) + s.val) / 144 * 1536 + p.val % 1536 < 3072
          omega
        · congr 2
          · apply Fin.ext
            show (16 * run5Of (ix2 p q) + s.val) % 16 * 1024 + k.val = s.val * 1024 + k.val
            omega
          · apply Fin.ext
            show (16 * run5Of (ix2 p q) + s.val) / 144 * 1536 + p.val % 1536 = p.val
            omega
      · refine (read1 m c ⟨_, hb⟩ k ?_).trans ?_
        · show (16 * run5Of (ix2 p q) + s.val) % 16 * 1024 + k.val < 16384
          omega
        · congr 2
          apply Fin.ext
          show (16 * run5Of (ix2 p q) + s.val) % 16 * 1024 + k.val = s.val * 1024 + k.val
          omega
      · refine (read2 m c ⟨_, hb⟩ k _ ?_ ?_).trans ?_
        · show (16 * run5Of (ix2 p q) + s.val) % 16 * 1024 + k.val < 16384
          omega
        · show (16 * run5Of (ix2 p q) + s.val) / 16 % 9 * 1024 + q.val % 1024 < 9216
          omega
        · congr 2
          · apply Fin.ext
            show (16 * run5Of (ix2 p q) + s.val) % 16 * 1024 + k.val = s.val * 1024 + k.val
            omega
          · apply Fin.ext
            show (16 * run5Of (ix2 p q) + s.val) / 16 % 9 * 1024 + q.val % 1024 = q.val
            omega

/-- The arrays in terms of the arguments. -/
theorem arrX_eq : arrX m c = shapeCast S16384x3072 (m ((c : Thread nD τ).loc main_arg0)) shapeCasts_S8x2048x3072_S16384x3072 := by
  show V m c main_v0 = _
  unfold_abbrev_sides
  after_results
  rfl
theorem arrZ_eq : arrZ m c = shapeCast S16384x9216 (m ((c : Thread nD τ).loc main_arg2)) shapeCasts_S8x2048x3x24x128_S16384x9216 := by
  show V m c main_v1 = _
  unfold_abbrev_sides
  after_results
  rfl
theorem arrC_eq : arrC m c = shapeCast S16384x1 (mulf (F := Ideal) (s := S8x2048) (φ := .f32) (m ((c : Thread nD τ).loc main_arg1)) (m ((c : Thread nD τ).loc main_arg3))) shapeCasts_S8x2048_S16384x1 := by
  show V m c main_v4 = _
  unfold_abbrev_sides
  after_results
  rfl
theorem arrA_eq : arrA m c = shapeCast S3072x9216 (m ((c : Thread nD τ).loc main_arg5)) shapeCasts_S3072x3x24x128_S3072x9216 := by
  show V m c main_v5 = _
  unfold_abbrev_sides
  after_results
  rfl
theorem arrG_eq : arrG m c = shapeCast S3072x1 (m ((c : Thread nD τ).loc main_arg4)) shapeCasts_S3072_S3072x1 := by
  show V m c main_v2 = _
  unfold_abbrev_sides
  after_results
  rfl

end Cert.DwQkvIdeal.Value

end
-- ==== Proof.DwQkvEq.lean ====
/- The weight gradient of the attention input projection: the blocked kernel's result is the reference's. -/
module

public import proofs.«01_k».proof.Proof.DwQkvValue
public import proofs.«01_k».proof.Proof.Gen.DwQkvRefIdeal.Value
public import proofs.«01_k».proof.Proof.Gen.DwQkv
public import proofs.«01_k».proof.Proof.Gen.Pre_gamma_nonneg_qkv
public import proofs.«01_k».proof.Defs
public import Idealize.ShloMosaic.Lib.Claim

@[expose] public section

set_option maxRecDepth 16384

noncomputable section

namespace Cert.DwQkvRefIdeal.Value

open Cert.DwQkvRefIdeal Cert.DwQkvRefIdeal.Gen Idealize.ShloMosaic Idealize.ShloMosaic.TcCoe Idealize.SL.Sem

variable (m : (ℓ : Loc nD τ sig) → Buf (Elt Ideal) ℓ) (c : Dev nD)

/-- The arrays as the reference's call finds them: the normalised input's codes and scales, the incoming gradient's codes
    and scales, the gain, the accumulator. -/
abbrev arrX : S16384x3072.Idx → EReal := V m c main_v0
abbrev arrXs : S16384x1.Idx → EReal := V m c main_v1
abbrev arrZ : S16384x9216.Idx → EReal := V m c main_v2
abbrev arrZs : S16384x1.Idx → EReal := V m c main_v3
abbrev arrG : S3072x1.Idx → EReal := V m c main_v4
abbrev arrA : S3072x9216.Idx → EReal := V m c main_v5

/-- The reference's result, element by element. -/
def G (p : Fin 3072) (q : Fin 9216) : EReal :=
  arrA m c (ix2 p q) + arrG m c (ix2 p 0) * ∑ t : Fin 16384, arrX m c (ix2 t p) * arrXs m c (ix2 t 0) * (arrZ m c (ix2 t q) * arrZs m c (ix2 t 0))

/-- The arrays in terms of the arguments. -/
theorem arrX_eq : arrX m c = shapeCast S16384x3072 (m ((c : Thread nD τ).loc main_arg0)) shapeCasts_S8x2048x3072_S16384x3072 := by
  show V m c main_v0 = _
  unfold_abbrev_sides
  after_results
  rfl
theorem arrXs_eq : arrXs m c = shapeCast S16384x1 (m ((c : Thread nD τ).loc main_arg1)) shapeCasts_S8x2048_S16384x1 := by
  show V m c main_v1 = _
  unfold_abbrev_sides
  after_results
  rfl
theorem arrZ_eq : arrZ m c = shapeCast S16384x9216 (m ((c : Thread nD τ).loc main_arg2)) shapeCasts_S8x2048x3x24x128_S16384x9216 := by
  show V m c main_v2 = _
  unfold_abbrev_sides
  after_results
  rfl
theorem arrZs_eq : arrZs m c = shapeCast S16384x1 (m ((c : Thread nD τ).loc main_arg3)) shapeCasts_S8x2048_S16384x1 := by
  show V m c main_v3 = _
  unfold_abbrev_sides
  after_results
  rfl
theorem arrA_eq : arrA m c = shapeCast S3072x9216 (m ((c : Thread nD τ).loc main_arg5)) shapeCasts_S3072x3x24x128_S3072x9216 := by
  show V m c main_v5 = _
  unfold_abbrev_sides
  after_results
  rfl
theorem arrG_eq : arrG m c = shapeCast S3072x1 (m ((c : Thread nD τ).loc main_arg4)) shapeCasts_S3072_S3072x1 := by
  show V m c main_v4 = _
  unfold_abbrev_sides
  after_results
  rfl

/-- Every window has one block, at the origin. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- Each input's one block is its array. -/
theorem blk0 (t : Fin cfg0.N) : (iblk m c 0 t : S16384x3072.Idx → EReal) = arrX m c := by
  funext y; blk_ext [iblk, idx t]
theorem blk1 (t : Fin cfg0.N) : (iblk m c 1 t : S16384x1.Idx → EReal) = arrXs m c := by
  funext y; blk_ext [iblk, idx t]
theorem blk2 (t : Fin cfg0.N) : (iblk m c 2 t : S16384x9216.Idx → EReal) = arrZ m c := by
  funext y; blk_ext [iblk, idx t]
theorem blk3 (t : Fin cfg0.N) : (iblk m c 3 t : S16384x1.Idx → EReal) = arrZs m c := by
  funext y; blk_ext [iblk, idx t]
theorem blk4 (t : Fin cfg0.N) : (iblk m c 4 t : S3072x1.Idx → EReal) = arrG m c := by
  funext y; blk_ext [iblk, idx t]
theorem blk5 (t : Fin cfg0.N) : (iblk m c 5 t : S3072x9216.Idx → EReal) = arrA m c := by
  funext y; blk_ext [iblk, idx t]

/-- The body's store at an index. -/
theorem pay_apply (x : Vec Ideal S16384x3072 .fp8e4m3) (xs : Vec Ideal S16384x1 .f32) (z : Vec Ideal S16384x9216 .fp8e5m2)
    (zs : Vec Ideal S16384x1 .f32) (acc : Vec Ideal S3072x9216 .f32) (g : Vec Ideal S3072x1 .f32) (j : S3072x9216.Idx) :
    k0_pay1 (F := Ideal) x xs z zs acc g j
      = (acc j + g (ix2 (j 0) 0) * ∑ t : Fin 16384, x (ix2 t (j 0)) * xs (ix2 t 0) * (z (ix2 t (j 1)) * zs (ix2 t 0)) : EReal) := by
  pointwise [k0_pay1]

theorem final : (dats m 0 c).arrAt 6 cfg0.N = (fun i => G m c (i 0) (i 1) : S3072x9216.Idx → EReal) := by
  refine (dats m 0 c).arrAt_eq_of_covers 6 _ (by decide +kernel) fun t hf y => ?_
  blk_simp
  rw [after0_6]
  frame_out
  have e : (((View.whole main_v6).slice (win0_6.rect t)).emb y : S3072x9216.Idx) = y := by
    blk_ext [idx t]
  rw [e]
  refine (congrFun (congr (congr (congr (congr (congr (congrArg (k0_pay1 (F := Ideal)) (blk0 m c t)) (blk1 m c t)) (blk2 m c t)) (blk3 m c t)) (blk5 m c t)) (blk4 m c t)) y).trans ?_
  rw [pay_apply]
  unfold G
  rw [← eq_ix2 y]

/-- The run, its result read. -/
theorem run (ρ : Dev nD → PrngReg) : θ_run defs (onTc (τ := τ) (main (F := Ideal))) ⟨m, fun _ => 0, ρ⟩ fun r => ∀ c : Dev nD,
      r.2.mem ((c : Thread nD τ).loc main_v6) = (fun i => G m c (i 0) (i 1) : S3072x9216.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.DwQkvRefIdeal.Value

namespace Cert.Proof

open Idealize.ShloMosaic Idealize.ShloMosaic.TcCoe Idealize.SL.Sem

/-- What the precondition says of the gain. -/
theorem gamma_qkv (m : (ℓ : Loc Cert.DwQkvIdeal.nD Cert.DwQkvIdeal.τ Cert.DwQkvIdeal.sig) → Buf (Elt Ideal) ℓ)
    (h : Cert.Pre_DwQkvIdeal_gamma_nonneg_qkv (hPre_gamma_nonneg_qkv := Cert.Pre_gamma_nonneg_qkv.Gen.facts) m)
    (c : Dev Cert.DwQkvIdeal.nD) (p : Fin 3072) :
    (0 : EReal) ≤ Cert.DwQkvIdeal.Value.arrG m c (ix2 p 0) ∧ Cert.DwQkvIdeal.Value.arrG m c (ix2 p 0) ≠ (⊤ : EReal) := by
  have h5 := congrFun (h c).2.2.2.2.1 (ix1 p)
  have e : Cert.DwQkvIdeal.Value.arrG m c (ix2 p 0) = (m ((c.tc : Thread Cert.DwQkvIdeal.nD Cert.DwQkvIdeal.τ).loc Cert.DwQkvIdeal.main_arg4) : Cert.DwQkvIdeal.S3072.Idx → EReal) (ix1 p) := by
    rw [Cert.DwQkvIdeal.Value.arrG_eq]
    pointwise
  rw [e]
  revert h5
  pointwise [Cert.Pre_gamma_nonneg_qkv.fn]
  intro h5
  exact Sums.nonneg_of_tests h5

theorem dw_qkv : Cert.algebraic_DwQkvIdeal_DwQkvRefIdeal_pre_gamma_nonneg_qkv (hDwQkvIdeal := Cert.DwQkvIdeal.Gen.facts)
    (hDwQkvRefIdeal := Cert.DwQkvRefIdeal.Gen.facts) (hPre_gamma_nonneg_qkv := Cert.Pre_gamma_nonneg_qkv.Gen.facts) := by
  pair_intro
  · run_from Cert.DwQkvIdeal.Value.run m g
  · run_from Cert.DwQkvRefIdeal.Value.run m' g'
    obtain ⟨a0, a1, a2, a3, a4, a5⟩ := hagree c
    have hX : Cert.DwQkvRefIdeal.Value.arrX m' c = Cert.DwQkvIdeal.Value.arrX m c := by
      rw [Cert.DwQkvRefIdeal.Value.arrX_eq, Cert.DwQkvIdeal.Value.arrX_eq]
      exact congrArg (fun x => shapeCast _ x _) a0
    have hZ : Cert.DwQkvRefIdeal.Value.arrZ m' c = Cert.DwQkvIdeal.Value.arrZ m c := by
      rw [Cert.DwQkvRefIdeal.Value.arrZ_eq, Cert.DwQkvIdeal.Value.arrZ_eq]
      exact congrArg (fun x => shapeCast _ x _) a2
    have hA : Cert.DwQkvRefIdeal.Value.arrA m' c = Cert.DwQkvIdeal.Value.arrA m c := by
      rw [Cert.DwQkvRefIdeal.Value.arrA_eq, Cert.DwQkvIdeal.Value.arrA_eq]
      exact congrArg (fun x => shapeCast _ x _) a5
    have hG : Cert.DwQkvRefIdeal.Value.arrG m' c = Cert.DwQkvIdeal.Value.arrG m c := by
      rw [Cert.DwQkvRefIdeal.Value.arrG_eq, Cert.DwQkvIdeal.Value.arrG_eq]
      exact congrArg (fun x => shapeCast _ x _) a4
    have hC : ∀ t : Fin 16384, Cert.DwQkvIdeal.Value.arrC m c (ix2 t 0) = Cert.DwQkvRefIdeal.Value.arrXs m' c (ix2 t 0) * Cert.DwQkvRefIdeal.Value.arrZs m' c (ix2 t 0) := by
      intro t
      rw [Cert.DwQkvIdeal.Value.arrC_eq, Cert.DwQkvRefIdeal.Value.arrXs_eq, Cert.DwQkvRefIdeal.Value.arrZs_eq, ← a1, ← a3]
      rfl
    funext i
    obtain ⟨p, q, rfl⟩ : ∃ (p : Fin 3072) (q : Fin 9216), i = ix2 p q := ⟨i 0, i 1, eq_ix2 i⟩
    refine Eq.trans ?_ (Cert.DwQkvIdeal.Value.G5_apply m c (fun p => (gamma_qkv m hpre c p).1) (fun p => (gamma_qkv m hpre c p).2) p q).symm
    show Cert.DwQkvRefIdeal.Value.G m' c p q = _
    unfold Cert.DwQkvRefIdeal.Value.G
    rw [hX, hZ, hA, hG]
    refine congrArg₂ (fun a b : EReal => a + b) rfl (congrArg (fun b : EReal => _ * b) (Finset.sum_congr rfl fun t _ => ?_))
    rw [hC, Sums.mul_regroup]

end Cert.Proof

end
-- ==== Proof.DxBody.lean ====
/- The stores of the input-gradient kernel's body, element by element. -/
module

public import proofs.«01_k».proof.Proof.Sums
public import proofs.«01_k».proof.Proof.Gen.DxIdeal.Skeleton
public import Idealize.ShloMosaic.Lib.Claim

@[expose] public section

set_option maxRecDepth 16384

noncomputable section

namespace Cert.DxIdeal.Body

open Cert.DxIdeal Cert.DxIdeal.Gen Idealize.ShloMosaic Idealize.ShloMosaic.TcCoe Idealize.SL.Sem

variable (g : Vec Ideal S1x3072 .f32) (a : Vec Ideal S64x3072 .f32) (b : Vec Ideal S64x3072 .fp8e4m3) (s r e : Vec Ideal S64x1 .f32)
  (d : Vec Ideal S64x3072 .fp8e5m2) (w : Vec Ideal S8x3072 .f32)

/-- The constant the kernel multiplies a row's sum by. -/
theorem inv_d : Named.named (F := Ideal) κ "inv_d" (φ := .f32) 0x39AAAAAB#32 = ((1 / 3072 : ℝ) : EReal) :=
  IdealRules.named_const.ideal_named_scalar _ _ _ _ rfl

/-- The gradient of one row's element through the normalisation, from the row's gradient `a` before the gain, the row's
    normalised codes `b` with their scale `s`, and the reciprocal deviation `r`. -/
def norm (t : Fin 64) (c : Fin 3072) : EReal :=
  r (ix2 t 0) * ((a (ix2 t c) * g (ix2 0 c) - (∑ k : Fin 3072, a (ix2 t k) * g (ix2 0 k)) * ((1 / 3072 : ℝ) : EReal))
    - b (ix2 t c) * s (ix2 t 0) * ((∑ k : Fin 3072, a (ix2 t k) * (b (ix2 t k) * s (ix2 t 0)) * g (ix2 0 k)) * ((1 / 3072 : ℝ) : EReal)))

/-- Sixty-four rows of the input's gradient, as the body stores them. -/
theorem rows_apply (t : Fin 64) (c : Fin 3072) :
    k0_pay10 (F := Ideal) (k0_pay9 g a b s r) d e (ix2 t c) = (d (ix2 t c) * e (ix2 t 0) + norm g a b s r t c : EReal) := by
  unfold norm
  pointwise [k0_pay10, k0_pay9, k0_pay7, k0_pay6, k0_pay5, inv_d]

/-- The body spells the same sixty-four rows in fifteen further ways. -/
theorem rows_1 : k0_pay17 (F := Ideal) (k0_pay11 b s) (k0_pay14 (k0_pay5 g) a) (k0_pay15 (k0_pay5 g) a) (k0_pay16 (k0_pay5 g) a b s) r d e = k0_pay10 (k0_pay9 g a b s r) d e := rfl
theorem rows_2 : k0_pay24 (F := Ideal) (k0_pay5 g) (k0_pay18 b s) (k0_pay19 a b s) (k0_pay21 (k0_pay5 g) a) (k0_pay22 (k0_pay5 g) a) k0_pay23 r d e = k0_pay10 (k0_pay9 g a b s r) d e := rfl
theorem rows_3 : k0_pay28 (F := Ideal) (k0_pay5 g) a (k0_pay25 b s) (k0_pay26 a b s) r d e = k0_pay10 (k0_pay9 g a b s r) d e := rfl
theorem rows_4 : k0_pay34 (F := Ideal) (k0_pay5 g) a (k0_pay29 b) (k0_pay30 s) r d e = k0_pay10 (k0_pay9 g a b s r) d e := rfl
theorem rows_5 : k0_pay40 (F := Ideal) (k0_pay38 (k0_pay5 g) a b s r) (k0_pay39 d) e = k0_pay10 (k0_pay9 g a b s r) d e := rfl
theorem rows_6 : k0_pay47 (F := Ideal) (k0_pay41 b s) (k0_pay44 r) (k0_pay45 (k0_pay5 g) a) (k0_pay46 (k0_pay5 g) a b s) d e = k0_pay10 (k0_pay9 g a b s r) d e := rfl
theorem rows_7 : k0_pay54 (F := Ideal) (k0_pay48 b s) (k0_pay51 (k0_pay5 g) a) (k0_pay52 (k0_pay5 g) a) (k0_pay53 (k0_pay5 g) a b s) r d e = k0_pay10 (k0_pay9 g a b s r) d e := rfl
theorem rows_8 : k0_pay59 (F := Ideal) (k0_pay5 g) a (k0_pay55 b s) (k0_pay56 a b s) (k0_pay58 (k0_pay5 g)) r d e = k0_pay10 (k0_pay9 g a b s r) d e := rfl
theorem rows_9 : k0_pay63 (F := Ideal) (k0_pay5 g) a (k0_pay60 b s) (k0_pay61 a b s) r d e = k0_pay10 (k0_pay9 g a b s r) d e := rfl
theorem rows_10 : k0_pay68 (F := Ideal) (k0_pay67 (k0_pay5 g) a b s r d e) = k0_pay10 (k0_pay9 g a b s r) d e := rfl
theorem rows_11 : k0_pay73 (F := Ideal) (k0_pay72 (k0_pay5 g) a b s r) d e = k0_pay10 (k0_pay9 g a b s r) d e := rfl
theorem rows_12 : k0_pay80 (F := Ideal) (k0_pay74 b s) (k0_pay77 (k0_pay5 g) a) (k0_pay78 (k0_pay5 g) a) (k0_pay79 (k0_pay5 g) a b s) r d e = k0_pay10 (k0_pay9 g a b s r) d e := rfl
theorem rows_13 : k0_pay86 (F := Ideal) (k0_pay5 g) (k0_pay81 b s) (k0_pay82 a b s) (k0_pay84 (k0_pay5 g) a) (k0_pay85 (k0_pay5 g) a) (Named.named κ "inv_d" 0x39AAAAAB#32) r d e = k0_pay10 (k0_pay9 g a b s r) d e := rfl
theorem rows_14 : k0_pay92 (F := Ideal) (k0_pay5 g) a (k0_pay87 b s) (k0_pay88 a b s) r d e = k0_pay10 (k0_pay9 g a b s r) d e := rfl
theorem rows_15 : k0_pay97 (F := Ideal) (k0_pay5 g) a (k0_pay93 b) s r d e = k0_pay10 (k0_pay9 g a b s r) d e := rfl

/-- The gain's gradient: each of eight rows takes up the eight rows of its group. -/
theorem gain_apply (u : Fin 8) (c : Fin 3072) :
    k0_pay8 (F := Ideal) a b s w (ix2 u c)
      = (w (ix2 u c) + ∑ k : Fin 8, a (ix2 ⟨k.val * 8 + u.val, by omega⟩ c) * (b (ix2 ⟨k.val * 8 + u.val, by omega⟩ c) * s (ix2 ⟨k.val * 8 + u.val, by omega⟩ 0)) : EReal) := by
  pointwise [k0_pay8, k0_pay7, k0_pay6]

/-- Its fifteen further spellings. -/
theorem gain_1 : k0_pay13 (F := Ideal) a b s w = k0_pay8 a b s w := rfl
theorem gain_2 : k0_pay20 (F := Ideal) a b s w = k0_pay8 a b s w := rfl
theorem gain_3 : k0_pay27 (F := Ideal) a b s w = k0_pay8 a b s w := rfl
theorem gain_4 : k0_pay33 (F := Ideal) a (k0_pay29 b) (k0_pay30 s) w = k0_pay8 a b s w := rfl
theorem gain_5 : k0_pay37 (F := Ideal) a b s w = k0_pay8 a b s w := rfl
theorem gain_6 : k0_pay43 (F := Ideal) a b s w = k0_pay8 a b s w := rfl
theorem gain_7 : k0_pay50 (F := Ideal) a b s w = k0_pay8 a b s w := rfl
theorem gain_8 : k0_pay57 (F := Ideal) a b s w = k0_pay8 a b s w := rfl
theorem gain_9 : k0_pay62 (F := Ideal) (k0_pay61 a b s) w = k0_pay8 a b s w := rfl
theorem gain_10 : k0_pay66 (F := Ideal) a b s w = k0_pay8 a b s w := rfl
theorem gain_11 : k0_pay71 (F := Ideal) a b s w = k0_pay8 a b s w := rfl
theorem gain_12 : k0_pay76 (F := Ideal) a b s w = k0_pay8 a b s w := rfl
theorem gain_13 : k0_pay83 (F := Ideal) a b s w = k0_pay8 a b s w := rfl
theorem gain_14 : k0_pay91 (F := Ideal) (k0_pay89 w) (k0_pay90 a b s) = k0_pay8 a b s w := rfl
theorem gain_15 : k0_pay96 (F := Ideal) a (k0_pay93 b) s w = k0_pay8 a b s w := rfl

/-- The two updates of the rows' gradient before the gain: one block of the contraction, scaled by the row's scale. -/
theorem zero_apply (j : S1024x3072.Idx) : (k0_pay1 (F := Ideal) j : EReal) = 0 := by
  pointwise [k0_pay1]

theorem zero_gain_apply (j : S8x3072.Idx) : (k0_pay4 (F := Ideal) j : EReal) = 0 := by
  pointwise [k0_pay4]

/-- One block's part of the contraction. -/
def part (x : Vec Ideal S1024x1024 .fp8e5m2) (p : Vec Ideal S1x1024 .bf16) (v : Vec Ideal S3072x1024 .fp8e4m3) (q : Vec Ideal S1024x1 .f32)
    (j : S1024x3072.Idx) : EReal :=
  (∑ k : Fin 1024, x (ix2 (j 0) k) * p (ix2 0 k) * v (ix2 (j 1) k)) * q (ix2 (j 0) 0)

theorem first_apply (x : Vec Ideal S1024x1024 .fp8e5m2) (p : Vec Ideal S1x1024 .bf16) (acc : Vec Ideal S1024x3072 .f32)
    (v : Vec Ideal S3072x1024 .fp8e4m3) (q : Vec Ideal S1024x1 .f32) (j : S1024x3072.Idx) :
    k0_pay2 (F := Ideal) x p acc v q j = (acc j + part x p v q j : EReal) := by
  unfold part
  pointwise [k0_pay2]

theorem second_apply (x : Vec Ideal S1024x1024 .fp8e5m2) (p : Vec Ideal S1x1024 .bf16) (acc : Vec Ideal S1024x3072 .f32)
    (v : Vec Ideal S3072x1024 .fp8e4m3) (q : Vec Ideal S1024x1 .f32) (j : S1024x3072.Idx) :
    k0_pay3 (F := Ideal) x p acc v q j = (acc j + part x p v q j : EReal) := by
  unfold part
  pointwise [k0_pay3]

end Cert.DxIdeal.Body

end
-- ==== Proof.DxCases.lean ====
/- What each kind of grid point of the input-gradient kernel leaves in its buffers. -/
module

public import proofs.«01_k».proof.Proof.DxBody
public import proofs.«01_k».proof.Proof.Gen.DxIdeal.Frame
public import Idealize.ShloMosaic.Lib.Claim

@[expose] public section

set_option maxRecDepth 16384

noncomputable section

namespace Cert.DxIdeal.Body

open Cert.DxIdeal Cert.DxIdeal.Gen Idealize.ShloMosaic Idealize.ShloMosaic.TcCoe Idealize.ShloMosaic.Tactic Idealize.SL.Sem

theorem hz2 : (![0, 0] : Fin 2 → Nat) = fun _ => 0 := by decide

section Rows

/-- The input's gradient on a block of 1024 rows: from the gain `g`, the rows' gradient before the gain `a`, the normalised
    codes `b` with their scales `s`, the reciprocal deviations `r`, the residual's gradient `d` with its scales `e`. -/
def rows (g : Vec Ideal S1x3072 .f32) (a : Vec Ideal S1024x3072 .f32) (b : Vec Ideal S1024x3072 .fp8e4m3) (s r : Vec Ideal S1024x1 .f32)
    (d : Vec Ideal S1024x3072 .fp8e5m2) (e : Vec Ideal S1024x1 .f32) (j : S1024x3072.Idx) : EReal :=
  d j * e (ix2 (j 0) 0)
    + r (ix2 (j 0) 0) * ((a j * g (ix2 0 (j 1)) - (∑ k : Fin 3072, a (ix2 (j 0) k) * g (ix2 0 k)) * ((1 / 3072 : ℝ) : EReal))
      - b j * s (ix2 (j 0) 0) * ((∑ k : Fin 3072, a (ix2 (j 0) k) * (b (ix2 (j 0) k) * s (ix2 (j 0) 0)) * g (ix2 0 k)) * ((1 / 3072 : ℝ) : EReal)))

/-- Sixty-four rows read out of 1024. -/
theorem read_rows {e : EltTy} (X : Vec Ideal S1024x3072 e) (o : ℕ) (inb : ∀ a, (![o, 0] : Fin 2 → Nat) a + ![64, 3072] a ≤ S1024x3072.size a)
    (t : Fin 64) (k : Fin 3072) (h : o + t.val < 1024) :
    View.ld (Val := Elt Ideal) X (Rect.unit (s := S1024x3072) ![o, 0] ![64, 3072] inb) (ix2 t k) = X (ix2 ⟨o + t.val, h⟩ k) := by
  rw [View.ld_unit]
  refine congrArg X ?_
  funext a; match a with
  | ⟨0, _⟩ => rfl
  | ⟨1, _⟩ => exact Fin.ext (Nat.zero_add _)

theorem read_col {e : EltTy} (X : Vec Ideal S1024x1 e) (o : ℕ) (inb : ∀ a, (![o, 0] : Fin 2 → Nat) a + ![64, 1] a ≤ S1024x1.size a)
    (t : Fin 64) (h : o + t.val < 1024) :
    View.ld (Val := Elt Ideal) X (Rect.unit (s := S1024x1) ![o, 0] ![64, 1] inb) (ix2 t 0) = X (ix2 ⟨o + t.val, h⟩ 0) := by
  rw [View.ld_unit]
  refine congrArg X ?_
  funext a; match a with
  | ⟨0, _⟩ => rfl
  | ⟨1, _⟩ => exact Fin.ext (Nat.zero_add _)

variable (g : Vec Ideal S1x3072 .f32) (a : Vec Ideal S1024x3072 .f32) (b : Vec Ideal S1024x3072 .fp8e4m3) (s r e : Vec Ideal S1024x1 .f32)
  (d : Vec Ideal S1024x3072 .fp8e5m2) (o : ℕ) (inb : ∀ a, (![o, 0] : Fin 2 → Nat) a + ![64, 3072] a ≤ S1024x3072.size a)
  (inb' : ∀ a, (![o, 0] : Fin 2 → Nat) a + ![64, 1] a ≤ S1024x1.size a)

/-- The rows a store leaves are those of the block. -/
theorem rows_at (x : S64x3072.Idx) :
    k0_pay10 (F := Ideal) (k0_pay9 g (View.ld a (Rect.unit (s := S1024x3072) ![o, 0] ![64, 3072] inb)) (View.ld b (Rect.unit (s := S1024x3072) ![o, 0] ![64, 3072] inb))
        (View.ld s (Rect.unit (s := S1024x1) ![o, 0] ![64, 1] inb')) (View.ld r (Rect.unit (s := S1024x1) ![o, 0] ![64, 1] inb')))
        (View.ld d (Rect.unit (s := S1024x3072) ![o, 0] ![64, 3072] inb)) (View.ld e (Rect.unit (s := S1024x1) ![o, 0] ![64, 1] inb')) x
      = rows g a b s r d e ((Rect.unit (s := S1024x3072) ![o, 0] ![64, 3072] inb).emb x) := by
  have h : ∀ t : Fin 64, o + t.val < 1024 := fun t => by
    have := inb 0
    have ht := t.isLt
    have h0 : o + 64 ≤ 1024 := this
    omega
  obtain ⟨t, c, rfl⟩ : ∃ (t : Fin 64) (c : Fin 3072), x = ix2 t c := ⟨x 0, x 1, eq_ix2 x⟩
  have hj : (Rect.unit (s := S1024x3072) ![o, 0] ![64, 3072] inb).emb (ix2 t c) = ix2 ⟨o + t.val, h t⟩ c := by
    funext a; match a with
    | ⟨0, _⟩ => exact Fin.ext (congrArg (o + ·) (Nat.one_mul _))
    | ⟨1, _⟩ => exact Fin.ext ((Nat.zero_add _).trans (Nat.one_mul _))
  rw [hj, rows_apply]
  unfold norm rows
  simp only [fun k => read_rows a o inb t k (h t), fun k => read_rows b o inb t k (h t), fun k => read_rows d o inb t k (h t),
    read_col s o inb' t (h t), read_col r o inb' t (h t), read_col e o inb' t (h t)]
  rfl

/-- The sum of eight rows' products, one from each group of eight. -/
def gainRows (n : ℕ) (u : Fin 8) (c : Fin 3072) : EReal :=
  if h : n < 16 then ∑ k : Fin 8, a (ix2 ⟨n * 64 + (k.val * 8 + u.val), by omega⟩ c)
    * (b (ix2 ⟨n * 64 + (k.val * 8 + u.val), by omega⟩ c) * s (ix2 ⟨n * 64 + (k.val * 8 + u.val), by omega⟩ 0)) else 0

theorem gain_at (n : ℕ) (hn : n < 16) (ho : o = n * 64) (w : Vec Ideal S8x3072 .f32) (u : Fin 8) (c : Fin 3072) :
    k0_pay8 (F := Ideal) (View.ld a (Rect.unit (s := S1024x3072) ![o, 0] ![64, 3072] inb)) (View.ld b (Rect.unit (s := S1024x3072) ![o, 0] ![64, 3072] inb))
        (View.ld s (Rect.unit (s := S1024x1) ![o, 0] ![64, 1] inb')) w (ix2 u c) = (w (ix2 u c) + gainRows a b s n u c : EReal) := by
  subst ho
  unfold gainRows
  rw [gain_apply, dif_pos hn]
  refine congrArg (fun z : EReal => w (ix2 u c) + z) (Finset.sum_congr rfl fun k _ => ?_)
  have h : n * 64 + (k.val * 8 + u.val) < 1024 := by omega
  rw [read_rows a (n * 64) inb ⟨k.val * 8 + u.val, by omega⟩ c h, read_rows b (n * 64) inb ⟨k.val * 8 + u.val, by omega⟩ c h,
    read_col s (n * 64) inb' ⟨k.val * 8 + u.val, by omega⟩ h]

end Rows

variable (c : Dev nD) (i : grid0.Coords)
  (arg2 : Memref sig .tc .vmem S1024x1024 .fp8e5m2) (harg2 : arg2.IsWhole)
  (arg3 : Memref sig .tc .vmem S1024x1 .f32) (harg3 : arg3.IsWhole)
  (arg4 : Memref sig .tc .vmem S1024x1024 .fp8e5m2) (harg4 : arg4.IsWhole)
  (arg5 : Memref sig .tc .vmem S1024x1 .f32) (harg5 : arg5.IsWhole)
  (arg6 : Memref sig .tc .vmem S3072x1024 .fp8e4m3) (harg6 : arg6.IsWhole)
  (arg7 : Memref sig .tc .vmem S1x1024 .bf16) (harg7 : arg7.IsWhole)
  (arg8 : Memref sig .tc .vmem S3072x1024 .fp8e4m3) (harg8 : arg8.IsWhole)
  (arg9 : Memref sig .tc .vmem S1x1024 .bf16) (harg9 : arg9.IsWhole)
  (arg10 : Memref sig .tc .vmem S1024x3072 .fp8e4m3) (harg10 : arg10.IsWhole)
  (arg11 : Memref sig .tc .vmem S1024x1 .f32) (harg11 : arg11.IsWhole)
  (arg12 : Memref sig .tc .vmem S1024x3072 .fp8e5m2) (harg12 : arg12.IsWhole)
  (arg13 : Memref sig .tc .vmem S1024x1 .f32) (harg13 : arg13.IsWhole)
  (arg14 : Memref sig .tc .vmem S1024x1 .f32) (harg14 : arg14.IsWhole)
  (arg15 : Memref sig .tc .vmem S1x3072 .f32) (harg15 : arg15.IsWhole)
  (arg16 : Memref sig .tc .vmem S1024x3072 .bf16) (harg16 : arg16.IsWhole)
  (arg17 : Memref sig .tc .vmem S8x3072 .f32) (harg17 : arg17.IsWhole)
  (arg18 : Memref sig .tc .vmem S1024x3072 .f32) (harg18 : arg18.IsWhole)
  (x0 : Vec Ideal S1024x1024 .fp8e5m2)
  (x1 : Vec Ideal S1024x1 .f32)
  (x2 : Vec Ideal S1024x1024 .fp8e5m2)
  (x3 : Vec Ideal S1024x1 .f32)
  (x4 : Vec Ideal S3072x1024 .fp8e4m3)
  (x5 : Vec Ideal S1x1024 .bf16)
  (x6 : Vec Ideal S3072x1024 .fp8e4m3)
  (x7 : Vec Ideal S1x1024 .bf16)
  (x8 : Vec Ideal S1024x3072 .fp8e4m3)
  (x9 : Vec Ideal S1024x1 .f32)
  (x10 : Vec Ideal S1024x3072 .fp8e5m2)
  (x11 : Vec Ideal S1024x1 .f32)
  (x12 : Vec Ideal S1024x1 .f32)
  (x13 : Vec Ideal S1x3072 .f32)
  (xo15 : Vec Ideal S8x3072 .f32)
  (xs0 : Vec Ideal S1024x3072 .f32)

/-- The first point of a row block leaves the first block of the contraction, added to zero. -/
theorem scratch_A (hc0 : cond0_0 i) (hc1 : cond0_1 i) (hc2 : ¬cond0_2 i) (hc3 : cond0_3 i) (hc4 : ¬cond0_4 i) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 x11 x12 x13).2.2.1 = k0_pay2 x0 x5 (k0_pay1 (F := Ideal)) x4 x1 := by
  unfold kernelRun0_A
  dsimp only
  try sl_unfold_words
  rw [View.canon_cons_unit_zero (S := S1024x3072) hz2, View.readCov_unit_zero (S := S1024x3072) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, View.ld_unit_zero (S := S1024x1024) hz2, View.ld_unit_zero (S := S1024x1) hz2, View.ld_unit_zero (S := S3072x1024) hz2, View.ld_unit_zero (S := S1x1024) hz2, View.ld_unit_zero (S := S1024x3072) hz2, View.ld_unit_zero (S := S1x3072) hz2, View.ld_unit_zero (S := S8x3072) hz2]

theorem scratch_E (hc0 : cond0_0 i) (hc1 : cond0_1 i) (hc2 : ¬cond0_2 i) (hc3 : ¬cond0_3 i) (hc4 : ¬cond0_4 i) :
    View.canon (kernelRun0_E (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 x11 x12 x13).2.2.1 = k0_pay2 x0 x5 (k0_pay1 (F := Ideal)) x4 x1 := by
  unfold kernelRun0_E
  dsimp only
  try sl_unfold_words
  rw [View.canon_cons_unit_zero (S := S1024x3072) hz2, View.readCov_unit_zero (S := S1024x3072) _ hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, View.ld_unit_zero (S := S1024x1024) hz2, View.ld_unit_zero (S := S1024x1) hz2, View.ld_unit_zero (S := S3072x1024) hz2, View.ld_unit_zero (S := S1x1024) hz2, View.ld_unit_zero (S := S1024x3072) hz2, View.ld_unit_zero (S := S1x3072) hz2, View.ld_unit_zero (S := S8x3072) hz2]

/-- The very first point also clears the gain's gradient. -/
theorem gain_A (hc0 : cond0_0 i) (hc1 : cond0_1 i) (hc2 : ¬cond0_2 i) (hc3 : cond0_3 i) (hc4 : ¬cond0_4 i) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 x11 x12 x13).2.1 = k0_pay4 (F := Ideal) := by
  unfold kernelRun0_A
  dsimp only
  try sl_unfold_words
  rw [View.canon_unit_zero (S := S8x3072) hz2]

/-- A later point of the first projection adds its block. -/
theorem scratch_B (hc0 : ¬cond0_0 i) (hc1 : cond0_1 i) (hc2 : ¬cond0_2 i) (hc3 : ¬cond0_3 i) (hc4 : ¬cond0_4 i) :
    View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 x11 x12 x13 xs0).2.2.1 = k0_pay2 x0 x5 xs0 x4 x1 := by
  unfold kernelRun0_B
  dsimp only
  try sl_unfold_words
  rw [View.canon_unit_zero (S := S1024x3072) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, View.ld_unit_zero (S := S1024x1024) hz2, View.ld_unit_zero (S := S1024x1) hz2, View.ld_unit_zero (S := S3072x1024) hz2, View.ld_unit_zero (S := S1x1024) hz2, View.ld_unit_zero (S := S1024x3072) hz2, View.ld_unit_zero (S := S1x3072) hz2, View.ld_unit_zero (S := S8x3072) hz2]

/-- So does a point of the second. -/
theorem scratch_C (hc0 : ¬cond0_0 i) (hc1 : ¬cond0_1 i) (hc2 : cond0_2 i) (hc3 : ¬cond0_3 i) (hc4 : ¬cond0_4 i) :
    View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 x11 x12 x13 xs0).2.2.1 = k0_pay3 x2 x7 xs0 x6 x3 := by
  unfold kernelRun0_C
  dsimp only
  try sl_unfold_words
  rw [View.canon_unit_zero (S := S1024x3072) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, View.ld_unit_zero (S := S1024x1024) hz2, View.ld_unit_zero (S := S1024x1) hz2, View.ld_unit_zero (S := S3072x1024) hz2, View.ld_unit_zero (S := S1x1024) hz2, View.ld_unit_zero (S := S1024x3072) hz2, View.ld_unit_zero (S := S1x3072) hz2, View.ld_unit_zero (S := S8x3072) hz2]

theorem scratch_D (hc0 : ¬cond0_0 i) (hc1 : ¬cond0_1 i) (hc2 : cond0_2 i) (hc3 : ¬cond0_3 i) (hc4 : cond0_4 i) :
    View.canon (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 x11 x12 x13 xo15 xs0).2.2.1 = k0_pay3 x2 x7 xs0 x6 x3 := by
  unfold kernelRun0_D
  dsimp only
  try sl_unfold_words
  rw [View.canon_unit_zero (S := S1024x3072) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, View.ld_unit_zero (S := S1024x1024) hz2, View.ld_unit_zero (S := S1024x1) hz2, View.ld_unit_zero (S := S3072x1024) hz2, View.ld_unit_zero (S := S1x1024) hz2, View.ld_unit_zero (S := S1024x3072) hz2, View.ld_unit_zero (S := S1x3072) hz2, View.ld_unit_zero (S := S8x3072) hz2]

/-- The rows' gradient before the gain is read back, sixty-four rows at a time, from the store of the whole block. -/
theorem read_back {κ : Kind} {sp : Space} (v : View sig κ sp S1024x3072 .f32) (w : Vec Ideal S1024x3072 .f32) (inb : ∀ a, (![0, 0] : Fin 2 → Nat) a + (![1024, 3072] : Fin 2 → Nat) a ≤ S1024x3072.size a)
    (r : Rect S1024x3072) :
    v.readCov (Val := Elt Ideal) [(⟨Rect.unit ![0, 0] ![1024, 3072] inb, w⟩ : View.Piece (Elt Ideal) S1024x3072 .f32)] r.toLoadRect = View.ld w r := by
  rw [View.readCov_eq_canon', View.canon_unit_zero (S := S1024x3072) hz2]

/-- The last point of a row block stores the block's input gradient, in sixteen pieces. -/
theorem rows_D (hc0 : ¬cond0_0 i) (hc1 : ¬cond0_1 i) (hc2 : cond0_2 i) (hc3 : ¬cond0_3 i) (hc4 : cond0_4 i) :
    View.canon (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 x11 x12 x13 xo15 xs0).1 = rows x13 (k0_pay3 x2 x7 xs0 x6 x3) x8 x9 x12 x10 x11 := by
  refine funext fun y => View.canon_apply_of_pieces _ _ ?_ y
    (cover0_D_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 x11 x12 x13 xo15 xs0 y)
  unfold kernelRun0_D
  dsimp only
  try sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, View.ld_unit_zero (S := S1024x1024) hz2, View.ld_unit_zero (S := S1024x1) hz2, View.ld_unit_zero (S := S3072x1024) hz2, View.ld_unit_zero (S := S1x1024) hz2, View.ld_unit_zero (S := S1024x3072) hz2, View.ld_unit_zero (S := S1x3072) hz2, View.ld_unit_zero (S := S8x3072) hz2, read_back]
  simp only [List.forall_mem_cons, rows_1, rows_2, rows_3, rows_4, rows_5, rows_6, rows_7, rows_8, rows_9, rows_10, rows_11, rows_12, rows_13, rows_14, rows_15]
  refine ⟨fun x => rows_at _ _ _ _ _ _ _ _ _ _ x, fun x => rows_at _ _ _ _ _ _ _ _ _ _ x, fun x => rows_at _ _ _ _ _ _ _ _ _ _ x, fun x => rows_at _ _ _ _ _ _ _ _ _ _ x, fun x => rows_at _ _ _ _ _ _ _ _ _ _ x, fun x => rows_at _ _ _ _ _ _ _ _ _ _ x, fun x => rows_at _ _ _ _ _ _ _ _ _ _ x, fun x => rows_at _ _ _ _ _ _ _ _ _ _ x, fun x => rows_at _ _ _ _ _ _ _ _ _ _ x, fun x => rows_at _ _ _ _ _ _ _ _ _ _ x, fun x => rows_at _ _ _ _ _ _ _ _ _ _ x, fun x => rows_at _ _ _ _ _ _ _ _ _ _ x, fun x => rows_at _ _ _ _ _ _ _ _ _ _ x, fun x => rows_at _ _ _ _ _ _ _ _ _ _ x, fun x => rows_at _ _ _ _ _ _ _ _ _ _ x, fun x => rows_at _ _ _ _ _ _ _ _ _ _ x, fun p hp => absurd hp List.not_mem_nil⟩

/-- And it adds the block's rows to the gain's gradient. -/
theorem gain_D (hc0 : ¬cond0_0 i) (hc1 : ¬cond0_1 i) (hc2 : cond0_2 i) (hc3 : ¬cond0_3 i) (hc4 : cond0_4 i) :
    View.canon (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 hc4 x0 x1 x2 x3 x4 x5 x6 x7 x8 x9 x10 x11 x12 x13 xo15 xs0).2.1 = fun j => (xo15 j + ∑ n ∈ Finset.range 16, gainRows (k0_pay3 x2 x7 xs0 x6 x3) x8 x9 n (j 0) (j 1) : EReal) := by
  unfold kernelRun0_D
  dsimp only
  try sl_unfold_words
  rw [View.canon_cons_unit_zero (S := S8x3072) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, harg18.read_unread, View.ld_unit_zero (S := S1024x1024) hz2, View.ld_unit_zero (S := S1024x1) hz2, View.ld_unit_zero (S := S3072x1024) hz2, View.ld_unit_zero (S := S1x1024) hz2, View.ld_unit_zero (S := S1024x3072) hz2, View.ld_unit_zero (S := S1x3072) hz2, View.ld_unit_zero (S := S8x3072) hz2, read_back, View.readCov_cons_toLoadRect]
  simp only [gain_1, gain_2, gain_3, gain_4, gain_5, gain_6, gain_7, gain_8, gain_9, gain_10, gain_11, gain_12, gain_13, gain_14, gain_15]
  funext j
  obtain ⟨u, q, rfl⟩ : ∃ (u : Fin 8) (q : Fin 3072), j = ix2 u q := ⟨j 0, j 1, eq_ix2 j⟩
  rw [gain_at _ _ _ 960 _ _ 15 (by decide) rfl, gain_at _ _ _ 896 _ _ 14 (by decide) rfl, gain_at _ _ _ 832 _ _ 13 (by decide) rfl, gain_at _ _ _ 768 _ _ 12 (by decide) rfl, gain_at _ _ _ 704 _ _ 11 (by decide) rfl, gain_at _ _ _ 640 _ _ 10 (by decide) rfl, gain_at _ _ _ 576 _ _ 9 (by decide) rfl, gain_at _ _ _ 512 _ _ 8 (by decide) rfl, gain_at _ _ _ 448 _ _ 7 (by decide) rfl, gain_at _ _ _ 384 _ _ 6 (by decide) rfl, gain_at _ _ _ 320 _ _ 5 (by decide) rfl, gain_at _ _ _ 256 _ _ 4 (by decide) rfl, gain_at _ _ _ 192 _ _ 3 (by decide) rfl, gain_at _ _ _ 128 _ _ 2 (by decide) rfl, gain_at _ _ _ 64 _ _ 1 (by decide) rfl, gain_at _ _ _ 0 _ _ 0 (by decide) rfl]
  simp only [Finset.sum_range_succ, Finset.sum_range_zero, zero_add, add_assoc]
  rfl

end Cert.DxIdeal.Body

end
-- ==== Proof.DxRefValue.lean ====
/- The reference of the input's gradient: its two results as formulas. -/
module

public import proofs.«01_k».proof.Proof.Sums
public import proofs.«01_k».proof.Proof.Gen.DxRefIdeal.Value
public import Idealize.ShloMosaic.Lib.Claim

@[expose] public section

set_option maxRecDepth 16384

noncomputable section

namespace Cert.DxRefIdeal.Value

open Cert.DxRefIdeal Cert.DxRefIdeal.Gen Idealize.ShloMosaic Idealize.ShloMosaic.TcCoe Idealize.SL.Sem

section Body

variable (x0 : Vec Ideal S16384x3072 .fp8e5m2) (x1 : Vec Ideal S16384x1 .f32) (x2 : Vec Ideal S16384x9216 .fp8e5m2) (x3 : Vec Ideal S16384x1 .f32) (x4 : Vec Ideal S16384x3072 .fp8e4m3) (x5 : Vec Ideal S16384x1 .f32) (x6 : Vec Ideal S16384x1 .f32) (x7 : Vec Ideal S1x3072 .f32) (x8 : Vec Ideal S16384x8192 .fp8e5m2) (x9 : Vec Ideal S16384x1 .f32) (x10 : Vec Ideal S3072x8192 .fp8e4m3) (x11 : Vec Ideal S1x8192 .f32) (x12 : Vec Ideal S3072x9216 .fp8e4m3) (x13 : Vec Ideal S1x9216 .f32)

/-- The gradient of the normalised row times its gain, as the reference forms it: the two projections' contractions, each
    with the weight's scale folded into the weight and the row's scale applied to the whole sum. -/
def dh (t : Fin 16384) (c : Fin 3072) : EReal :=
  (∑ k : Fin 8192, x8 (ix2 t k) * (x10 (ix2 c k) * x11 (ix2 0 k))) * x9 (ix2 t 0)
    + (∑ k : Fin 9216, x2 (ix2 t k) * (x12 (ix2 c k) * x13 (ix2 0 k))) * x3 (ix2 t 0)

/-- The input's gradient from `h`, the rows' gradient before the gain. -/
def dx (h : Fin 16384 → Fin 3072 → EReal) (t : Fin 16384) (c : Fin 3072) : EReal :=
  x0 (ix2 t c) * x1 (ix2 t 0)
    + x6 (ix2 t 0) * ((h t c * x7 (ix2 0 c) - (∑ k : Fin 3072, h t k * x7 (ix2 0 k)) * ((1 / 3072 : ℝ) : EReal))
      - x4 (ix2 t c) * x5 (ix2 t 0) * ((∑ k : Fin 3072, h t k * x7 (ix2 0 k) * (x4 (ix2 t k) * x5 (ix2 t 0))) * ((1 / 3072 : ℝ) : EReal)))

/-- The gain's gradient from `h`. -/
def dgain (h : Fin 16384 → Fin 3072 → EReal) (c : Fin 3072) : EReal :=
  ∑ t : Fin 16384, h t c * (x4 (ix2 t c) * x5 (ix2 t 0))

theorem size_d : (Scalar.ofBits (F := Ideal) .f32 0x45400000#32 : EReal) = ((3072 : ℝ) : EReal) := by
  show Ideal.ofBits .f32 0x45400000#32 = _
  simp [Ideal.ofBits, Ideal.ieee, -EReal.coe_mul]; norm_num

/-- Division by the row's length is multiplication by its reciprocal. -/
theorem div_d (x : EReal) : Ideal.div x ((3072 : ℝ) : EReal) = x * ((1 / 3072 : ℝ) : EReal) := by
  unfold Ideal.div
  rw [if_neg (by norm_cast), one_div, EReal.coe_inv]

theorem dh_apply (t : Fin 16384) (c : Fin 3072) :
    k0_pay4 (F := Ideal) x10 x11 x8 x9 x12 x13 x2 x3 (ix2 t c) = dh x2 x3 x8 x9 x10 x11 x12 x13 t c := by
  unfold dh
  pointwise [k0_pay4]

theorem dgain_apply (h : Vec Ideal S16384x3072 .f32) (c : Fin 3072) :
    k0_pay2 (F := Ideal) h (k0_pay6 x4) x5 (ix1 c) = dgain x4 x5 (fun t k => h (ix2 t k)) c := by
  unfold dgain
  pointwise [k0_pay2, k0_pay1, k0_pay6]

theorem dx_apply (h : Vec Ideal S16384x3072 .f32) (t : Fin 16384) (c : Fin 3072) :
    k0_pay3 (F := Ideal) h (k0_pay5 x7) (k0_pay6 x4) x5 x6 x0 x1 (ix2 t c) = dx x0 x1 x4 x5 x6 x7 (fun t k => h (ix2 t k)) t c := by
  unfold dx
  pointwise [k0_pay3, k0_pay1, k0_pay6, k0_pay5, size_d, div_d]

theorem hz2 : (![0, 0] : Fin 2 → Nat) = fun _ => 0 := by decide
theorem hz1 : (![0] : Fin 1 → Nat) = fun _ => 0 := by decide

theorem out14_apply (t : Fin 16384) (c : Fin 3072) :
    out0_14 (F := Ideal) x0 x1 x2 x3 x4 x5 x6 x7 x8 x9 x10 x11 x12 x13 (ix2 t c) = dx x0 x1 x4 x5 x6 x7 (dh x2 x3 x8 x9 x10 x11 x12 x13) t c := by
  unfold out0_14
  rw [View.canon_unit_zero hz2]
  unfold k0_pay7 k0_pay8
  simp only [View.ld_unit_zero (S := S16384x3072) hz2, View.ld_unit_zero (S := S16384x1) hz2, View.ld_unit_zero (S := S16384x9216) hz2, View.ld_unit_zero (S := S1x3072) hz2, View.ld_unit_zero (S := S16384x8192) hz2, View.ld_unit_zero (S := S3072x8192) hz2, View.ld_unit_zero (S := S1x8192) hz2, View.ld_unit_zero (S := S3072x9216) hz2, View.ld_unit_zero (S := S1x9216) hz2]
  rw [dx_apply]
  simp only [dh_apply]

theorem out15_apply (c : Fin 3072) :
    out0_15 (F := Ideal) x0 x1 x2 x3 x4 x5 x6 x7 x8 x9 x10 x11 x12 x13 (ix1 c) = dgain x4 x5 (dh x2 x3 x8 x9 x10 x11 x12 x13) c := by
  unfold out0_15
  rw [View.canon_unit_zero hz1]
  unfold k0_pay7 k0_pay8
  simp only [View.ld_unit_zero (S := S16384x3072) hz2, View.ld_unit_zero (S := S16384x1) hz2, View.ld_unit_zero (S := S16384x9216) hz2, View.ld_unit_zero (S := S1x3072) hz2, View.ld_unit_zero (S := S16384x8192) hz2, View.ld_unit_zero (S := S3072x8192) hz2, View.ld_unit_zero (S := S1x8192) hz2, View.ld_unit_zero (S := S3072x9216) hz2, View.ld_unit_zero (S := S1x9216) hz2]
  rw [dgain_apply]
  simp only [dh_apply]

end Body

variable (m : (ℓ : Loc nD τ sig) → Buf (Elt Ideal) ℓ) (c : Dev nD)

/-- The arrays as the call finds them, in the order of its arguments: the residual's gradient, the projections' gradient
    (queries, keys, values), the normalised input (codes and scales each), the reciprocal deviations, the gain, the hidden
    layer's gradient with its scales, and the two weights with theirs. -/
abbrev arrDy : S16384x3072.Idx → EReal := V m c main_v0
abbrev arrDys : S16384x1.Idx → EReal := V m c main_v1
abbrev arrDq : S16384x9216.Idx → EReal := V m c main_v2
abbrev arrDqs : S16384x1.Idx → EReal := V m c main_v3
abbrev arrX : S16384x3072.Idx → EReal := V m c main_v4
abbrev arrXs : S16384x1.Idx → EReal := V m c main_v5
abbrev arrR : S16384x1.Idx → EReal := V m c main_v6
abbrev arrG : S1x3072.Idx → EReal := V m c main_v7
abbrev arrDa : S16384x8192.Idx → EReal := V m c main_arg8
abbrev arrDas : S16384x1.Idx → EReal := V m c main_arg9
abbrev arrWi : S3072x8192.Idx → EReal := V m c main_arg10
abbrev arrSi : S1x8192.Idx → EReal := V m c main_v8
abbrev arrWq : S3072x9216.Idx → EReal := V m c main_v9
abbrev arrSq : S1x9216.Idx → EReal := V m c main_v10

/-- The arrays in terms of the arguments. -/
theorem arrDy_eq : arrDy m c = shapeCast S16384x3072 (m ((c : Thread nD τ).loc main_arg0)) shapeCasts_S8x2048x3072_S16384x3072 := by
  show V m c main_v0 = _
  unfold_abbrev_sides
  after_results
  rfl
theorem arrDys_eq : arrDys m c = shapeCast S16384x1 (m ((c : Thread nD τ).loc main_arg1)) shapeCasts_S8x2048_S16384x1 := by
  show V m c main_v1 = _
  unfold_abbrev_sides
  after_results
  rfl
theorem arrDq_eq : arrDq m c = shapeCast S16384x9216 (m ((c : Thread nD τ).loc main_arg2)) shapeCasts_S8x2048x3x24x128_S16384x9216 := by
  show V m c main_v2 = _
  unfold_abbrev_sides
  after_results
  rfl
theorem arrDqs_eq : arrDqs m c = shapeCast S16384x1 (m ((c : Thread nD τ).loc main_arg3)) shapeCasts_S8x2048_S16384x1 := by
  show V m c main_v3 = _
  unfold_abbrev_sides
  after_results
  rfl
theorem arrX_eq : arrX m c = shapeCast S16384x3072 (m ((c : Thread nD τ).loc main_arg4)) shapeCasts_S8x2048x3072_S16384x3072 := by
  show V m c main_v4 = _
  unfold_abbrev_sides
  after_results
  rfl
theorem arrXs_eq : arrXs m c = shapeCast S16384x1 (m ((c : Thread nD τ).loc main_arg5)) shapeCasts_S8x2048_S16384x1 := by
  show V m c main_v5 = _
  unfold_abbrev_sides
  after_results
  rfl
theorem arrR_eq : arrR m c = shapeCast S16384x1 (m ((c : Thread nD τ).loc main_arg6)) shapeCasts_S8x2048_S16384x1 := by
  show V m c main_v6 = _
  unfold_abbrev_sides
  after_results
  rfl
theorem arrG_eq : arrG m c = shapeCast S1x3072 (m ((c : Thread nD τ).loc main_arg7)) shapeCasts_S3072_S1x3072 := by
  show V m c main_v7 = _
  unfold_abbrev_sides
  after_results
  rfl
theorem arrDa_eq : arrDa m c = m ((c : Thread nD τ).loc main_arg8) := V_main_arg8 m c
theorem arrDas_eq : arrDas m c = m ((c : Thread nD τ).loc main_arg9) := V_main_arg9 m c
theorem arrWi_eq : arrWi m c = m ((c : Thread nD τ).loc main_arg10) := V_main_arg10 m c
theorem arrSi_eq : arrSi m c = shapeCast S1x8192 (m ((c : Thread nD τ).loc main_arg11)) shapeCasts_S8192_S1x8192 := by
  show V m c main_v8 = _
  unfold_abbrev_sides
  after_results
  rfl
theorem arrWq_eq : arrWq m c = shapeCast S3072x9216 (m ((c : Thread nD τ).loc main_arg12)) shapeCasts_S3072x3x24x128_S3072x9216 := by
  show V m c main_v9 = _
  unfold_abbrev_sides
  after_results
  rfl
theorem arrSq_eq : arrSq m c = shapeCast S1x9216 (m ((c : Thread nD τ).loc main_arg13)) shapeCasts_S3x24x128_S1x9216 := by
  show V m c main_v10 = _
  unfold_abbrev_sides
  after_results
  rfl

/-- Every window has one block, at the origin. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0] :=
  (by decide +kernel : ∀ t : Fin grid0.N, _)

/-- Each input's one block is its array. -/
theorem blk0 (t : Fin cfg0.N) : (iblk m c 0 t : S16384x3072.Idx → EReal) = arrDy m c := by
  funext y; blk_ext [iblk, idx t]
theorem blk1 (t : Fin cfg0.N) : (iblk m c 1 t : S16384x1.Idx → EReal) = arrDys m c := by
  funext y; blk_ext [iblk, idx t]
theorem blk2 (t : Fin cfg0.N) : (iblk m c 2 t : S16384x9216.Idx → EReal) = arrDq m c := by
  funext y; blk_ext [iblk, idx t]
theorem blk3 (t : Fin cfg0.N) : (iblk m c 3 t : S16384x1.Idx → EReal) = arrDqs m c := by
  funext y; blk_ext [iblk, idx t]
theorem blk4 (t : Fin cfg0.N) : (iblk m c 4 t : S16384x3072.Idx → EReal) = arrX m c := by
  funext y; blk_ext [iblk, idx t]
theorem blk5 (t : Fin cfg0.N) : (iblk m c 5 t : S16384x1.Idx → EReal) = arrXs m c := by
  funext y; blk_ext [iblk, idx t]
theorem blk6 (t : Fin cfg0.N) : (iblk m c 6 t : S16384x1.Idx → EReal) = arrR m c := by
  funext y; blk_ext [iblk, idx t]
theorem blk7 (t : Fin cfg0.N) : (iblk m c 7 t : S1x3072.Idx → EReal) = arrG m c := by
  funext y; blk_ext [iblk, idx t]
theorem blk8 (t : Fin cfg0.N) : (iblk m c 8 t : S16384x8192.Idx → EReal) = arrDa m c := by
  funext y; blk_ext [iblk, idx t]
theorem blk9 (t : Fin cfg0.N) : (iblk m c 9 t : S16384x1.Idx → EReal) = arrDas m c := by
  funext y; blk_ext [iblk, idx t]
theorem blk10 (t : Fin cfg0.N) : (iblk m c 10 t : S3072x8192.Idx → EReal) = arrWi m c := by
  funext y; blk_ext [iblk, idx t]
theorem blk11 (t : Fin cfg0.N) : (iblk m c 11 t : S1x8192.Idx → EReal) = arrSi m c := by
  funext y; blk_ext [iblk, idx t]
theorem blk12 (t : Fin cfg0.N) : (iblk m c 12 t : S3072x9216.Idx → EReal) = arrWq m c := by
  funext y; blk_ext [iblk, idx t]
theorem blk13 (t : Fin cfg0.N) : (iblk m c 13 t : S1x9216.Idx → EReal) = arrSq m c := by
  funext y; blk_ext [iblk, idx t]

/-- The rows' gradient before the gain, from the arrays. -/
abbrev H : Fin 16384 → Fin 3072 → EReal := dh (arrDq m c) (arrDqs m c) (arrDa m c) (arrDas m c) (arrWi m c) (arrSi m c) (arrWq m c) (arrSq m c)

theorem final14 : (dats m 0 c).arrAt 14 cfg0.N = (fun i => dx (arrDy m c) (arrDys m c) (arrX m c) (arrXs m c) (arrR m c) (arrG m c) (H m c) (i 0) (i 1) : S16384x3072.Idx → EReal) := by
  refine (dats m 0 c).arrAt_eq_of_covers 14 _ (by decide +kernel) fun t hf y => ?_
  blk_simp
  rw [after0_14]
  have e : (((View.whole main_v11_0).slice (win0_14.rect t)).emb y : S16384x3072.Idx) = y := by
    blk_ext [idx t]
  rw [e, eq_ix2 y]
  refine (out14_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (y 0) (y 1)).trans ?_
  rw [blk0 m c t, blk1 m c t, blk2 m c t, blk3 m c t, blk4 m c t, blk5 m c t, blk6 m c t, blk7 m c t, blk8 m c t, blk9 m c t, blk10 m c t, blk11 m c t, blk12 m c t, blk13 m c t]
  rfl

theorem final15 : (dats m 0 c).arrAt 15 cfg0.N = (fun i => dgain (arrX m c) (arrXs m c) (H m c) (i 0) : S3072.Idx → EReal) := by
  refine (dats m 0 c).arrAt_eq_of_covers 15 _ (by decide +kernel) fun t hf y => ?_
  blk_simp
  rw [after0_15]
  have e : (((View.whole main_v11_1).slice (win0_15.rect t)).emb y : S3072.Idx) = y := by
    blk_ext [idx t]
  rw [e, eq_ix1 y]
  refine (out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (y 0)).trans ?_
  rw [blk2 m c t, blk3 m c t, blk4 m c t, blk5 m c t, blk8 m c t, blk9 m c t, blk10 m c t, blk11 m c t, blk12 m c t, blk13 m c t]
  rfl

/-- The run, its results read. -/
theorem run (ρ : Dev nD → PrngReg) : θ_run defs (onTc (τ := τ) (main (F := Ideal))) ⟨m, fun _ => 0, ρ⟩ fun r => ∀ c : Dev nD,
      r.2.mem ((c : Thread nD τ).loc main_v11_0) = (fun i => dx (arrDy m c) (arrDys m c) (arrX m c) (arrXs m c) (arrR m c) (arrG m c) (H m c) (i 0) (i 1) : S16384x3072.Idx → EReal)
      ∧ r.2.mem ((c : Thread nD τ).loc main_v11_1) = (fun i => dgain (arrX m c) (arrXs m c) (H m c) (i 0) : S3072.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final14 m c), (h c).2.1.trans (final15 m c), (h c).2.2⟩) (run_blocks m ρ)

end Cert.DxRefIdeal.Value

end
-- ==== Proof.DxValue.lean ====
/- What the input-gradient kernel leaves in its two results, in the reference's formulas. -/
module

public import proofs.«01_k».proof.Proof.Sums
public import proofs.«01_k».proof.Proof.DxCases
public import proofs.«01_k».proof.Proof.DxRefValue
public import proofs.«01_k».proof.Proof.Gen.DxIdeal.Run
public import proofs.«01_k».proof.Proof.Gen.DxIdeal.Frame
public import Idealize.ShloMosaic.Lib.Claim

@[expose] public section

set_option maxRecDepth 16384

noncomputable section

namespace Cert.DxIdeal.Value

open Cert.DxIdeal Cert.DxIdeal.Gen Cert.DxIdeal.Body Idealize.ShloMosaic Idealize.ShloMosaic.TcCoe Idealize.SL.Sem

variable (m : (ℓ : Loc nD τ sig) → Buf (Elt Ideal) ℓ) (c : Dev nD)

/-- The arrays as the grid finds them, under the names the reference gives them. -/
abbrev arrDy : S16384x3072.Idx → EReal := V m c main_v0
abbrev arrDys : S16384x1.Idx → EReal := V m c main_v4
abbrev arrDq : S16384x9216.Idx → EReal := V m c main_v2
abbrev arrDqs : S16384x1.Idx → EReal := V m c main_v5
abbrev arrX : S16384x3072.Idx → EReal := V m c main_v1
abbrev arrXs : S16384x1.Idx → EReal := V m c main_v10
abbrev arrR : S16384x1.Idx → EReal := V m c main_v11
abbrev arrG : S1x3072.Idx → EReal := V m c main_v12
abbrev arrDa : S16384x8192.Idx → EReal := V m c main_arg8
abbrev arrDas : S16384x1.Idx → EReal := V m c main_arg9
abbrev arrWi : S3072x8192.Idx → EReal := V m c main_arg10
abbrev arrSi : S1x8192.Idx → EReal := V m c main_v7
abbrev arrWq : S3072x9216.Idx → EReal := V m c main_v3
abbrev arrSq : S1x9216.Idx → EReal := V m c main_v9

/-- The arrays in terms of the arguments. -/
theorem arrDy_eq : arrDy m c = shapeCast S16384x3072 (m ((c : Thread nD τ).loc main_arg0)) shapeCasts_S8x2048x3072_S16384x3072 := by
  show StableHlo.after hostOps0 (fun b => m (c, b)) (Proc.devRef .tc main_v0) = _
  unfold_abbrev_sides
  after_results
  rfl
theorem arrDys_eq : arrDys m c = shapeCast S16384x1 (m ((c : Thread nD τ).loc main_arg1)) shapeCasts_S8x2048_S16384x1 := by
  show StableHlo.after hostOps0 (fun b => m (c, b)) (Proc.devRef .tc main_v4) = _
  unfold_abbrev_sides
  after_results
  rfl
theorem arrDq_eq : arrDq m c = shapeCast S16384x9216 (m ((c : Thread nD τ).loc main_arg2)) shapeCasts_S8x2048x3x24x128_S16384x9216 := by
  show StableHlo.after hostOps0 (fun b => m (c, b)) (Proc.devRef .tc main_v2) = _
  unfold_abbrev_sides
  after_results
  rfl
theorem arrDqs_eq : arrDqs m c = shapeCast S16384x1 (m ((c : Thread nD τ).loc main_arg3)) shapeCasts_S8x2048_S16384x1 := by
  show StableHlo.after hostOps0 (fun b => m (c, b)) (Proc.devRef .tc main_v5) = _
  unfold_abbrev_sides
  after_results
  rfl
theorem arrX_eq : arrX m c = shapeCast S16384x3072 (m ((c : Thread nD τ).loc main_arg4)) shapeCasts_S8x2048x3072_S16384x3072 := by
  show StableHlo.after hostOps0 (fun b => m (c, b)) (Proc.devRef .tc main_v1) = _
  unfold_abbrev_sides
  after_results
  rfl
theorem arrXs_eq : arrXs m c = shapeCast S16384x1 (m ((c : Thread nD τ).loc main_arg5)) shapeCasts_S8x2048_S16384x1 := by
  show StableHlo.after hostOps0 (fun b => m (c, b)) (Proc.devRef .tc main_v10) = _
  unfold_abbrev_sides
  after_results
  rfl
theorem arrR_eq : arrR m c = shapeCast S16384x1 (m ((c : Thread nD τ).loc main_arg6)) shapeCasts_S8x2048_S16384x1 := by
  show StableHlo.after hostOps0 (fun b => m (c, b)) (Proc.devRef .tc main_v11) = _
  unfold_abbrev_sides
  after_results
  rfl
theorem arrG_eq : arrG m c = shapeCast S1x3072 (m ((c : Thread nD τ).loc main_arg7)) shapeCasts_S3072_S1x3072 := by
  show StableHlo.after hostOps0 (fun b => m (c, b)) (Proc.devRef .tc main_v12) = _
  unfold_abbrev_sides
  after_results
  rfl
theorem arrDa_eq : arrDa m c = m ((c : Thread nD τ).loc main_arg8) := V_main_arg8 m c
theorem arrDas_eq : arrDas m c = m ((c : Thread nD τ).loc main_arg9) := V_main_arg9 m c
theorem arrWi_eq : arrWi m c = m ((c : Thread nD τ).loc main_arg10) := V_main_arg10 m c
theorem arrSi_eq : arrSi m c = (shapeCast S1x8192 (m ((c : Thread nD τ).loc main_arg11)) shapeCasts_S8192_S1x8192 : S1x8192.Idx → EReal) := by
  show StableHlo.after hostOps0 (fun b => m (c, b)) (Proc.devRef .tc main_v7) = _
  unfold_abbrev_sides
  after_results
  rfl
theorem arrWq_eq : arrWq m c = shapeCast S3072x9216 (m ((c : Thread nD τ).loc main_arg12)) shapeCasts_S3072x3x24x128_S3072x9216 := by
  show StableHlo.after hostOps0 (fun b => m (c, b)) (Proc.devRef .tc main_v3) = _
  unfold_abbrev_sides
  after_results
  rfl
theorem arrSq_eq : arrSq m c = (shapeCast S1x9216 (m ((c : Thread nD τ).loc main_arg13)) shapeCasts_S3x24x128_S1x9216 : S1x9216.Idx → EReal) := by
  show StableHlo.after hostOps0 (fun b => m (c, b)) (Proc.devRef .tc main_v9) = _
  unfold_abbrev_sides
  after_results
  rfl

/-- Where each window's block lies: the row block on the rows, the point's block of the contraction. -/
theorem idx : ∀ t : Fin cfg0.N, win0_0.index t = ![t.val / 17, min (t.val % 17) 7] ∧ win0_1.index t = ![t.val / 17, 0]
    ∧ win0_2.index t = ![t.val / 17, t.val % 17 - 8] ∧ win0_3.index t = ![t.val / 17, 0]
    ∧ win0_4.index t = ![0, min (t.val % 17) 7] ∧ win0_5.index t = ![0, min (t.val % 17) 7]
    ∧ win0_6.index t = ![0, t.val % 17 - 8] ∧ win0_7.index t = ![0, t.val % 17 - 8]
    ∧ win0_8.index t = ![t.val / 17, 0] ∧ win0_9.index t = ![t.val / 17, 0] ∧ win0_10.index t = ![t.val / 17, 0]
    ∧ win0_11.index t = ![t.val / 17, 0] ∧ win0_12.index t = ![t.val / 17, 0] ∧ win0_13.index t = ![0, 0]
    ∧ win0_14.index t = ![t.val / 17, 0] ∧ win0_15.index t = ![0, 0] :=
  (by decide +kernel : ∀ t : Fin grid0.N, _)

section Reads

variable (t : Fin cfg0.N) (r : Fin 1024) (k : Fin 1024) (q : Fin 3072)

theorem read0 (h : t.val / 17 * 1024 + r.val < 16384) (h' : min (t.val % 17) 7 * 1024 + k.val < 8192) :
    (iblk m c 0 t : Vec Ideal S1024x1024 .fp8e5m2) (ix2 r k) = arrDa m c (ix2 ⟨_, h⟩ ⟨_, h'⟩) := by
  blk_ext [iblk, idx t]
theorem read1 (h : t.val / 17 * 1024 + r.val < 16384) :
    (iblk m c 1 t : Vec Ideal S1024x1 .f32) (ix2 r 0) = arrDas m c (ix2 ⟨_, h⟩ 0) := by
  blk_ext [iblk, idx t]
theorem read2 (h : t.val / 17 * 1024 + r.val < 16384) (h' : (t.val % 17 - 8) * 1024 + k.val < 9216) :
    (iblk m c 2 t : Vec Ideal S1024x1024 .fp8e5m2) (ix2 r k) = arrDq m c (ix2 ⟨_, h⟩ ⟨_, h'⟩) := by
  blk_ext [iblk, idx t]
theorem read3 (h : t.val / 17 * 1024 + r.val < 16384) :
    (iblk m c 3 t : Vec Ideal S1024x1 .f32) (ix2 r 0) = arrDqs m c (ix2 ⟨_, h⟩ 0) := by
  blk_ext [iblk, idx t]
theorem read4 (h' : min (t.val % 17) 7 * 1024 + k.val < 8192) :
    (iblk m c 4 t : Vec Ideal S3072x1024 .fp8e4m3) (ix2 q k) = arrWi m c (ix2 q ⟨_, h'⟩) := by
  blk_ext [iblk, idx t]
theorem read5 (h' : min (t.val % 17) 7 * 1024 + k.val < 8192) :
    (iblk m c 5 t : Vec Ideal S1x1024 .bf16) (ix2 0 k) = arrSi m c (ix2 0 ⟨_, h'⟩) := by
  blk_ext [iblk, idx t]
theorem read6 (h' : (t.val % 17 - 8) * 1024 + k.val < 9216) :
    (iblk m c 6 t : Vec Ideal S3072x1024 .fp8e4m3) (ix2 q k) = arrWq m c (ix2 q ⟨_, h'⟩) := by
  blk_ext [iblk, idx t]
theorem read7 (h' : (t.val % 17 - 8) * 1024 + k.val < 9216) :
    (iblk m c 7 t : Vec Ideal S1x1024 .bf16) (ix2 0 k) = arrSq m c (ix2 0 ⟨_, h'⟩) := by
  blk_ext [iblk, idx t]
theorem read8 (h : t.val / 17 * 1024 + r.val < 16384) :
    (iblk m c 8 t : Vec Ideal S1024x3072 .fp8e4m3) (ix2 r q) = arrX m c (ix2 ⟨_, h⟩ q) := by
  blk_ext [iblk, idx t]
theorem read9 (h : t.val / 17 * 1024 + r.val < 16384) :
    (iblk m c 9 t : Vec Ideal S1024x1 .f32) (ix2 r 0) = arrXs m c (ix2 ⟨_, h⟩ 0) := by
  blk_ext [iblk, idx t]
theorem read10 (h : t.val / 17 * 1024 + r.val < 16384) :
    (iblk m c 10 t : Vec Ideal S1024x3072 .fp8e5m2) (ix2 r q) = arrDy m c (ix2 ⟨_, h⟩ q) := by
  blk_ext [iblk, idx t]
theorem read11 (h : t.val / 17 * 1024 + r.val < 16384) :
    (iblk m c 11 t : Vec Ideal S1024x1 .f32) (ix2 r 0) = arrDys m c (ix2 ⟨_, h⟩ 0) := by
  blk_ext [iblk, idx t]
theorem read12 (h : t.val / 17 * 1024 + r.val < 16384) :
    (iblk m c 12 t : Vec Ideal S1024x1 .f32) (ix2 r 0) = arrR m c (ix2 ⟨_, h⟩ 0) := by
  blk_ext [iblk, idx t]
theorem read13 :
    (iblk m c 13 t : Vec Ideal S1x3072 .f32) (ix2 0 q) = arrG m c (ix2 0 q) := by
  blk_ext [iblk, idx t]

end Reads

section Points

variable (t : Fin cfg0.N)

/-- What each kind of point leaves in the carried block, over what the point before left there. -/
theorem carried_A (h0 : t.val % 17 = 0) (h1 : t.val % 17 ≤ 7) (h2 : ¬8 ≤ t.val % 17) (h3 : t.val % 272 = 0) (h4 : ¬t.val % 17 = 16) :
    (outsAt0 m c t.val t.isLt).2.2 = k0_pay2 (iblk m c 0 t) (iblk m c 5 t) (k0_pay1 (F := Ideal)) (iblk m c 4 t) (iblk m c 1 t) := by
  rw [outsAt0_A m c t h0 h1 h2 h3 h4]
  dsimp only
  unfold sout0_A_0
  rw [View.read_writes_junk_eq_canon]
  exact scratch_A ..

theorem carried_E (h0 : t.val % 17 = 0) (h1 : t.val % 17 ≤ 7) (h2 : ¬8 ≤ t.val % 17) (h3 : ¬t.val % 272 = 0) (h4 : ¬t.val % 17 = 16) :
    (outsAt0 m c t.val t.isLt).2.2 = k0_pay2 (iblk m c 0 t) (iblk m c 5 t) (k0_pay1 (F := Ideal)) (iblk m c 4 t) (iblk m c 1 t) := by
  rw [outsAt0_E m c t h0 h1 h2 h3 h4]
  dsimp only
  unfold sout0_E_0
  rw [View.read_writes_junk_eq_canon]
  exact scratch_E ..

theorem carried_B (h0 : ¬t.val % 17 = 0) (h1 : t.val % 17 ≤ 7) (h2 : ¬8 ≤ t.val % 17) (h3 : ¬t.val % 272 = 0) (h4 : ¬t.val % 17 = 16) :
    (outsAt0 m c t.val t.isLt).2.2 = k0_pay2 (iblk m c 0 t) (iblk m c 5 t) (outsAt0 m c (t.val - 1) (Nat.lt_of_le_of_lt (Nat.sub_le _ _) t.isLt)).2.2 (iblk m c 4 t) (iblk m c 1 t) := by
  rw [outsAt0_B m c t h0 h1 h2 h3 h4]
  dsimp only
  unfold sout0_B_0
  rw [View.read_writes_junk_eq_canon]
  exact scratch_B ..

theorem carried_C (h0 : ¬t.val % 17 = 0) (h1 : ¬t.val % 17 ≤ 7) (h2 : 8 ≤ t.val % 17) (h3 : ¬t.val % 272 = 0) (h4 : ¬t.val % 17 = 16) :
    (outsAt0 m c t.val t.isLt).2.2 = k0_pay3 (iblk m c 2 t) (iblk m c 7 t) (outsAt0 m c (t.val - 1) (Nat.lt_of_le_of_lt (Nat.sub_le _ _) t.isLt)).2.2 (iblk m c 6 t) (iblk m c 3 t) := by
  rw [outsAt0_C m c t h0 h1 h2 h3 h4]
  dsimp only
  unfold sout0_C_0
  rw [View.read_writes_junk_eq_canon]
  exact scratch_C ..

theorem carried_D (h0 : ¬t.val % 17 = 0) (h1 : ¬t.val % 17 ≤ 7) (h2 : 8 ≤ t.val % 17) (h3 : ¬t.val % 272 = 0) (h4 : t.val % 17 = 16) :
    (outsAt0 m c t.val t.isLt).2.2 = k0_pay3 (iblk m c 2 t) (iblk m c 7 t) (outsAt0 m c (t.val - 1) (Nat.lt_of_le_of_lt (Nat.sub_le _ _) t.isLt)).2.2 (iblk m c 6 t) (iblk m c 3 t) := by
  rw [outsAt0_D m c t h0 h1 h2 h3 h4]
  dsimp only
  unfold sout0_D_0
  rw [View.read_writes_junk_eq_canon]
  exact scratch_D ..

/-- What each kind of point leaves in the gain's gradient. -/
theorem gain15_A (h0 : t.val % 17 = 0) (h1 : t.val % 17 ≤ 7) (h2 : ¬8 ≤ t.val % 17) (h3 : t.val % 272 = 0) (h4 : ¬t.val % 17 = 16) : (outsAt0 m c t.val t.isLt).2.1 = k0_pay4 (F := Ideal) := by
  rw [outsAt0_A m c t h0 h1 h2 h3 h4]
  dsimp only
  unfold out0_A_15
  rw [View.read_writes_junk_eq_canon]
  exact gain_A ..

theorem gain15_B (h0 : ¬t.val % 17 = 0) (h1 : t.val % 17 ≤ 7) (h2 : ¬8 ≤ t.val % 17) (h3 : ¬t.val % 272 = 0) (h4 : ¬t.val % 17 = 16) : (outsAt0 m c t.val t.isLt).2.1 = (outsAt0 m c (t.val - 1) (Nat.lt_of_le_of_lt (Nat.sub_le _ _) t.isLt)).2.1 := by
  rw [outsAt0_B m c t h0 h1 h2 h3 h4]
  rfl

theorem gain15_C (h0 : ¬t.val % 17 = 0) (h1 : ¬t.val % 17 ≤ 7) (h2 : 8 ≤ t.val % 17) (h3 : ¬t.val % 272 = 0) (h4 : ¬t.val % 17 = 16) : (outsAt0 m c t.val t.isLt).2.1 = (outsAt0 m c (t.val - 1) (Nat.lt_of_le_of_lt (Nat.sub_le _ _) t.isLt)).2.1 := by
  rw [outsAt0_C m c t h0 h1 h2 h3 h4]
  rfl

theorem gain15_E (h0 : t.val % 17 = 0) (h1 : t.val % 17 ≤ 7) (h2 : ¬8 ≤ t.val % 17) (h3 : ¬t.val % 272 = 0) (h4 : ¬t.val % 17 = 16) : (outsAt0 m c t.val t.isLt).2.1 = (outsAt0 m c (t.val - 1) (Nat.lt_of_le_of_lt (Nat.sub_le _ _) t.isLt)).2.1 := by
  rw [outsAt0_E m c t h0 h1 h2 h3 h4]
  rfl

theorem gain15_D (h0 : ¬t.val % 17 = 0) (h1 : ¬t.val % 17 ≤ 7) (h2 : 8 ≤ t.val % 17) (h3 : ¬t.val % 272 = 0) (h4 : t.val % 17 = 16) (u : Fin 8) (q : Fin 3072) : ((outsAt0 m c t.val t.isLt).2.1 (ix2 u q) : EReal)
    = (outsAt0 m c (t.val - 1) (Nat.lt_of_le_of_lt (Nat.sub_le _ _) t.isLt)).2.1 (ix2 u q) + ∑ n ∈ Finset.range 16, gainRows (outsAt0 m c t.val t.isLt).2.2 (iblk m c 8 t) (iblk m c 9 t) n u q := by
  rw [carried_D m c t h0 h1 h2 h3 h4, outsAt0_D m c t h0 h1 h2 h3 h4]
  dsimp only
  unfold out0_D_15
  rw [View.read_writes_junk_eq_canon]
  exact congrFun (gain_D ..) (ix2 u q)

/-- What the last point of a row block stores of the input's gradient. -/
theorem rows14_D (h0 : ¬t.val % 17 = 0) (h1 : ¬t.val % 17 ≤ 7) (h2 : 8 ≤ t.val % 17) (h3 : ¬t.val % 272 = 0) (h4 : t.val % 17 = 16) : (outsAt0 m c t.val t.isLt).1
    = rows (iblk m c 13 t) (outsAt0 m c t.val t.isLt).2.2 (iblk m c 8 t) (iblk m c 9 t) (iblk m c 12 t) (iblk m c 10 t) (iblk m c 11 t) := by
  rw [carried_D m c t h0 h1 h2 h3 h4, outsAt0_D m c t h0 h1 h2 h3 h4]
  dsimp only
  unfold out0_D_14
  rw [View.read_writes_junk_eq_canon]
  exact rows_D ..

end Points

/-- The addend of point `n`: a block of the first projection's contraction, or of the second's. -/
def term (n : ℕ) (j : S1024x3072.Idx) : EReal :=
  if h : n < cfg0.N then
    if n % 17 ≤ 7 then part (iblk m c 0 ⟨n, h⟩) (iblk m c 5 ⟨n, h⟩) (iblk m c 4 ⟨n, h⟩) (iblk m c 1 ⟨n, h⟩) j
    else part (iblk m c 2 ⟨n, h⟩) (iblk m c 7 ⟨n, h⟩) (iblk m c 6 ⟨n, h⟩) (iblk m c 3 ⟨n, h⟩) j
  else 0

theorem term_first (t : Fin cfg0.N) (h : t.val % 17 ≤ 7) (j : S1024x3072.Idx) :
    part (iblk m c 0 t) (iblk m c 5 t) (iblk m c 4 t) (iblk m c 1 t) j = term m c t.val j := by
  unfold term
  rw [dif_pos t.isLt, if_pos h]

theorem term_second (t : Fin cfg0.N) (h : ¬t.val % 17 ≤ 7) (j : S1024x3072.Idx) :
    part (iblk m c 2 t) (iblk m c 7 t) (iblk m c 6 t) (iblk m c 3 t) j = term m c t.val j := by
  unfold term
  rw [dif_pos t.isLt, if_neg h]

theorem points : cfg0.N = 272 := N_0

/-- The first point of a row block leaves its addend; every later one adds its own. -/
theorem carried_start (t : Fin cfg0.N) (h0 : t.val % 17 = 0) (j : S1024x3072.Idx) :
    ((outsAt0 m c t.val t.isLt).2.2 j : EReal) = term m c t.val j := by
  have h1 : t.val % 17 ≤ 7 := by omega
  have h2 : ¬8 ≤ t.val % 17 := by omega
  have h4 : ¬t.val % 17 = 16 := by omega
  by_cases h3 : t.val % 272 = 0
  · rw [carried_A m c t h0 h1 h2 h3 h4, first_apply, zero_apply, zero_add, term_first m c t h1]
  · rw [carried_E m c t h0 h1 h2 h3 h4, first_apply, zero_apply, zero_add, term_first m c t h1]

theorem carried_step (t : Fin cfg0.N) (h0 : ¬t.val % 17 = 0) (j : S1024x3072.Idx) :
    ((outsAt0 m c t.val t.isLt).2.2 j : EReal) = (outsAt0 m c (t.val - 1) (Nat.lt_of_le_of_lt (Nat.sub_le _ _) t.isLt)).2.2 j + term m c t.val j := by
  have hN := points
  have ht := t.isLt
  have h3 : ¬t.val % 272 = 0 := by omega
  by_cases h1 : t.val % 17 ≤ 7
  · have h2 : ¬8 ≤ t.val % 17 := by omega
    have h4 : ¬t.val % 17 = 16 := by omega
    rw [carried_B m c t h0 h1 h2 h3 h4, first_apply, term_first m c t h1]
  · have h2 : 8 ≤ t.val % 17 := by omega
    by_cases h4 : t.val % 17 = 16
    · rw [carried_D m c t h0 h1 h2 h3 h4, second_apply, term_second m c t h1]
    · rw [carried_C m c t h0 h1 h2 h3 h4, second_apply, term_second m c t h1]

/-- After `k + 1` points of a row block: the sum of their addends. -/
theorem carried_sum (b : ℕ) (k : ℕ) (hk : k < 17) (h : 17 * b + k < cfg0.N) (j : S1024x3072.Idx) :
    ((outsAt0 m c (17 * b + k) h).2.2 j : EReal) = ∑ s ∈ Finset.range (k + 1), term m c (17 * b + s) j := by
  induction k with
  | zero =>
    rw [Finset.sum_range_one]
    exact carried_start m c ⟨17 * b + 0, h⟩ (by show (17 * b + 0) % 17 = 0; omega) j
  | succ k ih =>
    rw [Finset.sum_range_succ, ← ih (by omega) (by omega)]
    exact carried_step m c ⟨17 * b + (k + 1), h⟩ (by show ¬(17 * b + (k + 1)) % 17 = 0; omega) j

/-- The gain's gradient stays put until the last point of the row block. -/
theorem gain_still (b : ℕ) (k : ℕ) (hk : k < 16) (h : 17 * b + k < cfg0.N) :
    (outsAt0 m c (17 * b + k) h).2.1 = (outsAt0 m c (17 * b) (by omega)).2.1 := by
  have hN := points
  induction k with
  | zero => rfl
  | succ k ih =>
    rw [← ih (by omega) (by omega)]
    by_cases h1 : (17 * b + (k + 1)) % 17 ≤ 7
    · exact gain15_B m c ⟨17 * b + (k + 1), h⟩ (by dsimp only; omega) h1 (by dsimp only; omega) (by dsimp only; omega) (by dsimp only; omega)
    · exact gain15_C m c ⟨17 * b + (k + 1), h⟩ (by dsimp only; omega) h1 (by dsimp only; omega) (by dsimp only; omega) (by dsimp only; omega)

/-- What row block `b` adds to the gain's gradient. -/
def gainTerm (b : ℕ) (u : Fin 8) (q : Fin 3072) : EReal :=
  if h : 17 * b + 16 < cfg0.N then
    ∑ n ∈ Finset.range 16, gainRows (outsAt0 m c (17 * b + 16) h).2.2 (iblk m c 8 ⟨17 * b + 16, h⟩) (iblk m c 9 ⟨17 * b + 16, h⟩) n u q
  else 0

theorem gain_last (b : ℕ) (h : 17 * b + 16 < cfg0.N) (u : Fin 8) (q : Fin 3072) :
    ((outsAt0 m c (17 * b + 16) h).2.1 (ix2 u q) : EReal) = (outsAt0 m c (17 * b) (by omega)).2.1 (ix2 u q) + gainTerm m c b u q := by
  have hN := points
  unfold gainTerm
  rw [dif_pos h, ← gain_still m c b 15 (by decide) (by omega)]
  exact gain15_D m c ⟨17 * b + 16, h⟩ (by dsimp only; omega) (by dsimp only; omega) (by dsimp only; omega) (by dsimp only; omega) (by dsimp only; omega) u q

/-- After row block `b`: the sum over the row blocks so far. -/
theorem gain_sum (b : ℕ) (h : 17 * b + 16 < cfg0.N) (u : Fin 8) (q : Fin 3072) :
    ((outsAt0 m c (17 * b + 16) h).2.1 (ix2 u q) : EReal) = ∑ s ∈ Finset.range (b + 1), gainTerm m c s u q := by
  have hN := points
  induction b with
  | zero =>
    rw [Finset.sum_range_one, gain_last]
    refine (congrArg (fun z : EReal => z + gainTerm m c 0 u q) ?_).trans (zero_add _)
    refine (congrFun (gain15_A m c ⟨17 * 0, by omega⟩ (by dsimp only <;> omega) (by dsimp only <;> omega) (by dsimp only <;> omega) (by dsimp only <;> omega) (by dsimp only <;> omega)) (ix2 u q)).trans ?_
    exact zero_gain_apply _
  | succ b ih =>
    rw [Finset.sum_range_succ, ← ih (by omega), gain_last]
    refine congrArg (fun z : EReal => z + gainTerm m c (b + 1) u q) ?_
    exact congrFun (gain15_E m c ⟨17 * (b + 1), by omega⟩ (by dsimp only; omega) (by dsimp only; omega) (by dsimp only; omega) (by dsimp only; omega) (by dsimp only; omega)) (ix2 u q)

/-- A row of the block's formula is the reference's row, its factors in another order. -/
theorem rows_eq (g : Vec Ideal S1x3072 .f32) (a : Vec Ideal S1024x3072 .f32) (b : Vec Ideal S1024x3072 .fp8e4m3) (s r : Vec Ideal S1024x1 .f32)
    (d : Vec Ideal S1024x3072 .fp8e5m2) (e : Vec Ideal S1024x1 .f32)
    (y : S16384x3072.Idx → EReal) (ys : S16384x1.Idx → EReal) (x : S16384x3072.Idx → EReal) (xs v : S16384x1.Idx → EReal) (w : S1x3072.Idx → EReal)
    (h : Fin 16384 → Fin 3072 → EReal) (i : Fin 1024) (t : Fin 16384)
    (ha : ∀ k, (a (ix2 i k) : EReal) = h t k) (hb : ∀ k, (b (ix2 i k) : EReal) = x (ix2 t k)) (hs : (s (ix2 i 0) : EReal) = xs (ix2 t 0))
    (hr : (r (ix2 i 0) : EReal) = v (ix2 t 0)) (hd : ∀ k, (d (ix2 i k) : EReal) = y (ix2 t k)) (he : (e (ix2 i 0) : EReal) = ys (ix2 t 0))
    (hg : ∀ k, (g (ix2 0 k) : EReal) = w (ix2 0 k)) (q : Fin 3072) :
    rows g a b s r d e (ix2 i q) = Cert.DxRefIdeal.Value.dx y ys x xs v w h t q := by
  have hm : ∀ k, h t k * (x (ix2 t k) * xs (ix2 t 0)) * w (ix2 0 k) = h t k * w (ix2 0 k) * (x (ix2 t k) * xs (ix2 t 0)) := fun k => mul_right_comm _ _ _
  show (d (ix2 i q) * e (ix2 i 0)
    + r (ix2 i 0) * ((a (ix2 i q) * g (ix2 0 q) - (∑ k : Fin 3072, a (ix2 i k) * g (ix2 0 k)) * ((1 / 3072 : ℝ) : EReal))
      - b (ix2 i q) * s (ix2 i 0) * ((∑ k : Fin 3072, a (ix2 i k) * (b (ix2 i k) * s (ix2 i 0)) * g (ix2 0 k)) * ((1 / 3072 : ℝ) : EReal))) : EReal) = _
  unfold Cert.DxRefIdeal.Value.dx
  simp only [ha, hb, hs, hr, hd, he, hg, hm]

/-- The rows' gradient before the gain, in the reference's formula. -/
abbrev H : Fin 16384 → Fin 3072 → EReal :=
  Cert.DxRefIdeal.Value.dh (arrDq m c) (arrDqs m c) (arrDa m c) (arrDas m c) (arrWi m c) (arrSi m c) (arrWq m c) (arrSq m c)

theorem part_apply (x : Vec Ideal S1024x1024 .fp8e5m2) (p : Vec Ideal S1x1024 .bf16) (v : Vec Ideal S3072x1024 .fp8e4m3) (y : Vec Ideal S1024x1 .f32)
    (r : Fin 1024) (q : Fin 3072) :
    part x p v y (ix2 r q) = (∑ k : Fin 1024, x (ix2 r k) * p (ix2 0 k) * v (ix2 q k)) * y (ix2 r 0) := rfl

/-- The blocks of the first projection, added: its whole contraction, scaled once. -/
theorem first_sum (h0 : ∀ t : Fin 16384, (0 : EReal) ≤ arrDas m c (ix2 t 0)) (h1 : ∀ t : Fin 16384, (arrDas m c (ix2 t 0) : EReal) ≠ ⊤)
    (b : ℕ) (h : 17 * b + 16 < cfg0.N) (r : Fin 1024) (hr : b * 1024 + r.val < 16384) (q : Fin 3072) :
    ∑ s ∈ Finset.range 8, term m c (17 * b + s) (ix2 r q)
      = (∑ k : Fin 8192, arrDa m c (ix2 ⟨_, hr⟩ k) * (arrWi m c (ix2 q k) * arrSi m c (ix2 0 k))) * arrDas m c (ix2 ⟨_, hr⟩ 0) := by
  have hN := points
  refine Eq.trans ?_ (mul_comm _ _)
  refine Sums.scaled_blocks (S := 8) (n := 1024) _ (h0 _) (h1 _) _ rfl _ fun s => ?_
  have hs := s.isLt
  have hb : 17 * b + s.val < cfg0.N := by omega
  refine (term_first m c ⟨17 * b + s.val, hb⟩ (by dsimp only; omega) (ix2 r q)).symm.trans ?_
  rw [part_apply]
  refine (mul_comm _ _).trans ?_
  have er : (17 * b + s.val) / 17 * 1024 + r.val = b * 1024 + r.val := by omega
  refine congrArg₂ (fun a b : EReal => a * b) ?_ (Finset.sum_congr rfl fun k _ => ?_)
  · exact (read1 m c ⟨_, hb⟩ r (er.trans_lt hr)).trans (congrArg (fun i => arrDas m c (ix2 i 0)) (Fin.ext er))
  · have hk := k.isLt
    have ek : min ((17 * b + s.val) % 17) 7 * 1024 + k.val = s.val * 1024 + k.val := by omega
    have lk : s.val * 1024 + k.val < 8192 := by omega
    have her : (⟨_, er.trans_lt hr⟩ : Fin 16384) = ⟨_, hr⟩ := Fin.ext er
    have hek : (⟨_, ek.trans_lt lk⟩ : Fin 8192) = ⟨_, lk⟩ := Fin.ext ek
    refine (congrArg₂ (fun a b : EReal => a * b) (congrArg₂ (fun a b : EReal => a * b)
      ((read0 m c ⟨_, hb⟩ r k (er.trans_lt hr) (ek.trans_lt lk)).trans (congrArg₂ (fun i j => arrDa m c (ix2 i j)) her hek))
      ((read5 m c ⟨_, hb⟩ k (ek.trans_lt lk)).trans (congrArg (fun j => arrSi m c (ix2 0 j)) hek)))
      ((read4 m c ⟨_, hb⟩ k q (ek.trans_lt lk)).trans (congrArg (fun j => arrWi m c (ix2 q j)) hek))).trans ?_
    exact (mul_assoc _ _ _).trans (congrArg (fun z : EReal => _ * z) (mul_comm _ _))

/-- The same of the second. -/
theorem second_sum (h0 : ∀ t : Fin 16384, (0 : EReal) ≤ arrDqs m c (ix2 t 0)) (h1 : ∀ t : Fin 16384, (arrDqs m c (ix2 t 0) : EReal) ≠ ⊤)
    (b : ℕ) (h : 17 * b + 16 < cfg0.N) (r : Fin 1024) (hr : b * 1024 + r.val < 16384) (q : Fin 3072) :
    ∑ s ∈ Finset.range 9, term m c (17 * b + (8 + s)) (ix2 r q)
      = (∑ k : Fin 9216, arrDq m c (ix2 ⟨_, hr⟩ k) * (arrWq m c (ix2 q k) * arrSq m c (ix2 0 k))) * arrDqs m c (ix2 ⟨_, hr⟩ 0) := by
  have hN := points
  refine Eq.trans ?_ (mul_comm _ _)
  refine Sums.scaled_blocks (S := 9) (n := 1024) _ (h0 _) (h1 _) _ rfl _ fun s => ?_
  have hs := s.isLt
  have hb : 17 * b + (8 + s.val) < cfg0.N := by omega
  refine (term_second m c ⟨17 * b + (8 + s.val), hb⟩ (by dsimp only; omega) (ix2 r q)).symm.trans ?_
  rw [part_apply]
  refine (mul_comm _ _).trans ?_
  have er : (17 * b + (8 + s.val)) / 17 * 1024 + r.val = b * 1024 + r.val := by omega
  refine congrArg₂ (fun a b : EReal => a * b) ?_ (Finset.sum_congr rfl fun k _ => ?_)
  · exact (read3 m c ⟨_, hb⟩ r (er.trans_lt hr)).trans (congrArg (fun i => arrDqs m c (ix2 i 0)) (Fin.ext er))
  · have hk := k.isLt
    have ek : ((17 * b + (8 + s.val)) % 17 - 8) * 1024 + k.val = s.val * 1024 + k.val := by omega
    have lk : s.val * 1024 + k.val < 9216 := by omega
    have her : (⟨_, er.trans_lt hr⟩ : Fin 16384) = ⟨_, hr⟩ := Fin.ext er
    have hek : (⟨_, ek.trans_lt lk⟩ : Fin 9216) = ⟨_, lk⟩ := Fin.ext ek
    refine (congrArg₂ (fun a b : EReal => a * b) (congrArg₂ (fun a b : EReal => a * b)
      ((read2 m c ⟨_, hb⟩ r k (er.trans_lt hr) (ek.trans_lt lk)).trans (congrArg₂ (fun i j => arrDq m c (ix2 i j)) her hek))
      ((read7 m c ⟨_, hb⟩ k (ek.trans_lt lk)).trans (congrArg (fun j => arrSq m c (ix2 0 j)) hek)))
      ((read6 m c ⟨_, hb⟩ k q (ek.trans_lt lk)).trans (congrArg (fun j => arrWq m c (ix2 q j)) hek))).trans ?_
    exact (mul_assoc _ _ _).trans (congrArg (fun z : EReal => _ * z) (mul_comm _ _))

section Results

variable (h0 : ∀ t : Fin 16384, (0 : EReal) ≤ arrDas m c (ix2 t 0)) (h1 : ∀ t : Fin 16384, (arrDas m c (ix2 t 0) : EReal) ≠ ⊤)
  (h2 : ∀ t : Fin 16384, (0 : EReal) ≤ arrDqs m c (ix2 t 0)) (h3 : ∀ t : Fin 16384, (arrDqs m c (ix2 t 0) : EReal) ≠ ⊤)

include h0 h1 h2 h3

/-- At the last point of a row block the carried block is the rows' gradient before the gain. -/
theorem carried_H (b : ℕ) (h : 17 * b + 16 < cfg0.N) (r : Fin 1024) (hr : b * 1024 + r.val < 16384) (q : Fin 3072) :
    ((outsAt0 m c (17 * b + 16) h).2.2 (ix2 r q) : EReal) = H m c ⟨_, hr⟩ q := by
  rw [carried_sum m c b 16 (by decide) h]
  refine (Finset.sum_range_add (fun s => term m c (17 * b + s) (ix2 r q)) 8 9).trans ?_
  exact congrArg₂ (fun a b : EReal => a + b) (first_sum m c h0 h1 b h r hr q) (second_sum m c h2 h3 b h r hr q)

theorem carried_at (t : Fin cfg0.N) (h : t.val % 17 = 16) (r : Fin 1024) (hr : t.val / 17 * 1024 + r.val < 16384) (q : Fin 3072) :
    ((outsAt0 m c t.val t.isLt).2.2 (ix2 r q) : EReal) = H m c ⟨_, hr⟩ q := by
  have ht := t.isLt.trans_eq points
  have hb : 17 * (t.val / 17) + 16 < cfg0.N := lt_of_lt_of_eq (by omega) points.symm
  have e : t = ⟨17 * (t.val / 17) + 16, hb⟩ := Fin.ext (by dsimp only; omega)
  refine Eq.trans ?_ (carried_H m c h0 h1 h2 h3 (t.val / 17) hb r hr q)
  exact congrArg (fun t : Fin cfg0.N => ((outsAt0 m c t.val t.isLt).2.2 (ix2 r q) : EReal)) e

/-- The input's gradient. -/
theorem final14 : reg_main_v13_0 m c
    = (fun i => Cert.DxRefIdeal.Value.dx (arrDy m c) (arrDys m c) (arrX m c) (arrXs m c) (arrR m c) (arrG m c) (H m c) (i 0) (i 1) : S16384x3072.Idx → EReal) := by
  refine (dats m 0 c).arrAt_eq_of_covers 14 _ (by decide +kernel) fun t hf y => ?_
  have h16 : t.val % 17 = 16 := (by decide +kernel : ∀ t : Fin cfg0.N, (cfg0.win 14).flush t = true → t.val % 17 = 16) t hf
  have hr (r : Fin 1024) : t.val / 17 * 1024 + r.val < 16384 := by
    have ht := t.isLt.trans_eq points
    omega
  blk_simp
  rw [after0_14, rows14_D m c t (by omega) (by omega) (by omega) (by omega) h16]
  obtain ⟨r, q, rfl⟩ : ∃ (r : Fin 1024) (q : Fin 3072), y = ix2 r q := ⟨y 0, y 1, eq_ix2 y⟩
  replace hr := hr r
  have e : (((View.whole main_v13_0).slice (win0_14.rect t)).emb (ix2 r q) : S16384x3072.Idx) = ix2 ⟨_, hr⟩ q := by
    blk_ext [idx t]
  rw [e]
  exact rows_eq _ _ _ _ _ _ _ _ _ _ _ _ _ _ r ⟨_, hr⟩ (fun k => carried_at m c h0 h1 h2 h3 t h16 r hr k) (fun k => read8 m c t r k hr)
    (read9 m c t r hr) (read12 m c t r hr) (fun k => read10 m c t r k hr) (read11 m c t r hr) (fun k => read13 m c t k) q

end Results

theorem gain_point (b n : ℕ) (hn : n = b + 1) (t : Fin cfg0.N) (h : t.val = 17 * b + 16) (u : Fin 8) (q : Fin 3072) :
    ((outsAt0 m c t.val t.isLt).2.1 (ix2 u q) : EReal) = ∑ s ∈ Finset.range n, gainTerm m c s u q := by
  obtain ⟨t, ht⟩ := t
  dsimp only at h
  subst h hn
  exact gain_sum m c b ht u q

/-- The partial sums of the gain's gradient, eight to a feature. -/
theorem final15 : reg_main_v13_1 m c = (fun i => ∑ s ∈ Finset.range 16, gainTerm m c s (i 0) (i 1) : S8x3072.Idx → EReal) := by
  refine (dats m 0 c).arrAt_eq_of_covers 15 _ (by decide +kernel) fun t hf y => ?_
  have h16 : t.val = 17 * 15 + 16 := (by decide +kernel : ∀ t : Fin cfg0.N, (cfg0.win 15).flush t = true → t.val = 17 * 15 + 16) t hf
  blk_simp
  rw [after0_15]
  obtain ⟨u, q, rfl⟩ : ∃ (u : Fin 8) (q : Fin 3072), y = ix2 u q := ⟨y 0, y 1, eq_ix2 y⟩
  have e : (((View.whole main_v13_1).slice (win0_15.rect t)).emb (ix2 u q) : S8x3072.Idx) = ix2 u q := by
    blk_ext [idx t]
  rw [e]
  exact gain_point m c 15 16 rfl t h16 u q

section Gain

variable (h0 : ∀ t : Fin 16384, (0 : EReal) ≤ arrDas m c (ix2 t 0)) (h1 : ∀ t : Fin 16384, (arrDas m c (ix2 t 0) : EReal) ≠ ⊤)
  (h2 : ∀ t : Fin 16384, (0 : EReal) ≤ arrDqs m c (ix2 t 0)) (h3 : ∀ t : Fin 16384, (arrDqs m c (ix2 t 0) : EReal) ≠ ⊤)

/-- A token's addend to the gain's gradient. -/
def token (q : Fin 3072) (t : Fin 16384) : EReal := H m c t q * (arrX m c (ix2 t q) * arrXs m c (ix2 t 0))

include h0 h1 h2 h3

theorem gainTerm_eq (s : Fin 16) (u : Fin 8) (q : Fin 3072) :
    gainTerm m c s.val u q = ∑ n : Fin 16, ∑ k : Fin 8, token m c q ⟨s.val * 1024 + (n.val * 64 + (k.val * 8 + u.val)), by omega⟩ := by
  have hN := points
  have h : 17 * s.val + 16 < cfg0.N := by omega
  unfold gainTerm
  rw [dif_pos h, ← Fin.sum_univ_eq_sum_range]
  refine Finset.sum_congr rfl fun n _ => ?_
  unfold gainRows
  rw [dif_pos n.isLt]
  refine Finset.sum_congr rfl fun k _ => ?_
  have hr : s.val * 1024 + (n.val * 64 + (k.val * 8 + u.val)) < 16384 := by omega
  have er : (17 * s.val + 16) / 17 * 1024 + (n.val * 64 + (k.val * 8 + u.val)) = s.val * 1024 + (n.val * 64 + (k.val * 8 + u.val)) := by omega
  refine congrArg₂ (fun a b : EReal => a * b) (carried_H m c h0 h1 h2 h3 s.val h ⟨n.val * 64 + (k.val * 8 + u.val), by omega⟩ hr q)
    (congrArg₂ (fun a b : EReal => a * b) ?_ ?_)
  · exact (read8 m c ⟨_, h⟩ ⟨n.val * 64 + (k.val * 8 + u.val), by omega⟩ q (er.trans_lt hr)).trans (congrArg (fun i => arrX m c (ix2 i q)) (Fin.ext er))
  · exact (read9 m c ⟨_, h⟩ ⟨n.val * 64 + (k.val * 8 + u.val), by omega⟩ (er.trans_lt hr)).trans (congrArg (fun i => arrXs m c (ix2 i 0)) (Fin.ext er))

/-- The eight partial sums together run over every token once. -/
theorem gain_total (q : Fin 3072) :
    ∑ u : Fin 8, ∑ s ∈ Finset.range 16, gainTerm m c s u q = Cert.DxRefIdeal.Value.dgain (arrX m c) (arrXs m c) (H m c) q := by
  have e : ∑ t : Fin 16384, token m c q t
      = ∑ s : Fin 16, ∑ n : Fin 16, ∑ k : Fin 8, ∑ u : Fin 8, token m c q ⟨s.val * 1024 + (n.val * 64 + (k.val * 8 + u.val)), by omega⟩ := by
    rw [← Fin.sum_mul_add_fin 16 1024 (token m c q) rfl]
    refine Finset.sum_congr rfl fun s _ => ?_
    refine (Fin.sum_mul_add_fin 16 64 (fun r : Fin 1024 => token m c q ⟨s.val * 1024 + r.val, by omega⟩) rfl).symm.trans ?_
    refine Finset.sum_congr rfl fun n _ => ?_
    exact (Fin.sum_mul_add_fin 8 8 (fun r : Fin 64 => token m c q ⟨s.val * 1024 + (n.val * 64 + r.val), by omega⟩) rfl).symm
  refine Eq.trans ?_ e.symm
  refine (Finset.sum_congr rfl fun u _ => (Fin.sum_univ_eq_sum_range (fun s => gainTerm m c s u q) 16).symm).trans ?_
  rw [Finset.sum_comm]
  refine Finset.sum_congr rfl fun s _ => ?_
  refine (Finset.sum_congr rfl fun u _ => gainTerm_eq m c h0 h1 h2 h3 s u q).trans ?_
  rw [Finset.sum_comm]
  refine Finset.sum_congr rfl fun n _ => ?_
  rw [Finset.sum_comm]

/-- The gain's gradient. -/
theorem final_gain : (Host.reduceAdd (F := Ideal) (reg_main_v13_1 m c) (constant S_ .f32 0x00000000#32) reducesTo_S8x3072_S3072_d0 h_S_ : S3072.Idx → EReal)
    = fun i => Cert.DxRefIdeal.Value.dgain (arrX m c) (arrXs m c) (H m c) (i 0) := by
  funext i
  obtain ⟨q, rfl⟩ : ∃ q : Fin 3072, i = ix1 q := ⟨i 0, eq_ix1 i⟩
  refine Eq.trans ?_ (gain_total m c h0 h1 h2 h3 q)
  rw [final15]
  pointwise

end Gain

end Cert.DxIdeal.Value

end
-- ==== Proof.DxEq.lean ====
/- The input gradient: the kernel's results are the reference's. -/
module

public import proofs.«01_k».proof.Proof.DxValue
public import proofs.«01_k».proof.Proof.DxRefValue
public import proofs.«01_k».proof.Proof.Gen.Dx.Frame
public import proofs.«01_k».proof.Proof.Gen.Dx
public import proofs.«01_k».proof.Proof.Gen.Pre_scales_nonneg
public import proofs.«01_k».proof.Defs
public import Idealize.ShloMosaic.Lib.Claim

@[expose] public section

set_option maxRecDepth 16384

noncomputable section

namespace Cert.Proof

open Idealize.ShloMosaic Idealize.ShloMosaic.TcCoe Idealize.SL.Sem

/-- What the precondition says of the scale of the MLP gradient. -/
theorem scale_da (m : (ℓ : Loc Cert.DxIdeal.nD Cert.DxIdeal.τ Cert.DxIdeal.sig) → Buf (Elt Ideal) ℓ)
    (h : Cert.Pre_DxIdeal_scales_nonneg (hPre_scales_nonneg := Cert.Pre_scales_nonneg.Gen.facts) m)
    (c : Dev Cert.DxIdeal.nD) (t : Fin 16384) :
    (0 : EReal) ≤ Cert.DxIdeal.Value.arrDas m c (ix2 t 0) ∧ Cert.DxIdeal.Value.arrDas m c (ix2 t 0) ≠ (⊤ : EReal) := by
  have h5 := congrFun (h c).2.2.2.2.2.2.2.2.2.1 (ix2 t 0)
  rw [Cert.DxIdeal.Value.arrDas_eq]
  revert h5
  pointwise [Cert.Pre_scales_nonneg.fn, Cert.Pre_scales_nonneg.fn_part1]
  intro h5
  exact Sums.nonneg_of_tests h5

/-- And of the scale of the attention gradient. -/
theorem scale_dq (m : (ℓ : Loc Cert.DxIdeal.nD Cert.DxIdeal.τ Cert.DxIdeal.sig) → Buf (Elt Ideal) ℓ)
    (h : Cert.Pre_DxIdeal_scales_nonneg (hPre_scales_nonneg := Cert.Pre_scales_nonneg.Gen.facts) m)
    (c : Dev Cert.DxIdeal.nD) (t : Fin 16384) :
    (0 : EReal) ≤ Cert.DxIdeal.Value.arrDqs m c (ix2 t 0) ∧ Cert.DxIdeal.Value.arrDqs m c (ix2 t 0) ≠ (⊤ : EReal) := by
  have all (i : Cert.DxIdeal.S8x2048.Idx) : (0 : EReal) ≤ (m ((c.tc : Thread Cert.DxIdeal.nD Cert.DxIdeal.τ).loc Cert.DxIdeal.main_arg3) : Cert.DxIdeal.S8x2048.Idx → EReal) i
      ∧ (m ((c.tc : Thread Cert.DxIdeal.nD Cert.DxIdeal.τ).loc Cert.DxIdeal.main_arg3) : Cert.DxIdeal.S8x2048.Idx → EReal) i ≠ (⊤ : EReal) := by
    have h5 := congrFun (h c).2.2.2.1 i
    revert h5
    pointwise [Cert.Pre_scales_nonneg.fn, Cert.Pre_scales_nonneg.fn_part1]
    intro h5
    exact Sums.nonneg_of_tests h5
  rw [Cert.DxIdeal.Value.arrDqs_eq]
  exact all _

theorem dx : Cert.algebraic_DxIdeal_DxRefIdeal_pre_scales_nonneg (hDxIdeal := Cert.DxIdeal.Gen.facts)
    (hDxRefIdeal := Cert.DxRefIdeal.Gen.facts) (hPre_scales_nonneg := Cert.Pre_scales_nonneg.Gen.facts) := by
  intro m g m' g' hpre hagree
  refine ⟨fun c => (fun i => Cert.DxRefIdeal.Value.dx (Cert.DxIdeal.Value.arrDy m c) (Cert.DxIdeal.Value.arrDys m c) (Cert.DxIdeal.Value.arrX m c) (Cert.DxIdeal.Value.arrXs m c) (Cert.DxIdeal.Value.arrR m c) (Cert.DxIdeal.Value.arrG m c) (Cert.DxIdeal.Value.H m c) (i 0) (i 1) : Cert.DxIdeal.S16384x3072.Idx → EReal),
    fun c => (fun i => Cert.DxRefIdeal.Value.dgain (Cert.DxIdeal.Value.arrX m c) (Cert.DxIdeal.Value.arrXs m c) (Cert.DxIdeal.Value.H m c) (i 0) : Cert.DxIdeal.S3072.Idx → EReal), ?_, ?_⟩
  · refine θ_run_mono (Cert.DxIdeal.Value.run m g) fun r h c => ?_
    exact ⟨(h c).1.trans (Cert.DxIdeal.Value.final14 m c (fun t => (scale_da m hpre c t).1) (fun t => (scale_da m hpre c t).2) (fun t => (scale_dq m hpre c t).1) (fun t => (scale_dq m hpre c t).2)),
      (h c).2.1.trans (Cert.DxIdeal.Value.final_gain m c (fun t => (scale_da m hpre c t).1) (fun t => (scale_da m hpre c t).2) (fun t => (scale_dq m hpre c t).1) (fun t => (scale_dq m hpre c t).2)),
      (h c).2.2⟩
  · refine θ_run_mono (Cert.DxRefIdeal.Value.run m' g') fun r h c => ?_
    obtain ⟨a0, a1, a2, a3, a4, a5, a6, a7, a8, a9, a10, a11, a12, a13⟩ := hagree c
    have hDy : Cert.DxRefIdeal.Value.arrDy m' c = Cert.DxIdeal.Value.arrDy m c := by
      rw [Cert.DxRefIdeal.Value.arrDy_eq, Cert.DxIdeal.Value.arrDy_eq]
      exact congrArg (fun x => shapeCast _ x _) a0
    have hDys : Cert.DxRefIdeal.Value.arrDys m' c = Cert.DxIdeal.Value.arrDys m c := by
      rw [Cert.DxRefIdeal.Value.arrDys_eq, Cert.DxIdeal.Value.arrDys_eq]
      exact congrArg (fun x => shapeCast _ x _) a1
    have hDq : Cert.DxRefIdeal.Value.arrDq m' c = Cert.DxIdeal.Value.arrDq m c := by
      rw [Cert.DxRefIdeal.Value.arrDq_eq, Cert.DxIdeal.Value.arrDq_eq]
      exact congrArg (fun x => shapeCast _ x _) a2
    have hDqs : Cert.DxRefIdeal.Value.arrDqs m' c = Cert.DxIdeal.Value.arrDqs m c := by
      rw [Cert.DxRefIdeal.Value.arrDqs_eq, Cert.DxIdeal.Value.arrDqs_eq]
      exact congrArg (fun x => shapeCast _ x _) a3
    have hX : Cert.DxRefIdeal.Value.arrX m' c = Cert.DxIdeal.Value.arrX m c := by
      rw [Cert.DxRefIdeal.Value.arrX_eq, Cert.DxIdeal.Value.arrX_eq]
      exact congrArg (fun x => shapeCast _ x _) a4
    have hXs : Cert.DxRefIdeal.Value.arrXs m' c = Cert.DxIdeal.Value.arrXs m c := by
      rw [Cert.DxRefIdeal.Value.arrXs_eq, Cert.DxIdeal.Value.arrXs_eq]
      exact congrArg (fun x => shapeCast _ x _) a5
    have hR : Cert.DxRefIdeal.Value.arrR m' c = Cert.DxIdeal.Value.arrR m c := by
      rw [Cert.DxRefIdeal.Value.arrR_eq, Cert.DxIdeal.Value.arrR_eq]
      exact congrArg (fun x => shapeCast _ x _) a6
    have hG : Cert.DxRefIdeal.Value.arrG m' c = Cert.DxIdeal.Value.arrG m c := by
      rw [Cert.DxRefIdeal.Value.arrG_eq, Cert.DxIdeal.Value.arrG_eq]
      exact congrArg (fun x => shapeCast _ x _) a7
    have hSi : Cert.DxRefIdeal.Value.arrSi m' c = Cert.DxIdeal.Value.arrSi m c := by
      rw [Cert.DxRefIdeal.Value.arrSi_eq, Cert.DxIdeal.Value.arrSi_eq]
      exact congrArg (fun x => shapeCast _ x _) a11
    have hWq : Cert.DxRefIdeal.Value.arrWq m' c = Cert.DxIdeal.Value.arrWq m c := by
      rw [Cert.DxRefIdeal.Value.arrWq_eq, Cert.DxIdeal.Value.arrWq_eq]
      exact congrArg (fun x => shapeCast _ x _) a12
    have hSq : Cert.DxRefIdeal.Value.arrSq m' c = Cert.DxIdeal.Value.arrSq m c := by
      rw [Cert.DxRefIdeal.Value.arrSq_eq, Cert.DxIdeal.Value.arrSq_eq]
      exact congrArg (fun x => shapeCast _ x _) a13
    have hDa : Cert.DxRefIdeal.Value.arrDa m' c = Cert.DxIdeal.Value.arrDa m c :=
      (Cert.DxRefIdeal.Value.arrDa_eq m' c).trans (a8.trans (Cert.DxIdeal.Value.arrDa_eq m c).symm)
    have hDas : Cert.DxRefIdeal.Value.arrDas m' c = Cert.DxIdeal.Value.arrDas m c :=
      (Cert.DxRefIdeal.Value.arrDas_eq m' c).trans (a9.trans (Cert.DxIdeal.Value.arrDas_eq m c).symm)
    have hWi : Cert.DxRefIdeal.Value.arrWi m' c = Cert.DxIdeal.Value.arrWi m c :=
      (Cert.DxRefIdeal.Value.arrWi_eq m' c).trans (a10.trans (Cert.DxIdeal.Value.arrWi_eq m c).symm)
    have hH : Cert.DxRefIdeal.Value.H m' c = Cert.DxIdeal.Value.H m c := by
      show Cert.DxRefIdeal.Value.dh _ _ _ _ _ _ _ _ = Cert.DxRefIdeal.Value.dh _ _ _ _ _ _ _ _
      rw [hDq, hDqs, hDa, hDas, hWi, hSi, hWq, hSq]
    refine ⟨(h c).1.trans ?_, (h c).2.1.trans ?_, (h c).2.2⟩
    · rw [hDy, hDys, hX, hXs, hR, hG, hH]
    · rw [hX, hXs, hH]

end Cert.Proof

end
-- ==== Proof.DaRun.lean ====
module

public import proofs.«01_k».proof.Proof.Gen.Da.Skeleton
public import proofs.«01_k».proof.Proof.Gen.Da.Launch
public import proofs.«01_k».proof.Proof.Gen.Da.Points
public import Idealize.ShloMosaic.Lib.Pipeline.FrameBody
public import Idealize.ShloMosaic.Lib.Ring
public import Idealize.ShloMosaic.Lib.Tactic
public import Idealize.ShloMosaic.Lib.WordCmp

/-! The body of the `da` kernel at one grid point, run symbolically: at point 0 (where the running maxima are cleared
    first) and at the others. -/

@[expose] public section

set_option maxRecDepth 16384

noncomputable section

namespace Cert.Da.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's condition that the grid coordinate is 0. -/
abbrev cond0 (i : grid0.Coords) : Prop := (Scalar.cmpi .ne (Scalar.extui (Scalar.cmpi .eq (BitVec.ofNat 32 (i 0).val) 0#32)) 0#32) = 1#1

set_option maxHeartbeats 4000000 in
/-- The body run at point 0: on whole memrefs, the inputs at `x·`, the outputs and the scratch at anything, it hands the inputs
    back as they were, and in each of the other five the stores it made, as pieces (last first). The pieces are what
    symbolic execution of the skeleton finds. -/
noncomputable def runA (c : Dev nD) (i : grid0.Coords) (arg1 : Memref sig .tc .vmem S256x3072 .fp8e5m2) (harg1 : arg1.IsWhole) (arg2 : Memref sig .tc .vmem S256x1 .f32) (harg2 : arg2.IsWhole) (arg3 : Memref sig .tc .vmem S256x8192 .fp8e4m3) (harg3 : arg3.IsWhole) (arg4 : Memref sig .tc .vmem S256x1 .f32) (harg4 : arg4.IsWhole) (arg5 : Memref sig .tc .vmem S8192x3072 .fp8e4m3) (harg5 : arg5.IsWhole) (arg6 : Memref sig .tc .vmem S1x3072 .bf16) (harg6 : arg6.IsWhole) (arg7 : Memref sig .tc .vmem S256x8192 .fp8e5m2) (harg7 : arg7.IsWhole) (arg8 : Memref sig .tc .vmem S256x1 .f32) (harg8 : arg8.IsWhole) (arg9 : Memref sig .tc .vmem S256x3072 .bf16) (harg9 : arg9.IsWhole) (arg10 : Memref sig .tc .vmem S2x256x8192 .f32) (harg10 : arg10.IsWhole) (arg11 : Memref sig .tc .vmem S2x256x128 .f32) (harg11 : arg11.IsWhole) (hc0 : cond0 i)
    (x0 : Vec F S256x3072 .fp8e5m2) (x1 : Vec F S256x1 .f32) (x2 : Vec F S256x8192 .fp8e4m3) (x3 : Vec F S256x1 .f32) (x4 : Vec F S8192x3072 .fp8e4m3) (x5 : Vec F S1x3072 .bf16) (y0 : Vec F S256x8192 .fp8e5m2) (y1 : Vec F S256x1 .f32) (z0 : Vec F S256x3072 .bf16) (z1 : Vec F S2x256x8192 .f32) (z2 : Vec F S2x256x128 .f32) :
    Σ' (L6 : List (View.Piece (Elt F) S256x8192 .fp8e5m2)), Σ' (L7 : List (View.Piece (Elt F) S256x1 .f32)), Σ' (L9 : List (View.Piece (Elt F) S256x3072 .bf16)), Σ' (L10 : List (View.Piece (Elt F) S2x256x8192 .f32)), { L11 : List (View.Piece (Elt F) S2x256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y0 ∗ owns (c : Thread nD τ) arg8 fullShare y1 ∗ owns (c : Thread nD τ) arg9 fullShare z0 ∗ owns (c : Thread nD τ) arg10 fullShare z1 ∗ owns (c : Thread nD τ) arg11 fullShare z2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0_da i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0_da_eq_skeleton]; unfold cc0_da_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _; iexact H7
    isplitl [H8]
    · iexists _; iexact H8
    isplitl [H9]
    · iexists _; iexact H9
    iexists _; iexact H10

set_option maxHeartbeats 4000000 in
/-- The body run at a point other than 0: on whole memrefs, the inputs at `x·`, the outputs and the scratch at anything, it hands the inputs
    back as they were, and in each of the other five the stores it made, as pieces (last first). The pieces are what
    symbolic execution of the skeleton finds. -/
noncomputable def runB (c : Dev nD) (i : grid0.Coords) (arg1 : Memref sig .tc .vmem S256x3072 .fp8e5m2) (harg1 : arg1.IsWhole) (arg2 : Memref sig .tc .vmem S256x1 .f32) (harg2 : arg2.IsWhole) (arg3 : Memref sig .tc .vmem S256x8192 .fp8e4m3) (harg3 : arg3.IsWhole) (arg4 : Memref sig .tc .vmem S256x1 .f32) (harg4 : arg4.IsWhole) (arg5 : Memref sig .tc .vmem S8192x3072 .fp8e4m3) (harg5 : arg5.IsWhole) (arg6 : Memref sig .tc .vmem S1x3072 .bf16) (harg6 : arg6.IsWhole) (arg7 : Memref sig .tc .vmem S256x8192 .fp8e5m2) (harg7 : arg7.IsWhole) (arg8 : Memref sig .tc .vmem S256x1 .f32) (harg8 : arg8.IsWhole) (arg9 : Memref sig .tc .vmem S256x3072 .bf16) (harg9 : arg9.IsWhole) (arg10 : Memref sig .tc .vmem S2x256x8192 .f32) (harg10 : arg10.IsWhole) (arg11 : Memref sig .tc .vmem S2x256x128 .f32) (harg11 : arg11.IsWhole) (hc0 : ¬cond0 i)
    (x0 : Vec F S256x3072 .fp8e5m2) (x1 : Vec F S256x1 .f32) (x2 : Vec F S256x8192 .fp8e4m3) (x3 : Vec F S256x1 .f32) (x4 : Vec F S8192x3072 .fp8e4m3) (x5 : Vec F S1x3072 .bf16) (y0 : Vec F S256x8192 .fp8e5m2) (y1 : Vec F S256x1 .f32) (z0 : Vec F S256x3072 .bf16) (z1 : Vec F S2x256x8192 .f32) (z2 : Vec F S2x256x128 .f32) :
    Σ' (L6 : List (View.Piece (Elt F) S256x8192 .fp8e5m2)), Σ' (L7 : List (View.Piece (Elt F) S256x1 .f32)), Σ' (L9 : List (View.Piece (Elt F) S256x3072 .bf16)), Σ' (L10 : List (View.Piece (Elt F) S2x256x8192 .f32)), { L11 : List (View.Piece (Elt F) S2x256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y0 ∗ owns (c : Thread nD τ) arg8 fullShare y1 ∗ owns (c : Thread nD τ) arg9 fullShare z0 ∗ owns (c : Thread nD τ) arg10 fullShare z1 ∗ owns (c : Thread nD τ) arg11 fullShare z2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0_da i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0_da_eq_skeleton]; unfold cc0_da_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _; iexact H7
    isplitl [H8]
    · iexists _; iexact H8
    isplitl [H9]
    · iexists _; iexact H9
    iexists _; iexact H10

end Cert.Da.Gen

end
-- ==== Proof.DaKit.lean ====
/- The `da` call around its kernel: the program up to the call, the blocks its windows hold, and the frame read off a run. -/
module

public import proofs.«01_k».proof.Proof.DaRun
public import Idealize.ShloMosaic.Lib.Pipeline.FrameBody
public import Idealize.ShloMosaic.Lib.Pipeline.ArrRel
public import Idealize.ShloMosaic.Lib.Pipeline.DatRel
public import Idealize.ShloMosaic.Lib.Pipeline.Frame
public import Idealize.ShloMosaic.Lib.Claim

@[expose] public section

set_option maxRecDepth 16384

noncomputable section

namespace Cert.Da.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of core `c` when the call is reached. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The arguments after a run are as they were. -/
theorem kept (rdat : (c : Dev nD) → RDat τ (Elt F) Unit ℕ (UR sig nD τ) ℕ cfg0 c) (hA : ∀ c w, (rdat c).A w = V m c (Pipeline.arrRef spec0 w))
    (r : PUnit × MemSt nD τ sig (Elt F)) (h : Pipeline.RDat.FramePost cfg0 rdat (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (h.arr_in c 4 rfl).trans ((hA c 4).trans (V_main_arg4 m c)),
    ((h c).2 main_arg5 (Pipeline.mem_restRefs_of main_arg5 (by decide) (by decide))).trans (V_main_arg5 m c)⟩

/-- The condition holds at the first point only. -/
theorem hcond0 : ∀ t : Fin cfg0.N, cond0 (grid0.coords t) ↔ t.val = 0 :=
  (by decide +kernel : ∀ t : Fin grid0.N, cond0 (grid0.coords t) ↔ t.val = 0)

abbrev ms0_0 (t : Fin cfg0.N) : Memref sig .tc .vmem S256x3072 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x8192 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8192x3072 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3072 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x8192 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1 .f32 := win0_7.stage (cfg0.slots t 7)
abbrev hs0_7 (t : Fin cfg0.N) : (ms0_7 t).IsWhole := hstage0_7 ((cfg0.slots t 7).cast nbuf0_7)
abbrev sc0 : Memref sig .tc .vmem S256x3072 .bf16 := Memref.whole cc0_scratch0
abbrev sc1 : Memref sig .tc .vmem S2x256x8192 .f32 := Memref.whole cc0_scratch1
abbrev sc2 : Memref sig .tc .vmem S2x256x128 .f32 := Memref.whole cc0_scratch2

/-- The kernel's own buffers at some contents each, and the generator's register at some state. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

end Cert.Da.Gen

end
-- ==== Proof.DaFrame.lean ====
/- The frame of the `da` call: it runs, and its arguments end unchanged. What it writes is not stated here: at the first grid
   point the kernel stores codes of a scratch buffer that nothing has filled yet. -/
module

public import proofs.«01_k».proof.Proof.DaKit

@[expose] public section

set_option maxRecDepth 16384

noncomputable section

namespace Cert.Da.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- A buffer's cells at some contents are the buffer holding what is read there. -/
theorem owns_of (c : Dev nD) {sp : Space} {s : Shape} {e : EltTy} (a : Memref sig .tc sp s e) (f : a.view.ty.Contents (Elt F)) :
    (a.view.loc (c : Thread nD τ) ↦[a.view.set]{fullShare} f : sProp 𝕄) ⊢ owns (c : Thread nD τ) a fullShare (a.view.read (Elt F) f) := by
  unfold owns
  iintro H
  iexists f
  isplitr
  · ipureintro; rfl
  iexact H

/-- The body at one point, its outputs at anything. -/
theorem stepA (c : Dev nD) (i : grid0.Coords) (arg1 : Memref sig .tc .vmem S256x3072 .fp8e5m2) (harg1 : arg1.IsWhole) (arg2 : Memref sig .tc .vmem S256x1 .f32) (harg2 : arg2.IsWhole) (arg3 : Memref sig .tc .vmem S256x8192 .fp8e4m3) (harg3 : arg3.IsWhole) (arg4 : Memref sig .tc .vmem S256x1 .f32) (harg4 : arg4.IsWhole) (arg5 : Memref sig .tc .vmem S8192x3072 .fp8e4m3) (harg5 : arg5.IsWhole) (arg6 : Memref sig .tc .vmem S1x3072 .bf16) (harg6 : arg6.IsWhole) (arg7 : Memref sig .tc .vmem S256x8192 .fp8e5m2) (harg7 : arg7.IsWhole) (arg8 : Memref sig .tc .vmem S256x1 .f32) (harg8 : arg8.IsWhole) (arg9 : Memref sig .tc .vmem S256x3072 .bf16) (harg9 : arg9.IsWhole) (arg10 : Memref sig .tc .vmem S2x256x8192 .f32) (harg10 : arg10.IsWhole) (arg11 : Memref sig .tc .vmem S2x256x128 .f32) (harg11 : arg11.IsWhole) (hc0 : cond0 i)
    (x0 : Vec F S256x3072 .fp8e5m2) (x1 : Vec F S256x1 .f32) (x2 : Vec F S256x8192 .fp8e4m3) (x3 : Vec F S256x1 .f32) (x4 : Vec F S8192x3072 .fp8e4m3) (x5 : Vec F S1x3072 .bf16) (y0 : Vec F S256x8192 .fp8e5m2) (y1 : Vec F S256x1 .f32) (z0 : Vec F S256x3072 .bf16) (z1 : Vec F S2x256x8192 .f32) (z2 : Vec F S2x256x128 .f32)
      (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y0 ∗ owns (c : Thread nD τ) arg8 fullShare y1 ∗ owns (c : Thread nD τ) arg9 fullShare z0 ∗ owns (c : Thread nD τ) arg10 fullShare z1 ∗ owns (c : Thread nD τ) arg11 fullShare z2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X)) -∗ K ⟨⟩))
          ⊢ wp frame (wpE (defs₀ (F := F)) Variants.none c none) E (cc0_da i arg1 harg1 arg2 harg2 arg3 harg3 arg4 harg4 arg5 harg5 arg6 harg6 arg7 harg7 arg8 harg8 arg9 harg9 arg10 harg10 arg11 harg11) K := by
  iintro ⟨H1, H2, H3, H4, H5, H6, H7, H8, H9, H10, H11, Hk⟩
  iapply ((runA (F := F) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, ⟨%f7, H7⟩, ⟨%f8, H8⟩, ⟨%f9, H9⟩, ⟨%f10, H10⟩, ⟨%f11, H11⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists _; iapply (owns_of c arg7 _); iexact H7
  isplitl [H8]
  · iexists _; iapply (owns_of c arg8 _); iexact H8
  isplitl [H9]
  · iexists _; iapply (owns_of c arg9 _); iexact H9
  isplitl [H10]
  · iexists _; iapply (owns_of c arg10 _); iexact H10
  iexists _; iapply (owns_of c arg11 _); iexact H11

/-- The body at one point, its outputs at anything. -/
theorem stepB (c : Dev nD) (i : grid0.Coords) (arg1 : Memref sig .tc .vmem S256x3072 .fp8e5m2) (harg1 : arg1.IsWhole) (arg2 : Memref sig .tc .vmem S256x1 .f32) (harg2 : arg2.IsWhole) (arg3 : Memref sig .tc .vmem S256x8192 .fp8e4m3) (harg3 : arg3.IsWhole) (arg4 : Memref sig .tc .vmem S256x1 .f32) (harg4 : arg4.IsWhole) (arg5 : Memref sig .tc .vmem S8192x3072 .fp8e4m3) (harg5 : arg5.IsWhole) (arg6 : Memref sig .tc .vmem S1x3072 .bf16) (harg6 : arg6.IsWhole) (arg7 : Memref sig .tc .vmem S256x8192 .fp8e5m2) (harg7 : arg7.IsWhole) (arg8 : Memref sig .tc .vmem S256x1 .f32) (harg8 : arg8.IsWhole) (arg9 : Memref sig .tc .vmem S256x3072 .bf16) (harg9 : arg9.IsWhole) (arg10 : Memref sig .tc .vmem S2x256x8192 .f32) (harg10 : arg10.IsWhole) (arg11 : Memref sig .tc .vmem S2x256x128 .f32) (harg11 : arg11.IsWhole) (hc0 : ¬cond0 i)
    (x0 : Vec F S256x3072 .fp8e5m2) (x1 : Vec F S256x1 .f32) (x2 : Vec F S256x8192 .fp8e4m3) (x3 : Vec F S256x1 .f32) (x4 : Vec F S8192x3072 .fp8e4m3) (x5 : Vec F S1x3072 .bf16) (y0 : Vec F S256x8192 .fp8e5m2) (y1 : Vec F S256x1 .f32) (z0 : Vec F S256x3072 .bf16) (z1 : Vec F S2x256x8192 .f32) (z2 : Vec F S2x256x128 .f32)
      (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y0 ∗ owns (c : Thread nD τ) arg8 fullShare y1 ∗ owns (c : Thread nD τ) arg9 fullShare z0 ∗ owns (c : Thread nD τ) arg10 fullShare z1 ∗ owns (c : Thread nD τ) arg11 fullShare z2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X)) -∗ K ⟨⟩))
          ⊢ wp frame (wpE (defs₀ (F := F)) Variants.none c none) E (cc0_da i arg1 harg1 arg2 harg2 arg3 harg3 arg4 harg4 arg5 harg5 arg6 harg6 arg7 harg7 arg8 harg8 arg9 harg9 arg10 harg10 arg11 harg11) K := by
  iintro ⟨H1, H2, H3, H4, H5, H6, H7, H8, H9, H10, H11, Hk⟩
  iapply ((runB (F := F) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, ⟨%f7, H7⟩, ⟨%f8, H8⟩, ⟨%f9, H9⟩, ⟨%f10, H10⟩, ⟨%f11, H11⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists _; iapply (owns_of c arg7 _); iexact H7
  isplitl [H8]
  · iexists _; iapply (owns_of c arg8 _); iexact H8
  isplitl [H9]
  · iexists _; iapply (owns_of c arg9 _); iexact H9
  isplitl [H10]
  · iexists _; iapply (owns_of c arg10 _); iexact H10
  iexists _; iapply (owns_of c arg11 _); iexact H11

variable (m : (ℓ : Loc nD τ sig) → Buf (Elt F) ℓ) (ρ : Dev nD → PrngReg)

/-- The proof data: each input's buffer at its block after every point; of the outputs nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q _ := fullShare
  owed _ := 0

/-- The windows of which nothing is said. -/
def fgt (w : Fin cfg0.W) : Bool := match w with
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ X, owns (c : Thread nD τ) (ms0_6 t) fullShare X)
    ∗ (∃ X, owns (c : Thread nD τ) (ms0_7 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, owns (c : Thread nD τ) (ms0_6 t) fullShare X)
    ∗ (∃ X, owns (c : Thread nD τ) (ms0_7 t) fullShare X))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl, PhiA0_eq,
    show (dats m 0 c).owesAt () t.succ = (dats m 0 c).owesAt () t.castSucc from rfl,
    after0_0, after0_1, after0_2, after0_3, after0_4, after0_5]
  by_cases h0 : t.val = 0
  · iintro ⟨⟨⟨⟨%e0, S0⟩, ⟨%e1, S1⟩, ⟨%e2, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (stepA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0 (Memref.isWhole_whole _) sc1 (Memref.isWhole_whole _) sc2 (Memref.isWhole_whole _) ((hcond0 t).mpr h0) (iblk m c 0 t) (iblk m c 1 t) (iblk m c 2 t) (iblk m c 3 t) (iblk m c 4 t) (iblk m c 5 t) d6 d7 e0 e1 e2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    iintro ⟨H0, H1, H2, H3, H4, H5, H6, H7, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨⟨⟨%e0, S0⟩, ⟨%e1, S1⟩, ⟨%e2, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (stepB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0 (Memref.isWhole_whole _) sc1 (Memref.isWhole_whole _) sc2 (Memref.isWhole_whole _) (fun h => h0 ((hcond0 t).mp h)) (iblk m c 0 t) (iblk m c 1 t) (iblk m c 2 t) (iblk m c 3 t) (iblk m c 4 t) (iblk m c 5 t) d6 d7 e0 e1 e2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    iintro ⟨H0, H1, H2, H3, H4, H5, H6, H7, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => kept m _ (A_eq m) r h.1 c, h.2⟩) (run_main_quiescent m ρ)

end Cert.Da.Gen

end
-- ==== Proof.DaBody.lean ====
/- What the operations of the `da` kernel's body compute, element by element. -/
module

public import proofs.«01_k».proof.Proof.Sums
public import proofs.«01_k».proof.Proof.Gen.DaIdeal.Skeleton
public import Idealize.ShloMosaic.Lib.Claim

@[expose] public section

set_option maxRecDepth 16384

noncomputable section

namespace Cert.DaIdeal.Body

open Cert.DaIdeal Cert.DaIdeal.Gen Idealize.ShloMosaic Idealize.ShloMosaic.TcCoe Idealize.ShloMosaic.Tactic Idealize.SL.Sem

/-! ### The formulas -/

/-- The derivative of GELU (in its tanh form) at `a`, as the kernel computes it. -/
def slope (a : EReal) : EReal :=
  (1 + Ideal.tanh (a * (Named.named (F := Ideal) κ "gelu_c" (φ := .f32) 1061962282#32 + Named.named (F := Ideal) κ "gelu_ca" (φ := .f32) 1024598649#32 * (a * a))))
    * (Ideal.ofBits FTy.f32 1056964608#32
      + a * (Named.named (F := Ideal) κ "half_c" (φ := .f32) 1053573674#32 + Named.named (F := Ideal) κ "ca_15" (φ := .f32) 1029387190#32 * (a * a))
        * (1 - Ideal.tanh (a * (Named.named (F := Ideal) κ "gelu_c" (φ := .f32) 1061962282#32 + Named.named (F := Ideal) κ "gelu_ca" (φ := .f32) 1024598649#32 * (a * a)))))

/-- The gradient of the pre-activation at row `r`, column `c` of a block: the output's gradient (codes `x0`, row scales `x1`) through
    the second projection (codes `x4`, column scales `x5`), times GELU's derivative at the pre-activation (codes `x2`, row scales `x3`). -/
def da (x0 : Vec Ideal S256x3072 .fp8e5m2) (x1 : Vec Ideal S256x1 .f32) (x2 : Vec Ideal S256x8192 .fp8e4m3) (x3 : Vec Ideal S256x1 .f32)
    (x4 : Vec Ideal S8192x3072 .fp8e4m3) (x5 : Vec Ideal S1x3072 .bf16) (r : Fin 256) (c : Fin 8192) : EReal :=
  (∑ k : Fin 3072, x0 (ix2 r k) * x5 (ix2 0 k) * x4 (ix2 c k)) * x1 (ix2 r 0) * slope (x2 (ix2 r c) * x3 (ix2 r 0))

/-- A row's largest magnitude. -/
def rowMax (d : Fin 256 → Fin 8192 → EReal) (r : Fin 256) : EReal :=
  Finset.univ.sup fun c => (FloatOps.absf (F := Ideal) (φ := .f32) (d r c) : EReal)

/-- The exponent of a row's scale, from the row's largest magnitude. -/
def expo (m : EReal) : EReal :=
  if m * Named.named (F := Ideal) κ "inv_max" (φ := .f32) 932333861#32 = 0 then 0
  else Ideal.liftRound Int.floor (Ideal.div (Ideal.log (m * Named.named (F := Ideal) κ "inv_max" (φ := .f32) 932333861#32)) (Named.named (F := Ideal) κ "ln2" (φ := .f32) 1060205080#32)) + 1

/-- An element's code: the element over the scale, clipped to the format's range. -/
def quant (m x : EReal) : EReal :=
  min (Ideal.ofBits FTy.f32 1197473792#32) (max (Ideal.ofBits FTy.f32 3344957440#32) (x * (FloatOps.exp2 (F := Ideal) (φ := .f32) (0 - expo m) : EReal)))

/-! ### One chunk of 512 columns -/

section Chunk

variable (x0 : Vec Ideal S256x3072 .fp8e5m2) (x1 : Vec Ideal S256x1 .f32) (x2 : Vec Ideal S256x8192 .fp8e4m3) (x3 : Vec Ideal S256x1 .f32)
    (x4 : Vec Ideal S8192x3072 .fp8e4m3) (x5 : Vec Ideal S1x3072 .bf16)

theorem inb_w (n : Fin 16) : ∀ a, (![512 * n.val, 0] : Fin 2 → Nat) a + ![512, 3072] a ≤ S8192x3072.size a := fun a => by
  have := n.isLt
  match a with
  | ⟨0, _⟩ => show 512 * n.val + 512 ≤ 8192; omega
  | ⟨1, _⟩ => show 0 + 3072 ≤ 3072; omega

theorem inb_a (n : Fin 16) : ∀ a, (![0, 512 * n.val] : Fin 2 → Nat) a + ![256, 512] a ≤ S256x8192.size a := fun a => by
  have := n.isLt
  match a with
  | ⟨0, _⟩ => show 0 + 256 ≤ 256; omega
  | ⟨1, _⟩ => show 512 * n.val + 512 ≤ 8192; omega

/-- Chunk `n` of the block's gradient. -/
def chunk (n : Fin 16) : FVec Ideal S256x512 .f32 :=
  k0_pay15 (F := Ideal) (k0_pay5 x1) (k0_pay6 x3) (k0_pay4 x0 x5)
    (View.ld (Val := Elt Ideal) x4 (Rect.unit (s := S8192x3072) ![512 * n.val, 0] ![512, 3072] (inb_w n)))
    (View.ld (Val := Elt Ideal) x2 (Rect.unit (s := S256x8192) ![0, 512 * n.val] ![256, 512] (inb_a n)))

theorem read_w (n : Fin 16) (q : Fin 512) (k : Fin 3072) :
    View.ld (Val := Elt Ideal) x4 (Rect.unit (s := S8192x3072) ![512 * n.val, 0] ![512, 3072] (inb_w n)) (ix2 q k)
      = x4 (ix2 ⟨512 * n.val + q.val, by omega⟩ k) := by
  rw [View.ld_unit]
  refine congrArg x4 ?_
  funext a; match a with
  | ⟨0, _⟩ => rfl
  | ⟨1, _⟩ => exact Fin.ext (Nat.zero_add _)

theorem read_a (n : Fin 16) (r : Fin 256) (q : Fin 512) :
    View.ld (Val := Elt Ideal) x2 (Rect.unit (s := S256x8192) ![0, 512 * n.val] ![256, 512] (inb_a n)) (ix2 r q)
      = x2 (ix2 r ⟨512 * n.val + q.val, by omega⟩) := by
  rw [View.ld_unit]
  refine congrArg x2 ?_
  funext a; match a with
  | ⟨0, _⟩ => exact Fin.ext (Nat.zero_add _)
  | ⟨1, _⟩ => rfl

theorem pay15_apply (v15 v17 : Vec Ideal S256x1 .f32) (v4 : Vec Ideal S256x3072 .fp8e5m2) (v7 : Vec Ideal S1x3072 .bf16) (v43 : Vec Ideal S512x3072 .fp8e4m3) (v45 : Vec Ideal S256x512 .fp8e4m3) (r : Fin 256) (c : Fin 512) :
    (k0_pay15 (F := Ideal) (k0_pay5 v15) (k0_pay6 v17) (k0_pay4 v4 v7) v43 v45 (ix2 r c) : EReal)
      = (∑ k : Fin 3072, v4 (ix2 r k) * v7 (ix2 0 k) * v43 (ix2 c k)) * v15 (ix2 r 0) * slope (v45 (ix2 r c) * v17 (ix2 r 0)) := by
  unfold slope
  pointwise [k0_pay15, k0_pay4, k0_pay5, k0_pay6]

theorem chunk_apply (n : Fin 16) (r : Fin 256) (q : Fin 512) :
    (chunk x0 x1 x2 x3 x4 x5 n (ix2 r q) : EReal) = da x0 x1 x2 x3 x4 x5 r ⟨512 * n.val + q.val, by omega⟩ := by
  unfold chunk da
  rw [pay15_apply]
  simp only [fun k => read_w x4 n q k, read_a x2 n r q]

theorem pay17_apply (v : FVec Ideal S256x512 .f32) (r : Fin 256) (q : Fin 512) :
    (k0_pay17 (F := Ideal) v (ix3 0 r q) : EReal) = v (ix2 r q) := by
  pointwise [k0_pay17]

/-- The chunk as it is stored: at the slot's rows, from column `512 n`. -/
theorem slab_at (n : Fin 16) (off : Fin 3 → ℕ) (h1 : off 1 = 0) (h2 : off 2 = 512 * n.val)
    (inb : ∀ a, off a + (![1, 256, 512] : Fin 3 → ℕ) a ≤ S2x256x8192.size a) (x : (Rect.unit (s := S2x256x8192) off ![1, 256, 512] inb).shape.Idx) :
    (k0_pay17 (F := Ideal) (chunk x0 x1 x2 x3 x4 x5 n) x : EReal)
      = (fun j : S2x256x8192.Idx => da x0 x1 x2 x3 x4 x5 (j 1) (j 2)) ((Rect.unit (s := S2x256x8192) off ![1, 256, 512] inb).emb x) := by
  obtain ⟨u, r, q, rfl⟩ : ∃ (u : Fin 1) (r : Fin 256) (q : Fin 512), x = ix3 u r q := ⟨x 0, x 1, x 2, eq_ix3 x⟩
  obtain rfl : u = 0 := Subsingleton.elim _ _
  refine (pay17_apply _ r q).trans ?_
  rw [chunk_apply]
  refine congrArg₂ (da x0 x1 x2 x3 x4 x5) (Fin.ext ?_) (Fin.ext ?_)
  · show r.val = off 1 + 1 * r.val
    omega
  · show 512 * n.val + q.val = off 2 + 1 * q.val
    omega

/-! ### The running maxima of 128 lanes -/

theorem pay18_apply (m : FVec Ideal S256x128 .f32) (v : FVec Ideal S256x512 .f32) (r : Fin 256) (l : Fin 128) :
    (k0_pay18 (F := Ideal) m v (ix2 r l) : EReal)
      = max (max (max (max (m (ix2 r l)) (FloatOps.absf (v (ix2 r ⟨l.val, by omega⟩)))) (FloatOps.absf (v (ix2 r ⟨128 + l.val, by omega⟩))))
        (FloatOps.absf (v (ix2 r ⟨256 + l.val, by omega⟩)))) (FloatOps.absf (v (ix2 r ⟨384 + l.val, by omega⟩))) := by
  pointwise [k0_pay18]

theorem pay2_apply (m : FVec Ideal S256x128 .f32) (v : FVec Ideal S256x512 .f32) (r : Fin 256) (l : Fin 128) :
    (k0_pay2 (F := Ideal) m v (ix3 0 r l) : EReal) = k0_pay18 (F := Ideal) m v (ix2 r l) := by
  rw [pay18_apply]
  pointwise [k0_pay2]

/-- The maxima after the chunks of a list. -/
def lanes (L : List (Fin 16)) : FVec Ideal S256x128 .f32 :=
  L.foldl (fun m n => k0_pay18 (F := Ideal) m (chunk x0 x1 x2 x3 x4 x5 n)) k0_pay14

theorem pay14_apply (r : Fin 256) (l : Fin 128) : (k0_pay14 (F := Ideal) (ix2 r l) : EReal) = 0 := by
  pointwise [k0_pay14]

theorem step_le (m : FVec Ideal S256x128 .f32) (n : Fin 16) (r : Fin 256) (l : Fin 128) (b : EReal) :
    (k0_pay18 (F := Ideal) m (chunk x0 x1 x2 x3 x4 x5 n) (ix2 r l) : EReal) ≤ b
      ↔ (m (ix2 r l) : EReal) ≤ b ∧ ∀ q : Fin 4, (FloatOps.absf (F := Ideal) (φ := .f32) (da x0 x1 x2 x3 x4 x5 r ⟨512 * n.val + (128 * q.val + l.val), by omega⟩) : EReal) ≤ b := by
  rw [pay18_apply]
  simp only [chunk_apply, max_le_iff, Fin.forall_fin_succ, and_assoc]
  simp only [Fin.val_zero, Fin.val_succ, Nat.mul_zero, Nat.zero_add, Nat.reduceAdd, Nat.reduceMul, IsEmpty.forall_iff, and_true, Nat.mul_one]

theorem fold_le (L : List (Fin 16)) (r : Fin 256) (l : Fin 128) (b : EReal) (m : FVec Ideal S256x128 .f32) :
    ((L.foldl (fun m n => k0_pay18 (F := Ideal) m (chunk x0 x1 x2 x3 x4 x5 n)) m) (ix2 r l) : EReal) ≤ b
      ↔ (m (ix2 r l) : EReal) ≤ b ∧ ∀ n ∈ L, ∀ q : Fin 4, (FloatOps.absf (F := Ideal) (φ := .f32) (da x0 x1 x2 x3 x4 x5 r ⟨512 * n.val + (128 * q.val + l.val), by omega⟩) : EReal) ≤ b := by
  induction L generalizing m with
  | nil => simp
  | cons n L ih => rw [List.foldl_cons, ih, step_le, and_assoc, List.forall_mem_cons]

theorem absf_nonneg (x : EReal) : (0 : EReal) ≤ (FloatOps.absf (F := Ideal) (φ := .f32) x : EReal) := by
  show 0 ≤ max x (-x)
  rcases le_total 0 x with h | h
  · exact le_max_of_le_left h
  · exact le_max_of_le_right (EReal.neg_nonneg.mpr h)

/-- The largest of the 128 maxima, after all sixteen chunks, is the row's largest magnitude. -/
theorem lanes_max (r : Fin 256) :
    (Finset.univ.sup fun l : Fin 128 => (lanes x0 x1 x2 x3 x4 x5 [0,1,2,3,4,5,6,7,8,9,10,11,12,13,14,15] (ix2 r l) : EReal)) = rowMax (da x0 x1 x2 x3 x4 x5) r := by
  unfold lanes rowMax
  refine eq_of_forall_ge_iff fun b => ?_
  simp only [Finset.sup_le_iff, Finset.mem_univ, forall_true_left, fold_le, pay14_apply]
  constructor
  · intro h c
    have hc := c.isLt
    have := (h ⟨c.val % 128, by omega⟩).2 ⟨c.val / 512, by omega⟩ (by
      generalize (⟨c.val / 512, by omega⟩ : Fin 16) = n
      revert n; decide) ⟨c.val % 512 / 128, by omega⟩
    refine le_trans (le_of_eq ?_) this
    refine congrArg (fun c => (FloatOps.absf (F := Ideal) (φ := .f32) (da x0 x1 x2 x3 x4 x5 r c) : EReal)) (Fin.ext ?_)
    show c.val = 512 * (c.val / 512) + (128 * (c.val % 512 / 128) + c.val % 128)
    omega
  · intro h l
    exact ⟨(absf_nonneg _).trans (h ⟨0, by decide⟩), fun n _ q => h _⟩

end Chunk

/-! ### The scale and the codes -/

theorem fold_max_eq (f : Fin 128 → EReal) : Finset.fold max (Ideal.ofBits FTy.f32 4286578688#32) f Finset.univ = Finset.univ.sup f := by
  have h : Ideal.ofBits FTy.f32 4286578688#32 = (⊥ : EReal) := by
    show Ideal.ieee 8 23 4286578688#32 = ⊥
    unfold Ideal.ieee
    have h1 : ((4286578688#32).extractLsb' 23 8).toNat = 255 := by decide
    have h2 : ((4286578688#32).extractLsb' 0 23).toNat = 0 := by decide
    have h3 : ((4286578688#32).extractLsb' 31 1 == 1#1) = true := by decide
    simp [h1, h2, h3]
  rw [h]
  rfl

/-- The reciprocal of the rows' scales, from the lanes' maxima. -/
theorem inv_apply (v : Vec Ideal S1x256x128 .f32) (r : Fin 256) :
    (k0_pay13 (F := Ideal) (k0_pay8 v) (k0_pay9 v) k0_pay10 (ix2 r 0) : EReal)
      = (FloatOps.exp2 (F := Ideal) (φ := .f32) (0 - expo (Finset.univ.sup fun l : Fin 128 => (v (ix3 0 r l) : EReal))) : EReal) := by
  unfold expo
  rw [← fold_max_eq]
  pointwise [k0_pay13, k0_pay11, k0_pay10, k0_pay9, k0_pay8, k0_pay7]

/-- The rows' scales. -/
theorem scale_apply (v : Vec Ideal S1x256x128 .f32) (r : Fin 256) :
    (k0_pay12 (F := Ideal) (k0_pay8 v) (k0_pay9 v) k0_pay10 (ix2 r 0) : EReal)
      = (FloatOps.exp2 (F := Ideal) (φ := .f32) (expo (Finset.univ.sup fun l : Fin 128 => (v (ix3 0 r l) : EReal))) : EReal) := by
  unfold expo
  rw [← fold_max_eq]
  pointwise [k0_pay12, k0_pay11, k0_pay10, k0_pay9, k0_pay8, k0_pay7]

theorem pay16_apply (w : Vec Ideal S256x1 .f32) (v : Vec Ideal S1x256x512 .f32) (r : Fin 256) (q : Fin 512) :
    (k0_pay16 (F := Ideal) w v (ix2 r q) : EReal)
      = min (Ideal.ofBits FTy.f32 1197473792#32) (max (Ideal.ofBits FTy.f32 3344957440#32) (v (ix3 0 r q) * w (ix2 r 0))) := by
  pointwise [k0_pay16]

/-- A chunk of codes, from the gradient kept in slot `p`. -/
theorem code_at (w : Vec Ideal S256x1 .f32) (z : Vec Ideal S2x256x8192 .f32) (p : Fin 2) (n : Fin 16) (off : Fin 3 → ℕ) (hoff : off = ![p.val, 0, 512 * n.val])
    (inb : ∀ a, off a + (![1, 256, 512] : Fin 3 → ℕ) a ≤ S2x256x8192.size a) (inb' : ∀ a, (![0, 512 * n.val] : Fin 2 → Nat) a + ![256, 512] a ≤ S256x8192.size a)
    (x : (Rect.unit (s := S256x8192) ![0, 512 * n.val] ![256, 512] inb').shape.Idx) :
    (k0_pay16 (F := Ideal) w (View.ld (Val := Elt Ideal) z (Rect.unit (s := S2x256x8192) off ![1, 256, 512] inb)) x : EReal)
      = (fun j : S256x8192.Idx => min (Ideal.ofBits FTy.f32 1197473792#32) (max (Ideal.ofBits FTy.f32 3344957440#32) ((z (ix3 p (j 0) (j 1)) : EReal) * w (ix2 (j 0) 0))))
        ((Rect.unit (s := S256x8192) ![0, 512 * n.val] ![256, 512] inb').emb x) := by
  subst hoff
  obtain ⟨r, q, rfl⟩ : ∃ (r : Fin 256) (q : Fin 512), x = ix2 r q := ⟨x 0, x 1, eq_ix2 x⟩
  have hj : (Rect.unit (s := S256x8192) ![0, 512 * n.val] ![256, 512] inb').emb (ix2 r q) = ix2 r ⟨512 * n.val + q.val, by omega⟩ := by
    funext a; match a with
    | ⟨0, _⟩ => exact Fin.ext ((Nat.zero_add _).trans (Nat.one_mul _))
    | ⟨1, _⟩ => exact Fin.ext (congrArg (512 * n.val + ·) (Nat.one_mul _))
  rw [hj]
  refine (pay16_apply _ _ r q).trans ?_
  have hz : View.ld (Val := Elt Ideal) z (Rect.unit (s := S2x256x8192) ![p.val, 0, 512 * n.val] ![1, 256, 512] inb) (ix3 0 r q)
      = z (ix3 p r ⟨512 * n.val + q.val, by omega⟩) := by
    rw [View.ld_unit]
    refine congrArg z ?_
    funext a; match a with
    | ⟨0, _⟩ => rfl
    | ⟨1, _⟩ => exact Fin.ext (Nat.zero_add _)
    | ⟨2, _⟩ => rfl
  rw [hz]
  rfl

/-- The lanes' maxima read out of slot `p`. -/
theorem read_lanes (z : Vec Ideal S2x256x128 .f32) (p : Fin 2) (off : Fin 3 → ℕ) (hoff : off = ![p.val, 0, 0])
    (inb : ∀ a, off a + (![1, 256, 128] : Fin 3 → ℕ) a ≤ S2x256x128.size a) (r : Fin 256) (l : Fin 128) :
    View.ld (Val := Elt Ideal) z (Rect.unit (s := S2x256x128) off ![1, 256, 128] inb) (ix3 0 r l) = z (ix3 p r l) := by
  subst hoff
  rw [View.ld_unit]
  refine congrArg z ?_
  funext a; match a with
  | ⟨0, _⟩ => rfl
  | ⟨1, _⟩ => exact Fin.ext (Nat.zero_add _)
  | ⟨2, _⟩ => exact Fin.ext (Nat.zero_add _)

end Cert.DaIdeal.Body

end
-- ==== Proof.DaIdealRun.lean ====
module

public import proofs.«01_k».proof.Proof.Gen.DaIdeal.Skeleton
public import proofs.«01_k».proof.Proof.Gen.DaIdeal.Launch
public import proofs.«01_k».proof.Proof.Gen.DaIdeal.Points
public import Idealize.ShloMosaic.Lib.Pipeline.FrameBody
public import Idealize.ShloMosaic.Lib.Ring
public import Idealize.ShloMosaic.Lib.Tactic
public import Idealize.ShloMosaic.Lib.WordCmp

/-! The body of the `da` kernel at one grid point, run symbolically: at point 0 (where the running maxima are cleared
    first) and at the others. -/

@[expose] public section

set_option maxRecDepth 16384

noncomputable section

namespace Cert.DaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The body's condition that the grid coordinate is 0. -/
abbrev cond0 (i : grid0.Coords) : Prop := (Scalar.cmpi .ne (Scalar.extui (Scalar.cmpi .eq (BitVec.ofNat 32 (i 0).val) 0#32)) 0#32) = 1#1

set_option maxHeartbeats 4000000 in
/-- The body run at point 0: on whole memrefs, the inputs at `x·`, the outputs and the scratch at anything, it hands the inputs
    back as they were, and in each of the other five the stores it made, as pieces (last first). The pieces are what
    symbolic execution of the skeleton finds. -/
noncomputable def runA (c : Dev nD) (i : grid0.Coords) (arg1 : Memref sig .tc .vmem S256x3072 .fp8e5m2) (harg1 : arg1.IsWhole) (arg2 : Memref sig .tc .vmem S256x1 .f32) (harg2 : arg2.IsWhole) (arg3 : Memref sig .tc .vmem S256x8192 .fp8e4m3) (harg3 : arg3.IsWhole) (arg4 : Memref sig .tc .vmem S256x1 .f32) (harg4 : arg4.IsWhole) (arg5 : Memref sig .tc .vmem S8192x3072 .fp8e4m3) (harg5 : arg5.IsWhole) (arg6 : Memref sig .tc .vmem S1x3072 .bf16) (harg6 : arg6.IsWhole) (arg7 : Memref sig .tc .vmem S256x8192 .fp8e5m2) (harg7 : arg7.IsWhole) (arg8 : Memref sig .tc .vmem S256x1 .f32) (harg8 : arg8.IsWhole) (arg9 : Memref sig .tc .vmem S256x3072 .bf16) (harg9 : arg9.IsWhole) (arg10 : Memref sig .tc .vmem S2x256x8192 .f32) (harg10 : arg10.IsWhole) (arg11 : Memref sig .tc .vmem S2x256x128 .f32) (harg11 : arg11.IsWhole) (hc0 : cond0 i)
    (x0 : Vec F S256x3072 .fp8e5m2) (x1 : Vec F S256x1 .f32) (x2 : Vec F S256x8192 .fp8e4m3) (x3 : Vec F S256x1 .f32) (x4 : Vec F S8192x3072 .fp8e4m3) (x5 : Vec F S1x3072 .bf16) (y0 : Vec F S256x8192 .fp8e5m2) (y1 : Vec F S256x1 .f32) (z0 : Vec F S256x3072 .bf16) (z1 : Vec F S2x256x8192 .f32) (z2 : Vec F S2x256x128 .f32) :
    Σ' (L6 : List (View.Piece (Elt F) S256x8192 .fp8e5m2)), Σ' (L7 : List (View.Piece (Elt F) S256x1 .f32)), Σ' (L9 : List (View.Piece (Elt F) S256x3072 .bf16)), Σ' (L10 : List (View.Piece (Elt F) S2x256x8192 .f32)), { L11 : List (View.Piece (Elt F) S2x256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y0 ∗ owns (c : Thread nD τ) arg8 fullShare y1 ∗ owns (c : Thread nD τ) arg9 fullShare z0 ∗ owns (c : Thread nD τ) arg10 fullShare z1 ∗ owns (c : Thread nD τ) arg11 fullShare z2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0_da i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0_da_eq_skeleton]; unfold cc0_da_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _; iexact H7
    isplitl [H8]
    · iexists _; iexact H8
    isplitl [H9]
    · iexists _; iexact H9
    iexists _; iexact H10

set_option maxHeartbeats 4000000 in
/-- The body run at a point other than 0: on whole memrefs, the inputs at `x·`, the outputs and the scratch at anything, it hands the inputs
    back as they were, and in each of the other five the stores it made, as pieces (last first). The pieces are what
    symbolic execution of the skeleton finds. -/
noncomputable def runB (c : Dev nD) (i : grid0.Coords) (arg1 : Memref sig .tc .vmem S256x3072 .fp8e5m2) (harg1 : arg1.IsWhole) (arg2 : Memref sig .tc .vmem S256x1 .f32) (harg2 : arg2.IsWhole) (arg3 : Memref sig .tc .vmem S256x8192 .fp8e4m3) (harg3 : arg3.IsWhole) (arg4 : Memref sig .tc .vmem S256x1 .f32) (harg4 : arg4.IsWhole) (arg5 : Memref sig .tc .vmem S8192x3072 .fp8e4m3) (harg5 : arg5.IsWhole) (arg6 : Memref sig .tc .vmem S1x3072 .bf16) (harg6 : arg6.IsWhole) (arg7 : Memref sig .tc .vmem S256x8192 .fp8e5m2) (harg7 : arg7.IsWhole) (arg8 : Memref sig .tc .vmem S256x1 .f32) (harg8 : arg8.IsWhole) (arg9 : Memref sig .tc .vmem S256x3072 .bf16) (harg9 : arg9.IsWhole) (arg10 : Memref sig .tc .vmem S2x256x8192 .f32) (harg10 : arg10.IsWhole) (arg11 : Memref sig .tc .vmem S2x256x128 .f32) (harg11 : arg11.IsWhole) (hc0 : ¬cond0 i)
    (x0 : Vec F S256x3072 .fp8e5m2) (x1 : Vec F S256x1 .f32) (x2 : Vec F S256x8192 .fp8e4m3) (x3 : Vec F S256x1 .f32) (x4 : Vec F S8192x3072 .fp8e4m3) (x5 : Vec F S1x3072 .bf16) (y0 : Vec F S256x8192 .fp8e5m2) (y1 : Vec F S256x1 .f32) (z0 : Vec F S256x3072 .bf16) (z1 : Vec F S2x256x8192 .f32) (z2 : Vec F S2x256x128 .f32) :
    Σ' (L6 : List (View.Piece (Elt F) S256x8192 .fp8e5m2)), Σ' (L7 : List (View.Piece (Elt F) S256x1 .f32)), Σ' (L9 : List (View.Piece (Elt F) S256x3072 .bf16)), Σ' (L10 : List (View.Piece (Elt F) S2x256x8192 .f32)), { L11 : List (View.Piece (Elt F) S2x256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y0 ∗ owns (c : Thread nD τ) arg8 fullShare y1 ∗ owns (c : Thread nD τ) arg9 fullShare z0 ∗ owns (c : Thread nD τ) arg10 fullShare z1 ∗ owns (c : Thread nD τ) arg11 fullShare z2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0_da i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0_da_eq_skeleton]; unfold cc0_da_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _; iexact H7
    isplitl [H8]
    · iexists _; iexact H8
    isplitl [H9]
    · iexists _; iexact H9
    iexists _; iexact H10

end Cert.DaIdeal.Gen

end
-- ==== Proof.DaCases.lean ====
/- What the body of the `da` kernel leaves in its buffers at one grid point. -/
module

public import proofs.«01_k».proof.Proof.DaBody
public import proofs.«01_k».proof.Proof.DaIdealRun

@[expose] public section

set_option maxRecDepth 16384

noncomputable section

namespace Cert.DaIdeal.Body

open Cert.DaIdeal Cert.DaIdeal.Gen Idealize.ShloMosaic Idealize.ShloMosaic.TcCoe Idealize.ShloMosaic.Tactic Idealize.SL.Sem

theorem hz2 : (![0, 0] : Fin 2 → Nat) = fun _ => 0 := by decide

/-- The scratch slot that the point fills, and the one that the point before it filled. -/
def cur (i : grid0.Coords) : Fin 2 := ⟨(i 0).val % 2, Nat.mod_lt _ (by decide)⟩
def prev (i : grid0.Coords) : Fin 2 := ⟨((i 0).val + 1) % 2, Nat.mod_lt _ (by decide)⟩

/-- The left operand of the matrix products is read back whole from the store of the whole block. -/
theorem read_back {κ : Kind} {sp : Space} (v : View sig κ sp S256x3072 .bf16) (w : Vec Ideal S256x3072 .bf16) (inb inb' : ∀ a, (![0, 0] : Fin 2 → Nat) a + (![256, 3072] : Fin 2 → Nat) a ≤ S256x3072.size a) :
    v.readCov (Val := Elt Ideal) [(⟨Rect.unit ![0, 0] ![256, 3072] inb, w⟩ : View.Piece (Elt Ideal) S256x3072 .bf16)] (Rect.unit (s := S256x3072) ![0, 0] ![256, 3072] inb').toLoadRect = w := by
  rw [View.readCov_eq_canon', View.canon_unit_zero (S := S256x3072) hz2]
  exact View.ld_unit_zero (S := S256x3072) hz2 inb' w

/-- A slot's lanes just stored, read back. -/
theorem read_lanes_back {κ : Kind} {sp : Space} (v : View sig κ sp S2x256x128 .f32) (f : v.ty.Contents (Elt Ideal)) (L : List (View.Piece (Elt Ideal) S2x256x128 .f32))
    (w : FVec Ideal S1x256x128 .f32) (p : Fin 2) (off : Fin 3 → ℕ) (hoff : off = ![p.val, 0, 0]) (inb : ∀ a, off a + (![1, 256, 128] : Fin 3 → ℕ) a ≤ S2x256x128.size a)
    (r : Fin 256) (l : Fin 128) :
    v.read (Elt Ideal) (v.writes (Elt Ideal) f ((⟨Rect.unit (s := S2x256x128) off ![1, 256, 128] inb, w⟩ : View.Piece (Elt Ideal) S2x256x128 .f32) :: L)) (ix3 p r l) = w (ix3 0 r l) := by
  subst hoff
  have h : (Rect.unit (s := S2x256x128) ![p.val, 0, 0] ![1, 256, 128] inb).emb (ix3 0 r l) = ix3 p r l := by
    funext a; match a with
    | ⟨0, _⟩ => exact Fin.ext (show p.val + 1 * 0 = p.val by omega)
    | ⟨1, _⟩ => exact Fin.ext (show 0 + 1 * r.val = r.val by omega)
    | ⟨2, _⟩ => exact Fin.ext (show 0 + 1 * l.val = l.val by omega)
  exact (congrArg (v.read (Elt Ideal) (v.writes (Elt Ideal) f _)) h.symm).trans (View.read_writes_cons_emb v f (Rect.unit (s := S2x256x128) ![p.val, 0, 0] ![1, 256, 128] inb) w L (ix3 0 r l))

/-- A chunk of codes, from the gradient kept in slot `p` and the reciprocals of the scales. -/
theorem code_q (m : Fin 256 → EReal) (w : Vec Ideal S256x1 .f32) (hw : ∀ r, (w (ix2 r 0) : EReal) = (FloatOps.exp2 (F := Ideal) (φ := .f32) (0 - expo (m r)) : EReal))
    (z : Vec Ideal S2x256x8192 .f32) (p : Fin 2) (n : Fin 16) (off : Fin 3 → ℕ) (hoff : off = ![p.val, 0, 512 * n.val])
    (inb : ∀ a, off a + (![1, 256, 512] : Fin 3 → ℕ) a ≤ S2x256x8192.size a) (inb' : ∀ a, (![0, 512 * n.val] : Fin 2 → Nat) a + ![256, 512] a ≤ S256x8192.size a)
    (x : (Rect.unit (s := S256x8192) ![0, 512 * n.val] ![256, 512] inb').shape.Idx) :
    (k0_pay16 (F := Ideal) w (View.ld (Val := Elt Ideal) z (Rect.unit (s := S2x256x8192) off ![1, 256, 512] inb)) x : EReal)
      = (fun j : S256x8192.Idx => quant (m (j 0)) (z (ix3 p (j 0) (j 1)))) ((Rect.unit (s := S256x8192) ![0, 512 * n.val] ![256, 512] inb').emb x) :=
  (code_at w z p n off hoff inb inb' x).trans (by
    unfold quant
    exact congrArg (fun y : EReal => min (Ideal.ofBits FTy.f32 1197473792#32) (max (Ideal.ofBits FTy.f32 3344957440#32) ((z (ix3 p _ _) : EReal) * y))) (hw _))

section Point

variable (c : Dev nD) (i : grid0.Coords)
  (arg1 : Memref sig .tc .vmem S256x3072 .fp8e5m2) (harg1 : arg1.IsWhole)
  (arg2 : Memref sig .tc .vmem S256x1 .f32) (harg2 : arg2.IsWhole)
  (arg3 : Memref sig .tc .vmem S256x8192 .fp8e4m3) (harg3 : arg3.IsWhole)
  (arg4 : Memref sig .tc .vmem S256x1 .f32) (harg4 : arg4.IsWhole)
  (arg5 : Memref sig .tc .vmem S8192x3072 .fp8e4m3) (harg5 : arg5.IsWhole)
  (arg6 : Memref sig .tc .vmem S1x3072 .bf16) (harg6 : arg6.IsWhole)
  (arg7 : Memref sig .tc .vmem S256x8192 .fp8e5m2) (harg7 : arg7.IsWhole)
  (arg8 : Memref sig .tc .vmem S256x1 .f32) (harg8 : arg8.IsWhole)
  (arg9 : Memref sig .tc .vmem S256x3072 .bf16) (harg9 : arg9.IsWhole)
  (arg10 : Memref sig .tc .vmem S2x256x8192 .f32) (harg10 : arg10.IsWhole)
  (arg11 : Memref sig .tc .vmem S2x256x128 .f32) (harg11 : arg11.IsWhole)
  (x0 : Vec Ideal S256x3072 .fp8e5m2)
  (x1 : Vec Ideal S256x1 .f32)
  (x2 : Vec Ideal S256x8192 .fp8e4m3)
  (x3 : Vec Ideal S256x1 .f32)
  (x4 : Vec Ideal S8192x3072 .fp8e4m3)
  (x5 : Vec Ideal S1x3072 .bf16)
  (y0 : Vec Ideal S256x8192 .fp8e5m2)
  (y1 : Vec Ideal S256x1 .f32)
  (z0 : Vec Ideal S256x3072 .bf16)
  (z1 : Vec Ideal S2x256x8192 .f32)
  (z2 : Vec Ideal S2x256x128 .f32)

/-- The current slot receives the block's gradient. -/
theorem slab_B (hc0 : ¬cond0 i) : ∀ p ∈ (runB (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.2.2.1,
    ∀ x, p.2 x = (fun j : S2x256x8192.Idx => da x0 x1 x2 x3 x4 x5 (j 1) (j 2)) (p.1.emb x) := by
  unfold runB
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, read_back,
    View.ld_unit_zero (S := S256x3072) hz2, View.ld_unit_zero (S := S256x1) hz2, View.ld_unit_zero (S := S1x3072) hz2]
  simp only [List.forall_mem_cons]
  refine ⟨fun x => slab_at x0 x1 x2 x3 x4 x5 15 _ ((by decide +kernel : ∀ i : grid0.Coords, k0_off33 i 1 = 0) i) ((by decide +kernel : ∀ i : grid0.Coords, k0_off33 i 2 = 512 * ((15 : Fin 16)).val) i) _ x, fun x => slab_at x0 x1 x2 x3 x4 x5 14 _ ((by decide +kernel : ∀ i : grid0.Coords, k0_off31 i 1 = 0) i) ((by decide +kernel : ∀ i : grid0.Coords, k0_off31 i 2 = 512 * ((14 : Fin 16)).val) i) _ x, fun x => slab_at x0 x1 x2 x3 x4 x5 13 _ ((by decide +kernel : ∀ i : grid0.Coords, k0_off29 i 1 = 0) i) ((by decide +kernel : ∀ i : grid0.Coords, k0_off29 i 2 = 512 * ((13 : Fin 16)).val) i) _ x, fun x => slab_at x0 x1 x2 x3 x4 x5 12 _ ((by decide +kernel : ∀ i : grid0.Coords, k0_off27 i 1 = 0) i) ((by decide +kernel : ∀ i : grid0.Coords, k0_off27 i 2 = 512 * ((12 : Fin 16)).val) i) _ x, fun x => slab_at x0 x1 x2 x3 x4 x5 11 _ ((by decide +kernel : ∀ i : grid0.Coords, k0_off25 i 1 = 0) i) ((by decide +kernel : ∀ i : grid0.Coords, k0_off25 i 2 = 512 * ((11 : Fin 16)).val) i) _ x, fun x => slab_at x0 x1 x2 x3 x4 x5 10 _ ((by decide +kernel : ∀ i : grid0.Coords, k0_off23 i 1 = 0) i) ((by decide +kernel : ∀ i : grid0.Coords, k0_off23 i 2 = 512 * ((10 : Fin 16)).val) i) _ x, fun x => slab_at x0 x1 x2 x3 x4 x5 9 _ ((by decide +kernel : ∀ i : grid0.Coords, k0_off21 i 1 = 0) i) ((by decide +kernel : ∀ i : grid0.Coords, k0_off21 i 2 = 512 * ((9 : Fin 16)).val) i) _ x, fun x => slab_at x0 x1 x2 x3 x4 x5 8 _ ((by decide +kernel : ∀ i : grid0.Coords, k0_off19 i 1 = 0) i) ((by decide +kernel : ∀ i : grid0.Coords, k0_off19 i 2 = 512 * ((8 : Fin 16)).val) i) _ x, fun x => slab_at x0 x1 x2 x3 x4 x5 7 _ ((by decide +kernel : ∀ i : grid0.Coords, k0_off17 i 1 = 0) i) ((by decide +kernel : ∀ i : grid0.Coords, k0_off17 i 2 = 512 * ((7 : Fin 16)).val) i) _ x, fun x => slab_at x0 x1 x2 x3 x4 x5 6 _ ((by decide +kernel : ∀ i : grid0.Coords, k0_off15 i 1 = 0) i) ((by decide +kernel : ∀ i : grid0.Coords, k0_off15 i 2 = 512 * ((6 : Fin 16)).val) i) _ x, fun x => slab_at x0 x1 x2 x3 x4 x5 5 _ ((by decide +kernel : ∀ i : grid0.Coords, k0_off13 i 1 = 0) i) ((by decide +kernel : ∀ i : grid0.Coords, k0_off13 i 2 = 512 * ((5 : Fin 16)).val) i) _ x, fun x => slab_at x0 x1 x2 x3 x4 x5 4 _ ((by decide +kernel : ∀ i : grid0.Coords, k0_off11 i 1 = 0) i) ((by decide +kernel : ∀ i : grid0.Coords, k0_off11 i 2 = 512 * ((4 : Fin 16)).val) i) _ x, fun x => slab_at x0 x1 x2 x3 x4 x5 3 _ ((by decide +kernel : ∀ i : grid0.Coords, k0_off9 i 1 = 0) i) ((by decide +kernel : ∀ i : grid0.Coords, k0_off9 i 2 = 512 * ((3 : Fin 16)).val) i) _ x, fun x => slab_at x0 x1 x2 x3 x4 x5 2 _ ((by decide +kernel : ∀ i : grid0.Coords, k0_off7 i 1 = 0) i) ((by decide +kernel : ∀ i : grid0.Coords, k0_off7 i 2 = 512 * ((2 : Fin 16)).val) i) _ x, fun x => slab_at x0 x1 x2 x3 x4 x5 1 _ ((by decide +kernel : ∀ i : grid0.Coords, k0_off5 i 1 = 0) i) ((by decide +kernel : ∀ i : grid0.Coords, k0_off5 i 2 = 512 * ((1 : Fin 16)).val) i) _ x, fun x => slab_at x0 x1 x2 x3 x4 x5 0 _ ((by decide +kernel : ∀ i : grid0.Coords, k0_off3 i 1 = 0) i) ((by decide +kernel : ∀ i : grid0.Coords, k0_off3 i 2 = 512 * ((0 : Fin 16)).val) i) _ x, fun p hp => absurd hp List.not_mem_nil⟩

/-- And the lanes' maxima of the block's rows. -/
theorem lanes_B (hc0 : ¬cond0 i) (f : arg11.view.ty.Contents (Elt Ideal)) (r : Fin 256) (l : Fin 128) :
    arg11.view.read (Elt Ideal) (arg11.view.writes (Elt Ideal) f (runB (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.2.2.2.1) (ix3 (cur i) r l)
      = (lanes x0 x1 x2 x3 x4 x5 [0,1,2,3,4,5,6,7,8,9,10,11,12,13,14,15] (ix2 r l) : EReal) := by
  unfold runB
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, read_back,
    View.ld_unit_zero (S := S256x3072) hz2, View.ld_unit_zero (S := S256x1) hz2, View.ld_unit_zero (S := S1x3072) hz2]
  refine (read_lanes_back _ _ _ _ (cur i) _ ((by decide +kernel : ∀ i : grid0.Coords, k0_off34 i = ![(cur i).val, 0, 0]) i) _ r l).trans ?_
  exact pay2_apply (lanes x0 x1 x2 x3 x4 x5 [0,1,2,3,4,5,6,7,8,9,10,11,12,13,14]) (chunk x0 x1 x2 x3 x4 x5 15) r l

/-- The current slot receives the block's gradient. -/
theorem slab_A (hc0 : cond0 i) : ∀ p ∈ (runA (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.2.2.1,
    ∀ x, p.2 x = (fun j : S2x256x8192.Idx => da x0 x1 x2 x3 x4 x5 (j 1) (j 2)) (p.1.emb x) := by
  unfold runA
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, read_back,
    View.ld_unit_zero (S := S256x3072) hz2, View.ld_unit_zero (S := S256x1) hz2, View.ld_unit_zero (S := S1x3072) hz2]
  simp only [List.forall_mem_cons]
  refine ⟨fun x => slab_at x0 x1 x2 x3 x4 x5 15 _ ((by decide +kernel : ∀ i : grid0.Coords, k0_off33 i 1 = 0) i) ((by decide +kernel : ∀ i : grid0.Coords, k0_off33 i 2 = 512 * ((15 : Fin 16)).val) i) _ x, fun x => slab_at x0 x1 x2 x3 x4 x5 14 _ ((by decide +kernel : ∀ i : grid0.Coords, k0_off31 i 1 = 0) i) ((by decide +kernel : ∀ i : grid0.Coords, k0_off31 i 2 = 512 * ((14 : Fin 16)).val) i) _ x, fun x => slab_at x0 x1 x2 x3 x4 x5 13 _ ((by decide +kernel : ∀ i : grid0.Coords, k0_off29 i 1 = 0) i) ((by decide +kernel : ∀ i : grid0.Coords, k0_off29 i 2 = 512 * ((13 : Fin 16)).val) i) _ x, fun x => slab_at x0 x1 x2 x3 x4 x5 12 _ ((by decide +kernel : ∀ i : grid0.Coords, k0_off27 i 1 = 0) i) ((by decide +kernel : ∀ i : grid0.Coords, k0_off27 i 2 = 512 * ((12 : Fin 16)).val) i) _ x, fun x => slab_at x0 x1 x2 x3 x4 x5 11 _ ((by decide +kernel : ∀ i : grid0.Coords, k0_off25 i 1 = 0) i) ((by decide +kernel : ∀ i : grid0.Coords, k0_off25 i 2 = 512 * ((11 : Fin 16)).val) i) _ x, fun x => slab_at x0 x1 x2 x3 x4 x5 10 _ ((by decide +kernel : ∀ i : grid0.Coords, k0_off23 i 1 = 0) i) ((by decide +kernel : ∀ i : grid0.Coords, k0_off23 i 2 = 512 * ((10 : Fin 16)).val) i) _ x, fun x => slab_at x0 x1 x2 x3 x4 x5 9 _ ((by decide +kernel : ∀ i : grid0.Coords, k0_off21 i 1 = 0) i) ((by decide +kernel : ∀ i : grid0.Coords, k0_off21 i 2 = 512 * ((9 : Fin 16)).val) i) _ x, fun x => slab_at x0 x1 x2 x3 x4 x5 8 _ ((by decide +kernel : ∀ i : grid0.Coords, k0_off19 i 1 = 0) i) ((by decide +kernel : ∀ i : grid0.Coords, k0_off19 i 2 = 512 * ((8 : Fin 16)).val) i) _ x, fun x => slab_at x0 x1 x2 x3 x4 x5 7 _ ((by decide +kernel : ∀ i : grid0.Coords, k0_off17 i 1 = 0) i) ((by decide +kernel : ∀ i : grid0.Coords, k0_off17 i 2 = 512 * ((7 : Fin 16)).val) i) _ x, fun x => slab_at x0 x1 x2 x3 x4 x5 6 _ ((by decide +kernel : ∀ i : grid0.Coords, k0_off15 i 1 = 0) i) ((by decide +kernel : ∀ i : grid0.Coords, k0_off15 i 2 = 512 * ((6 : Fin 16)).val) i) _ x, fun x => slab_at x0 x1 x2 x3 x4 x5 5 _ ((by decide +kernel : ∀ i : grid0.Coords, k0_off13 i 1 = 0) i) ((by decide +kernel : ∀ i : grid0.Coords, k0_off13 i 2 = 512 * ((5 : Fin 16)).val) i) _ x, fun x => slab_at x0 x1 x2 x3 x4 x5 4 _ ((by decide +kernel : ∀ i : grid0.Coords, k0_off11 i 1 = 0) i) ((by decide +kernel : ∀ i : grid0.Coords, k0_off11 i 2 = 512 * ((4 : Fin 16)).val) i) _ x, fun x => slab_at x0 x1 x2 x3 x4 x5 3 _ ((by decide +kernel : ∀ i : grid0.Coords, k0_off9 i 1 = 0) i) ((by decide +kernel : ∀ i : grid0.Coords, k0_off9 i 2 = 512 * ((3 : Fin 16)).val) i) _ x, fun x => slab_at x0 x1 x2 x3 x4 x5 2 _ ((by decide +kernel : ∀ i : grid0.Coords, k0_off7 i 1 = 0) i) ((by decide +kernel : ∀ i : grid0.Coords, k0_off7 i 2 = 512 * ((2 : Fin 16)).val) i) _ x, fun x => slab_at x0 x1 x2 x3 x4 x5 1 _ ((by decide +kernel : ∀ i : grid0.Coords, k0_off5 i 1 = 0) i) ((by decide +kernel : ∀ i : grid0.Coords, k0_off5 i 2 = 512 * ((1 : Fin 16)).val) i) _ x, fun x => slab_at x0 x1 x2 x3 x4 x5 0 _ ((by decide +kernel : ∀ i : grid0.Coords, k0_off3 i 1 = 0) i) ((by decide +kernel : ∀ i : grid0.Coords, k0_off3 i 2 = 512 * ((0 : Fin 16)).val) i) _ x, fun p hp => absurd hp List.not_mem_nil⟩

/-- And the lanes' maxima of the block's rows. -/
theorem lanes_A (hc0 : cond0 i) (f : arg11.view.ty.Contents (Elt Ideal)) (r : Fin 256) (l : Fin 128) :
    arg11.view.read (Elt Ideal) (arg11.view.writes (Elt Ideal) f (runA (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.2.2.2.1) (ix3 (cur i) r l)
      = (lanes x0 x1 x2 x3 x4 x5 [0,1,2,3,4,5,6,7,8,9,10,11,12,13,14,15] (ix2 r l) : EReal) := by
  unfold runA
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, read_back,
    View.ld_unit_zero (S := S256x3072) hz2, View.ld_unit_zero (S := S256x1) hz2, View.ld_unit_zero (S := S1x3072) hz2]
  refine (read_lanes_back _ _ _ _ (cur i) _ ((by decide +kernel : ∀ i : grid0.Coords, k0_off34 i = ![(cur i).val, 0, 0]) i) _ r l).trans ?_
  exact pay2_apply (lanes x0 x1 x2 x3 x4 x5 [0,1,2,3,4,5,6,7,8,9,10,11,12,13,14]) (chunk x0 x1 x2 x3 x4 x5 15) r l

/-- From the second point on the codes are those of the gradient in the other slot. -/
theorem codes_B (hc0 : ¬cond0 i) (m : Fin 256 → EReal) (hm : ∀ r, (Finset.univ.sup fun l : Fin 128 => (z2 (ix3 (prev i) r l) : EReal)) = m r) :
    ∀ p ∈ (runB (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).1,
      ∀ x, p.2 x = (fun j : S256x8192.Idx => quant (m (j 0)) (z1 (ix3 (prev i) (j 0) (j 1)))) (p.1.emb x) := by
  have hinv : ∀ (v : Vec Ideal S1x256x128 .f32) (_ : ∀ r l, v (ix3 0 r l) = z2 (ix3 (prev i) r l)) (r : Fin 256),
      (k0_pay13 (F := Ideal) (k0_pay8 v) (k0_pay9 v) k0_pay10 (ix2 r 0) : EReal) = (FloatOps.exp2 (F := Ideal) (φ := .f32) (0 - expo (m r)) : EReal) := fun v hv r => by
    rw [inv_apply, ← hm r]
    simp only [hv]
  unfold runB
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, read_back,
    View.ld_unit_zero (S := S256x3072) hz2, View.ld_unit_zero (S := S256x1) hz2, View.ld_unit_zero (S := S1x3072) hz2]
  have hv := hinv _ fun r l => read_lanes z2 (prev i) _ ((by decide +kernel : ∀ i : grid0.Coords, k0_off1 i = ![(prev i).val, 0, 0]) i) (k0_off1_inb i) r l
  simp only [List.forall_mem_cons]
  refine ⟨fun x => code_q m _ hv z1 (prev i) 15 _ ((by decide +kernel : ∀ i : grid0.Coords, k0_off32 i = ![(prev i).val, 0, 512 * (15 : Fin 16).val]) i) _ _ x, fun x => code_q m _ hv z1 (prev i) 14 _ ((by decide +kernel : ∀ i : grid0.Coords, k0_off30 i = ![(prev i).val, 0, 512 * (14 : Fin 16).val]) i) _ _ x, fun x => code_q m _ hv z1 (prev i) 13 _ ((by decide +kernel : ∀ i : grid0.Coords, k0_off28 i = ![(prev i).val, 0, 512 * (13 : Fin 16).val]) i) _ _ x, fun x => code_q m _ hv z1 (prev i) 12 _ ((by decide +kernel : ∀ i : grid0.Coords, k0_off26 i = ![(prev i).val, 0, 512 * (12 : Fin 16).val]) i) _ _ x, fun x => code_q m _ hv z1 (prev i) 11 _ ((by decide +kernel : ∀ i : grid0.Coords, k0_off24 i = ![(prev i).val, 0, 512 * (11 : Fin 16).val]) i) _ _ x, fun x => code_q m _ hv z1 (prev i) 10 _ ((by decide +kernel : ∀ i : grid0.Coords, k0_off22 i = ![(prev i).val, 0, 512 * (10 : Fin 16).val]) i) _ _ x, fun x => code_q m _ hv z1 (prev i) 9 _ ((by decide +kernel : ∀ i : grid0.Coords, k0_off20 i = ![(prev i).val, 0, 512 * (9 : Fin 16).val]) i) _ _ x, fun x => code_q m _ hv z1 (prev i) 8 _ ((by decide +kernel : ∀ i : grid0.Coords, k0_off18 i = ![(prev i).val, 0, 512 * (8 : Fin 16).val]) i) _ _ x, fun x => code_q m _ hv z1 (prev i) 7 _ ((by decide +kernel : ∀ i : grid0.Coords, k0_off16 i = ![(prev i).val, 0, 512 * (7 : Fin 16).val]) i) _ _ x, fun x => code_q m _ hv z1 (prev i) 6 _ ((by decide +kernel : ∀ i : grid0.Coords, k0_off14 i = ![(prev i).val, 0, 512 * (6 : Fin 16).val]) i) _ _ x, fun x => code_q m _ hv z1 (prev i) 5 _ ((by decide +kernel : ∀ i : grid0.Coords, k0_off12 i = ![(prev i).val, 0, 512 * (5 : Fin 16).val]) i) _ _ x, fun x => code_q m _ hv z1 (prev i) 4 _ ((by decide +kernel : ∀ i : grid0.Coords, k0_off10 i = ![(prev i).val, 0, 512 * (4 : Fin 16).val]) i) _ _ x, fun x => code_q m _ hv z1 (prev i) 3 _ ((by decide +kernel : ∀ i : grid0.Coords, k0_off8 i = ![(prev i).val, 0, 512 * (3 : Fin 16).val]) i) _ _ x, fun x => code_q m _ hv z1 (prev i) 2 _ ((by decide +kernel : ∀ i : grid0.Coords, k0_off6 i = ![(prev i).val, 0, 512 * (2 : Fin 16).val]) i) _ _ x, fun x => code_q m _ hv z1 (prev i) 1 _ ((by decide +kernel : ∀ i : grid0.Coords, k0_off4 i = ![(prev i).val, 0, 512 * (1 : Fin 16).val]) i) _ _ x, fun x => code_q m _ hv z1 (prev i) 0 _ ((by decide +kernel : ∀ i : grid0.Coords, k0_off2 i = ![(prev i).val, 0, 512 * (0 : Fin 16).val]) i) _ _ x, fun p hp => absurd hp List.not_mem_nil⟩

/-- And the scales its. -/
theorem scales_B (hc0 : ¬cond0 i) (m : Fin 256 → EReal) (hm : ∀ r, (Finset.univ.sup fun l : Fin 128 => (z2 (ix3 (prev i) r l) : EReal)) = m r)
    (f : arg8.view.ty.Contents (Elt Ideal)) (r : Fin 256) :
    arg8.view.read (Elt Ideal) (arg8.view.writes (Elt Ideal) f (runB (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.1) (ix2 r 0) = (FloatOps.exp2 (F := Ideal) (φ := .f32) (expo (m r)) : EReal) := by
  unfold runB
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, read_back,
    View.ld_unit_zero (S := S256x3072) hz2, View.ld_unit_zero (S := S256x1) hz2, View.ld_unit_zero (S := S1x3072) hz2]
  refine (View.read_writes_apply_of_pieces _ _ (fun j : S256x1.Idx => (FloatOps.exp2 (F := Ideal) (φ := .f32) (expo (m (j 0))) : EReal)) _ ?_ (ix2 r 0) ?_).trans rfl
  · simp only [List.forall_mem_cons]
    refine ⟨fun x => ?_, fun p hp => absurd hp List.not_mem_nil⟩
    obtain ⟨s, u, rfl⟩ : ∃ (s : Fin 256) (u : Fin 1), x = ix2 s u := ⟨x 0, x 1, eq_ix2 x⟩
    obtain rfl : u = 0 := Subsingleton.elim _ _
    refine (scale_apply _ s).trans ?_
    have hv := fun l : Fin 128 => read_lanes z2 (prev i) _ ((by decide +kernel : ∀ i : grid0.Coords, k0_off1 i = ![(prev i).val, 0, 0]) i) (k0_off1_inb i) s l
    refine (congrArg (fun y => (FloatOps.exp2 (F := Ideal) (φ := .f32) (expo y) : EReal)) ((Finset.sup_congr rfl fun l _ => hv l).trans (hm s))).trans ?_
    exact congrArg (fun s => (FloatOps.exp2 (F := Ideal) (φ := .f32) (expo (m s)) : EReal)) (Fin.ext ((Nat.zero_add _).trans (Nat.one_mul _)).symm)
  · exact View.cover_of_tiledL _ S256x1.size (by sl_kernel_rfl) (ix2 r 0)

end Point

end Cert.DaIdeal.Body

end
-- ==== Proof.DaSlots.lean ====
/- What the `da` kernel's scratch buffers and output windows hold after its body, read at an index. -/
module

public import proofs.«01_k».proof.Proof.DaCases

@[expose] public section

set_option maxRecDepth 16384

noncomputable section

namespace Cert.DaIdeal.Body

open Cert.DaIdeal Cert.DaIdeal.Gen Idealize.ShloMosaic Idealize.ShloMosaic.TcCoe Idealize.ShloMosaic.Tactic Idealize.SL.Sem

/-- An index of slot `p` lies in the chunk of its column. -/
theorem mem_slab (p : Fin 2) (n : Fin 16) (off : Fin 3 → ℕ) (hoff : off = ![p.val, 0, 512 * n.val])
    (inb : ∀ a, off a + (![1, 256, 512] : Fin 3 → ℕ) a ≤ S2x256x8192.size a) (r : Fin 256) (q : Fin 8192) (hq : q.val / 512 = n.val) :
    (ix3 p r q : S2x256x8192.Idx) ∈ (Rect.unit (s := S2x256x8192) off ![1, 256, 512] inb).set := by
  subst hoff
  rw [Rect.mem_set_unit]
  intro a
  match a with
  | ⟨0, _⟩ => exact ⟨le_refl p.val, Nat.lt_succ_self p.val⟩
  | ⟨1, _⟩ => exact ⟨Nat.zero_le r.val, by show r.val < 0 + 256; omega⟩
  | ⟨2, _⟩ => exact ⟨by show 512 * n.val ≤ q.val; omega, by show q.val < 512 * n.val + 512; omega⟩

theorem mem_codes (n : Fin 16) (off : Fin 2 → ℕ) (hoff : off = ![0, 512 * n.val])
    (inb : ∀ a, off a + (![256, 512] : Fin 2 → ℕ) a ≤ S256x8192.size a) (r : Fin 256) (q : Fin 8192) (hq : q.val / 512 = n.val) :
    (ix2 r q : S256x8192.Idx) ∈ (Rect.unit (s := S256x8192) off ![256, 512] inb).set := by
  subst hoff
  rw [Rect.mem_set_unit]
  intro a
  match a with
  | ⟨0, _⟩ => exact ⟨Nat.zero_le r.val, by show r.val < 0 + 256; omega⟩
  | ⟨1, _⟩ => exact ⟨by show 512 * n.val ≤ q.val; omega, by show q.val < 512 * n.val + 512; omega⟩

section Point

variable (c : Dev nD) (i : grid0.Coords)
  (arg1 : Memref sig .tc .vmem S256x3072 .fp8e5m2) (harg1 : arg1.IsWhole)
  (arg2 : Memref sig .tc .vmem S256x1 .f32) (harg2 : arg2.IsWhole)
  (arg3 : Memref sig .tc .vmem S256x8192 .fp8e4m3) (harg3 : arg3.IsWhole)
  (arg4 : Memref sig .tc .vmem S256x1 .f32) (harg4 : arg4.IsWhole)
  (arg5 : Memref sig .tc .vmem S8192x3072 .fp8e4m3) (harg5 : arg5.IsWhole)
  (arg6 : Memref sig .tc .vmem S1x3072 .bf16) (harg6 : arg6.IsWhole)
  (arg7 : Memref sig .tc .vmem S256x8192 .fp8e5m2) (harg7 : arg7.IsWhole)
  (arg8 : Memref sig .tc .vmem S256x1 .f32) (harg8 : arg8.IsWhole)
  (arg9 : Memref sig .tc .vmem S256x3072 .bf16) (harg9 : arg9.IsWhole)
  (arg10 : Memref sig .tc .vmem S2x256x8192 .f32) (harg10 : arg10.IsWhole)
  (arg11 : Memref sig .tc .vmem S2x256x128 .f32) (harg11 : arg11.IsWhole)
  (x0 : Vec Ideal S256x3072 .fp8e5m2)
  (x1 : Vec Ideal S256x1 .f32)
  (x2 : Vec Ideal S256x8192 .fp8e4m3)
  (x3 : Vec Ideal S256x1 .f32)
  (x4 : Vec Ideal S8192x3072 .fp8e4m3)
  (x5 : Vec Ideal S1x3072 .bf16)
  (y0 : Vec Ideal S256x8192 .fp8e5m2)
  (y1 : Vec Ideal S256x1 .f32)
  (z0 : Vec Ideal S256x3072 .bf16)
  (z1 : Vec Ideal S2x256x8192 .f32)
  (z2 : Vec Ideal S2x256x128 .f32)

/-- Every index of the current slot is stored to. -/
theorem slab_cover_B (hc0 : ¬cond0 i) (r : Fin 256) (q : Fin 8192) : ∃ p ∈ (runB (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.2.2.1, (ix3 (cur i) r q : S2x256x8192.Idx) ∈ p.1.set := by
  unfold runB
  dsimp only
  simp only [List.exists_mem_cons_iff]
  have hq := q.isLt
  obtain ⟨n, hn⟩ : ∃ n : Fin 16, q.val / 512 = n.val := ⟨⟨q.val / 512, by omega⟩, rfl⟩
  match n, hn with
  | ⟨15, _⟩, hn => exact Or.inl (mem_slab (cur i) 15 _ ((by decide +kernel : ∀ i : grid0.Coords, k0_off33 i = ![(cur i).val, 0, 512 * (15 : Fin 16).val]) i) _ r q hn)
  | ⟨14, _⟩, hn => exact Or.inr (Or.inl (mem_slab (cur i) 14 _ ((by decide +kernel : ∀ i : grid0.Coords, k0_off31 i = ![(cur i).val, 0, 512 * (14 : Fin 16).val]) i) _ r q hn))
  | ⟨13, _⟩, hn => exact Or.inr (Or.inr (Or.inl (mem_slab (cur i) 13 _ ((by decide +kernel : ∀ i : grid0.Coords, k0_off29 i = ![(cur i).val, 0, 512 * (13 : Fin 16).val]) i) _ r q hn)))
  | ⟨12, _⟩, hn => exact Or.inr (Or.inr (Or.inr (Or.inl (mem_slab (cur i) 12 _ ((by decide +kernel : ∀ i : grid0.Coords, k0_off27 i = ![(cur i).val, 0, 512 * (12 : Fin 16).val]) i) _ r q hn))))
  | ⟨11, _⟩, hn => exact Or.inr (Or.inr (Or.inr (Or.inr (Or.inl (mem_slab (cur i) 11 _ ((by decide +kernel : ∀ i : grid0.Coords, k0_off25 i = ![(cur i).val, 0, 512 * (11 : Fin 16).val]) i) _ r q hn)))))
  | ⟨10, _⟩, hn => exact Or.inr (Or.inr (Or.inr (Or.inr (Or.inr (Or.inl (mem_slab (cur i) 10 _ ((by decide +kernel : ∀ i : grid0.Coords, k0_off23 i = ![(cur i).val, 0, 512 * (10 : Fin 16).val]) i) _ r q hn))))))
  | ⟨9, _⟩, hn => exact Or.inr (Or.inr (Or.inr (Or.inr (Or.inr (Or.inr (Or.inl (mem_slab (cur i) 9 _ ((by decide +kernel : ∀ i : grid0.Coords, k0_off21 i = ![(cur i).val, 0, 512 * (9 : Fin 16).val]) i) _ r q hn)))))))
  | ⟨8, _⟩, hn => exact Or.inr (Or.inr (Or.inr (Or.inr (Or.inr (Or.inr (Or.inr (Or.inl (mem_slab (cur i) 8 _ ((by decide +kernel : ∀ i : grid0.Coords, k0_off19 i = ![(cur i).val, 0, 512 * (8 : Fin 16).val]) i) _ r q hn))))))))
  | ⟨7, _⟩, hn => exact Or.inr (Or.inr (Or.inr (Or.inr (Or.inr (Or.inr (Or.inr (Or.inr (Or.inl (mem_slab (cur i) 7 _ ((by decide +kernel : ∀ i : grid0.Coords, k0_off17 i = ![(cur i).val, 0, 512 * (7 : Fin 16).val]) i) _ r q hn)))))))))
  | ⟨6, _⟩, hn => exact Or.inr (Or.inr (Or.inr (Or.inr (Or.inr (Or.inr (Or.inr (Or.inr (Or.inr (Or.inl (mem_slab (cur i) 6 _ ((by decide +kernel : ∀ i : grid0.Coords, k0_off15 i = ![(cur i).val, 0, 512 * (6 : Fin 16).val]) i) _ r q hn))))))))))
  | ⟨5, _⟩, hn => exact Or.inr (Or.inr (Or.inr (Or.inr (Or.inr (Or.inr (Or.inr (Or.inr (Or.inr (Or.inr (Or.inl (mem_slab (cur i) 5 _ ((by decide +kernel : ∀ i : grid0.Coords, k0_off13 i = ![(cur i).val, 0, 512 * (5 : Fin 16).val]) i) _ r q hn)))))))))))
  | ⟨4, _⟩, hn => exact Or.inr (Or.inr (Or.inr (Or.inr (Or.inr (Or.inr (Or.inr (Or.inr (Or.inr (Or.inr (Or.inr (Or.inl (mem_slab (cur i) 4 _ ((by decide +kernel : ∀ i : grid0.Coords, k0_off11 i = ![(cur i).val, 0, 512 * (4 : Fin 16).val]) i) _ r q hn))))))))))))
  | ⟨3, _⟩, hn => exact Or.inr (Or.inr (Or.inr (Or.inr (Or.inr (Or.inr (Or.inr (Or.inr (Or.inr (Or.inr (Or.inr (Or.inr (Or.inl (mem_slab (cur i) 3 _ ((by decide +kernel : ∀ i : grid0.Coords, k0_off9 i = ![(cur i).val, 0, 512 * (3 : Fin 16).val]) i) _ r q hn)))))))))))))
  | ⟨2, _⟩, hn => exact Or.inr (Or.inr (Or.inr (Or.inr (Or.inr (Or.inr (Or.inr (Or.inr (Or.inr (Or.inr (Or.inr (Or.inr (Or.inr (Or.inl (mem_slab (cur i) 2 _ ((by decide +kernel : ∀ i : grid0.Coords, k0_off7 i = ![(cur i).val, 0, 512 * (2 : Fin 16).val]) i) _ r q hn))))))))))))))
  | ⟨1, _⟩, hn => exact Or.inr (Or.inr (Or.inr (Or.inr (Or.inr (Or.inr (Or.inr (Or.inr (Or.inr (Or.inr (Or.inr (Or.inr (Or.inr (Or.inr (Or.inl (mem_slab (cur i) 1 _ ((by decide +kernel : ∀ i : grid0.Coords, k0_off5 i = ![(cur i).val, 0, 512 * (1 : Fin 16).val]) i) _ r q hn)))))))))))))))
  | ⟨0, _⟩, hn => exact Or.inr (Or.inr (Or.inr (Or.inr (Or.inr (Or.inr (Or.inr (Or.inr (Or.inr (Or.inr (Or.inr (Or.inr (Or.inr (Or.inr (Or.inr (Or.inl (mem_slab (cur i) 0 _ ((by decide +kernel : ∀ i : grid0.Coords, k0_off3 i = ![(cur i).val, 0, 512 * (0 : Fin 16).val]) i) _ r q hn))))))))))))))))
  | ⟨n + 16, h⟩, _ => exact absurd h (by omega)

/-- After the body the current slot holds the block's gradient, -/
theorem slot_B (hc0 : ¬cond0 i) (f : arg10.view.ty.Contents (Elt Ideal)) (r : Fin 256) (q : Fin 8192) :
    arg10.view.read (Elt Ideal) (arg10.view.writes (Elt Ideal) f (runB (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.2.2.1) (ix3 (cur i) r q) = da x0 x1 x2 x3 x4 x5 r q :=
  View.read_writes_apply_of_pieces _ _ (fun j : S2x256x8192.Idx => da x0 x1 x2 x3 x4 x5 (j 1) (j 2)) _
    (slab_B c i arg1 harg1 arg2 harg2 arg3 harg3 arg4 harg4 arg5 harg5 arg6 harg6 arg7 harg7 arg8 harg8 arg9 harg9 arg10 harg10 arg11 harg11 x0 x1 x2 x3 x4 x5 y0 y1 z0 z1 z2 hc0) (ix3 (cur i) r q)
    (slab_cover_B c i arg1 harg1 arg2 harg2 arg3 harg3 arg4 harg4 arg5 harg5 arg6 harg6 arg7 harg7 arg8 harg8 arg9 harg9 arg10 harg10 arg11 harg11 x0 x1 x2 x3 x4 x5 y0 y1 z0 z1 z2 hc0 r q)

/-- and the largest of a row's lanes there is the row's largest magnitude. -/
theorem max_B (hc0 : ¬cond0 i) (f : arg11.view.ty.Contents (Elt Ideal)) (r : Fin 256) :
    (Finset.univ.sup fun l : Fin 128 => (arg11.view.read (Elt Ideal) (arg11.view.writes (Elt Ideal) f (runB (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.2.2.2.1) (ix3 (cur i) r l) : EReal)) = rowMax (da x0 x1 x2 x3 x4 x5) r :=
  (Finset.sup_congr rfl fun l _ => lanes_B c i arg1 harg1 arg2 harg2 arg3 harg3 arg4 harg4 arg5 harg5 arg6 harg6 arg7 harg7 arg8 harg8 arg9 harg9 arg10 harg10 arg11 harg11 x0 x1 x2 x3 x4 x5 y0 y1 z0 z1 z2 hc0 f r l).trans (lanes_max x0 x1 x2 x3 x4 x5 r)

/-- Every index of the current slot is stored to. -/
theorem slab_cover_A (hc0 : cond0 i) (r : Fin 256) (q : Fin 8192) : ∃ p ∈ (runA (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.2.2.1, (ix3 (cur i) r q : S2x256x8192.Idx) ∈ p.1.set := by
  unfold runA
  dsimp only
  simp only [List.exists_mem_cons_iff]
  have hq := q.isLt
  obtain ⟨n, hn⟩ : ∃ n : Fin 16, q.val / 512 = n.val := ⟨⟨q.val / 512, by omega⟩, rfl⟩
  match n, hn with
  | ⟨15, _⟩, hn => exact Or.inl (mem_slab (cur i) 15 _ ((by decide +kernel : ∀ i : grid0.Coords, k0_off33 i = ![(cur i).val, 0, 512 * (15 : Fin 16).val]) i) _ r q hn)
  | ⟨14, _⟩, hn => exact Or.inr (Or.inl (mem_slab (cur i) 14 _ ((by decide +kernel : ∀ i : grid0.Coords, k0_off31 i = ![(cur i).val, 0, 512 * (14 : Fin 16).val]) i) _ r q hn))
  | ⟨13, _⟩, hn => exact Or.inr (Or.inr (Or.inl (mem_slab (cur i) 13 _ ((by decide +kernel : ∀ i : grid0.Coords, k0_off29 i = ![(cur i).val, 0, 512 * (13 : Fin 16).val]) i) _ r q hn)))
  | ⟨12, _⟩, hn => exact Or.inr (Or.inr (Or.inr (Or.inl (mem_slab (cur i) 12 _ ((by decide +kernel : ∀ i : grid0.Coords, k0_off27 i = ![(cur i).val, 0, 512 * (12 : Fin 16).val]) i) _ r q hn))))
  | ⟨11, _⟩, hn => exact Or.inr (Or.inr (Or.inr (Or.inr (Or.inl (mem_slab (cur i) 11 _ ((by decide +kernel : ∀ i : grid0.Coords, k0_off25 i = ![(cur i).val, 0, 512 * (11 : Fin 16).val]) i) _ r q hn)))))
  | ⟨10, _⟩, hn => exact Or.inr (Or.inr (Or.inr (Or.inr (Or.inr (Or.inl (mem_slab (cur i) 10 _ ((by decide +kernel : ∀ i : grid0.Coords, k0_off23 i = ![(cur i).val, 0, 512 * (10 : Fin 16).val]) i) _ r q hn))))))
  | ⟨9, _⟩, hn => exact Or.inr (Or.inr (Or.inr (Or.inr (Or.inr (Or.inr (Or.inl (mem_slab (cur i) 9 _ ((by decide +kernel : ∀ i : grid0.Coords, k0_off21 i = ![(cur i).val, 0, 512 * (9 : Fin 16).val]) i) _ r q hn)))))))
  | ⟨8, _⟩, hn => exact Or.inr (Or.inr (Or.inr (Or.inr (Or.inr (Or.inr (Or.inr (Or.inl (mem_slab (cur i) 8 _ ((by decide +kernel : ∀ i : grid0.Coords, k0_off19 i = ![(cur i).val, 0, 512 * (8 : Fin 16).val]) i) _ r q hn))))))))
  | ⟨7, _⟩, hn => exact Or.inr (Or.inr (Or.inr (Or.inr (Or.inr (Or.inr (Or.inr (Or.inr (Or.inl (mem_slab (cur i) 7 _ ((by decide +kernel : ∀ i : grid0.Coords, k0_off17 i = ![(cur i).val, 0, 512 * (7 : Fin 16).val]) i) _ r q hn)))))))))
  | ⟨6, _⟩, hn => exact Or.inr (Or.inr (Or.inr (Or.inr (Or.inr (Or.inr (Or.inr (Or.inr (Or.inr (Or.inl (mem_slab (cur i) 6 _ ((by decide +kernel : ∀ i : grid0.Coords, k0_off15 i = ![(cur i).val, 0, 512 * (6 : Fin 16).val]) i) _ r q hn))))))))))
  | ⟨5, _⟩, hn => exact Or.inr (Or.inr (Or.inr (Or.inr (Or.inr (Or.inr (Or.inr (Or.inr (Or.inr (Or.inr (Or.inl (mem_slab (cur i) 5 _ ((by decide +kernel : ∀ i : grid0.Coords, k0_off13 i = ![(cur i).val, 0, 512 * (5 : Fin 16).val]) i) _ r q hn)))))))))))
  | ⟨4, _⟩, hn => exact Or.inr (Or.inr (Or.inr (Or.inr (Or.inr (Or.inr (Or.inr (Or.inr (Or.inr (Or.inr (Or.inr (Or.inl (mem_slab (cur i) 4 _ ((by decide +kernel : ∀ i : grid0.Coords, k0_off11 i = ![(cur i).val, 0, 512 * (4 : Fin 16).val]) i) _ r q hn))))))))))))
  | ⟨3, _⟩, hn => exact Or.inr (Or.inr (Or.inr (Or.inr (Or.inr (Or.inr (Or.inr (Or.inr (Or.inr (Or.inr (Or.inr (Or.inr (Or.inl (mem_slab (cur i) 3 _ ((by decide +kernel : ∀ i : grid0.Coords, k0_off9 i = ![(cur i).val, 0, 512 * (3 : Fin 16).val]) i) _ r q hn)))))))))))))
  | ⟨2, _⟩, hn => exact Or.inr (Or.inr (Or.inr (Or.inr (Or.inr (Or.inr (Or.inr (Or.inr (Or.inr (Or.inr (Or.inr (Or.inr (Or.inr (Or.inl (mem_slab (cur i) 2 _ ((by decide +kernel : ∀ i : grid0.Coords, k0_off7 i = ![(cur i).val, 0, 512 * (2 : Fin 16).val]) i) _ r q hn))))))))))))))
  | ⟨1, _⟩, hn => exact Or.inr (Or.inr (Or.inr (Or.inr (Or.inr (Or.inr (Or.inr (Or.inr (Or.inr (Or.inr (Or.inr (Or.inr (Or.inr (Or.inr (Or.inl (mem_slab (cur i) 1 _ ((by decide +kernel : ∀ i : grid0.Coords, k0_off5 i = ![(cur i).val, 0, 512 * (1 : Fin 16).val]) i) _ r q hn)))))))))))))))
  | ⟨0, _⟩, hn => exact Or.inr (Or.inr (Or.inr (Or.inr (Or.inr (Or.inr (Or.inr (Or.inr (Or.inr (Or.inr (Or.inr (Or.inr (Or.inr (Or.inr (Or.inr (Or.inl (mem_slab (cur i) 0 _ ((by decide +kernel : ∀ i : grid0.Coords, k0_off3 i = ![(cur i).val, 0, 512 * (0 : Fin 16).val]) i) _ r q hn))))))))))))))))
  | ⟨n + 16, h⟩, _ => exact absurd h (by omega)

/-- After the body the current slot holds the block's gradient, -/
theorem slot_A (hc0 : cond0 i) (f : arg10.view.ty.Contents (Elt Ideal)) (r : Fin 256) (q : Fin 8192) :
    arg10.view.read (Elt Ideal) (arg10.view.writes (Elt Ideal) f (runA (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.2.2.1) (ix3 (cur i) r q) = da x0 x1 x2 x3 x4 x5 r q :=
  View.read_writes_apply_of_pieces _ _ (fun j : S2x256x8192.Idx => da x0 x1 x2 x3 x4 x5 (j 1) (j 2)) _
    (slab_A c i arg1 harg1 arg2 harg2 arg3 harg3 arg4 harg4 arg5 harg5 arg6 harg6 arg7 harg7 arg8 harg8 arg9 harg9 arg10 harg10 arg11 harg11 x0 x1 x2 x3 x4 x5 y0 y1 z0 z1 z2 hc0) (ix3 (cur i) r q)
    (slab_cover_A c i arg1 harg1 arg2 harg2 arg3 harg3 arg4 harg4 arg5 harg5 arg6 harg6 arg7 harg7 arg8 harg8 arg9 harg9 arg10 harg10 arg11 harg11 x0 x1 x2 x3 x4 x5 y0 y1 z0 z1 z2 hc0 r q)

/-- and the largest of a row's lanes there is the row's largest magnitude. -/
theorem max_A (hc0 : cond0 i) (f : arg11.view.ty.Contents (Elt Ideal)) (r : Fin 256) :
    (Finset.univ.sup fun l : Fin 128 => (arg11.view.read (Elt Ideal) (arg11.view.writes (Elt Ideal) f (runA (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.2.2.2.1) (ix3 (cur i) r l) : EReal)) = rowMax (da x0 x1 x2 x3 x4 x5) r :=
  (Finset.sup_congr rfl fun l _ => lanes_A c i arg1 harg1 arg2 harg2 arg3 harg3 arg4 harg4 arg5 harg5 arg6 harg6 arg7 harg7 arg8 harg8 arg9 harg9 arg10 harg10 arg11 harg11 x0 x1 x2 x3 x4 x5 y0 y1 z0 z1 z2 hc0 f r l).trans (lanes_max x0 x1 x2 x3 x4 x5 r)

/-- Every index of the codes is stored to. -/
theorem code_cover_B (hc0 : ¬cond0 i) (r : Fin 256) (q : Fin 8192) : ∃ p ∈ (runB (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).1, (ix2 r q : S256x8192.Idx) ∈ p.1.set := by
  unfold runB
  dsimp only
  simp only [List.exists_mem_cons_iff]
  have hq := q.isLt
  obtain ⟨n, hn⟩ : ∃ n : Fin 16, q.val / 512 = n.val := ⟨⟨q.val / 512, by omega⟩, rfl⟩
  match n, hn with
  | ⟨15, _⟩, hn => exact Or.inl (mem_codes 15 _ rfl _ r q hn)
  | ⟨14, _⟩, hn => exact Or.inr (Or.inl (mem_codes 14 _ rfl _ r q hn))
  | ⟨13, _⟩, hn => exact Or.inr (Or.inr (Or.inl (mem_codes 13 _ rfl _ r q hn)))
  | ⟨12, _⟩, hn => exact Or.inr (Or.inr (Or.inr (Or.inl (mem_codes 12 _ rfl _ r q hn))))
  | ⟨11, _⟩, hn => exact Or.inr (Or.inr (Or.inr (Or.inr (Or.inl (mem_codes 11 _ rfl _ r q hn)))))
  | ⟨10, _⟩, hn => exact Or.inr (Or.inr (Or.inr (Or.inr (Or.inr (Or.inl (mem_codes 10 _ rfl _ r q hn))))))
  | ⟨9, _⟩, hn => exact Or.inr (Or.inr (Or.inr (Or.inr (Or.inr (Or.inr (Or.inl (mem_codes 9 _ rfl _ r q hn)))))))
  | ⟨8, _⟩, hn => exact Or.inr (Or.inr (Or.inr (Or.inr (Or.inr (Or.inr (Or.inr (Or.inl (mem_codes 8 _ rfl _ r q hn))))))))
  | ⟨7, _⟩, hn => exact Or.inr (Or.inr (Or.inr (Or.inr (Or.inr (Or.inr (Or.inr (Or.inr (Or.inl (mem_codes 7 _ rfl _ r q hn)))))))))
  | ⟨6, _⟩, hn => exact Or.inr (Or.inr (Or.inr (Or.inr (Or.inr (Or.inr (Or.inr (Or.inr (Or.inr (Or.inl (mem_codes 6 _ rfl _ r q hn))))))))))
  | ⟨5, _⟩, hn => exact Or.inr (Or.inr (Or.inr (Or.inr (Or.inr (Or.inr (Or.inr (Or.inr (Or.inr (Or.inr (Or.inl (mem_codes 5 _ rfl _ r q hn)))))))))))
  | ⟨4, _⟩, hn => exact Or.inr (Or.inr (Or.inr (Or.inr (Or.inr (Or.inr (Or.inr (Or.inr (Or.inr (Or.inr (Or.inr (Or.inl (mem_codes 4 _ rfl _ r q hn))))))))))))
  | ⟨3, _⟩, hn => exact Or.inr (Or.inr (Or.inr (Or.inr (Or.inr (Or.inr (Or.inr (Or.inr (Or.inr (Or.inr (Or.inr (Or.inr (Or.inl (mem_codes 3 _ rfl _ r q hn)))))))))))))
  | ⟨2, _⟩, hn => exact Or.inr (Or.inr (Or.inr (Or.inr (Or.inr (Or.inr (Or.inr (Or.inr (Or.inr (Or.inr (Or.inr (Or.inr (Or.inr (Or.inl (mem_codes 2 _ rfl _ r q hn))))))))))))))
  | ⟨1, _⟩, hn => exact Or.inr (Or.inr (Or.inr (Or.inr (Or.inr (Or.inr (Or.inr (Or.inr (Or.inr (Or.inr (Or.inr (Or.inr (Or.inr (Or.inr (Or.inl (mem_codes 1 _ rfl _ r q hn)))))))))))))))
  | ⟨0, _⟩, hn => exact Or.inr (Or.inr (Or.inr (Or.inr (Or.inr (Or.inr (Or.inr (Or.inr (Or.inr (Or.inr (Or.inr (Or.inr (Or.inr (Or.inr (Or.inr (Or.inl (mem_codes 0 _ rfl _ r q hn))))))))))))))))
  | ⟨n + 16, h⟩, _ => exact absurd h (by omega)

/-- The output window holds the codes of the other slot's gradient. -/
theorem code_B (hc0 : ¬cond0 i) (m : Fin 256 → EReal) (hm : ∀ r, (Finset.univ.sup fun l : Fin 128 => (z2 (ix3 (prev i) r l) : EReal)) = m r)
    (f : arg7.view.ty.Contents (Elt Ideal)) (r : Fin 256) (q : Fin 8192) :
    arg7.view.read (Elt Ideal) (arg7.view.writes (Elt Ideal) f (runB (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).1) (ix2 r q) = quant (m r) (z1 (ix3 (prev i) r q)) :=
  ((View.read_writes_apply_of_pieces arg7.view f (fun j : S256x8192.Idx => (quant (m (j 0)) (z1 (ix3 (prev i) (j 0) (j 1))) : Elt Ideal .fp8e5m2)) _
    (codes_B c i arg1 harg1 arg2 harg2 arg3 harg3 arg4 harg4 arg5 harg5 arg6 harg6 arg7 harg7 arg8 harg8 arg9 harg9 arg10 harg10 arg11 harg11 x0 x1 x2 x3 x4 x5 y0 y1 z0 z1 z2 hc0 m hm) (ix2 r q)
    (code_cover_B c i arg1 harg1 arg2 harg2 arg3 harg3 arg4 harg4 arg5 harg5 arg6 harg6 arg7 harg7 arg8 harg8 arg9 harg9 arg10 harg10 arg11 harg11 x0 x1 x2 x3 x4 x5 y0 y1 z0 z1 z2 hc0 r q)) : _)

end Point

end Cert.DaIdeal.Body

end
-- ==== Proof.DaIdealKit.lean ====
/- The `da` call around its kernel: the program up to the call, the blocks its windows hold, and the frame read off a run. -/
module

public import proofs.«01_k».proof.Proof.DaIdealRun
public import Idealize.ShloMosaic.Lib.Pipeline.FrameBody
public import Idealize.ShloMosaic.Lib.Pipeline.ArrRel
public import Idealize.ShloMosaic.Lib.Pipeline.DatRel
public import Idealize.ShloMosaic.Lib.Pipeline.Frame
public import Idealize.ShloMosaic.Lib.Claim

@[expose] public section

set_option maxRecDepth 16384

noncomputable section

namespace Cert.DaIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers of core `c` when the call is reached. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The arguments after a run are as they were. -/
theorem kept (rdat : (c : Dev nD) → RDat τ (Elt F) Unit ℕ (UR sig nD τ) ℕ cfg0 c) (hA : ∀ c w, (rdat c).A w = V m c (Pipeline.arrRef spec0 w))
    (r : PUnit × MemSt nD τ sig (Elt F)) (h : Pipeline.RDat.FramePost cfg0 rdat (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (h.arr_in c 4 rfl).trans ((hA c 4).trans (V_main_arg4 m c)),
    ((h c).2 main_arg5 (Pipeline.mem_restRefs_of main_arg5 (by decide) (by decide))).trans (V_main_arg5 m c)⟩

/-- The condition holds at the first point only. -/
theorem hcond0 : ∀ t : Fin cfg0.N, cond0 (grid0.coords t) ↔ t.val = 0 :=
  (by decide +kernel : ∀ t : Fin grid0.N, cond0 (grid0.coords t) ↔ t.val = 0)

abbrev ms0_0 (t : Fin cfg0.N) : Memref sig .tc .vmem S256x3072 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x8192 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8192x3072 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3072 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x8192 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1 .f32 := win0_7.stage (cfg0.slots t 7)
abbrev hs0_7 (t : Fin cfg0.N) : (ms0_7 t).IsWhole := hstage0_7 ((cfg0.slots t 7).cast nbuf0_7)
abbrev sc0 : Memref sig .tc .vmem S256x3072 .bf16 := Memref.whole cc0_scratch0
abbrev sc1 : Memref sig .tc .vmem S2x256x8192 .f32 := Memref.whole cc0_scratch1
abbrev sc2 : Memref sig .tc .vmem S2x256x128 .f32 := Memref.whole cc0_scratch2

/-- The kernel's own buffers at some contents each, and the generator's register at some state. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

end Cert.DaIdeal.Gen

end
-- ==== Proof.DaIdealRel.lean ====
/- The run of the idealized `da` call, with what its two outputs are. The kernel's grid has one point more than there are row blocks: each
   point computes one block's gradient into one slot of the scratch buffers and writes out the codes of the block before, from the other slot.
   So what the body leaves in the output windows is stated by a predicate, which says nothing at the first point. -/
module

public import proofs.«01_k».proof.Proof.DaSlots
public import proofs.«01_k».proof.Proof.DaIdealKit

@[expose] public section

set_option maxRecDepth 16384

noncomputable section

namespace Cert.DaIdeal.Gen

open Cert.DaIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose BodyObligationRel cellOf)

local notation "𝕄" => MT nD τ sig Unit (Elt Ideal) ℕ (UR sig nD τ) ℕ

/-- A buffer's cells at some contents are the buffer holding what is read there. -/
theorem owns_of (c : Dev nD) {sp : Space} {s : Shape} {e : EltTy} (a : Memref sig .tc sp s e) (f : a.view.ty.Contents (Elt Ideal)) :
    (a.view.loc (c : Thread nD τ) ↦[a.view.set]{fullShare} f : sProp 𝕄) ⊢ owns (c : Thread nD τ) a fullShare (a.view.read (Elt Ideal) f) := by
  unfold owns
  iintro H
  iexists f
  isplitr
  · ipureintro; rfl
  iexact H

set_option maxHeartbeats 1000000 in
/-- The body at one point, what it leaves stated. -/
theorem stepA (c : Dev nD) (i : grid0.Coords) (arg1 : Memref sig .tc .vmem S256x3072 .fp8e5m2) (harg1 : arg1.IsWhole) (arg2 : Memref sig .tc .vmem S256x1 .f32) (harg2 : arg2.IsWhole) (arg3 : Memref sig .tc .vmem S256x8192 .fp8e4m3) (harg3 : arg3.IsWhole) (arg4 : Memref sig .tc .vmem S256x1 .f32) (harg4 : arg4.IsWhole) (arg5 : Memref sig .tc .vmem S8192x3072 .fp8e4m3) (harg5 : arg5.IsWhole) (arg6 : Memref sig .tc .vmem S1x3072 .bf16) (harg6 : arg6.IsWhole) (arg7 : Memref sig .tc .vmem S256x8192 .fp8e5m2) (harg7 : arg7.IsWhole) (arg8 : Memref sig .tc .vmem S256x1 .f32) (harg8 : arg8.IsWhole) (arg9 : Memref sig .tc .vmem S256x3072 .bf16) (harg9 : arg9.IsWhole) (arg10 : Memref sig .tc .vmem S2x256x8192 .f32) (harg10 : arg10.IsWhole) (arg11 : Memref sig .tc .vmem S2x256x128 .f32) (harg11 : arg11.IsWhole) (hc0 : cond0 i)
    (x0 : Vec Ideal S256x3072 .fp8e5m2) (x1 : Vec Ideal S256x1 .f32) (x2 : Vec Ideal S256x8192 .fp8e4m3) (x3 : Vec Ideal S256x1 .f32) (x4 : Vec Ideal S8192x3072 .fp8e4m3) (x5 : Vec Ideal S1x3072 .bf16) (y0 : Vec Ideal S256x8192 .fp8e5m2) (y1 : Vec Ideal S256x1 .f32) (z0 : Vec Ideal S256x3072 .bf16) (z1 : Vec Ideal S2x256x8192 .f32) (z2 : Vec Ideal S2x256x128 .f32)
      (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y0 ∗ owns (c : Thread nD τ) arg8 fullShare y1 ∗ owns (c : Thread nD τ) arg9 fullShare z0 ∗ owns (c : Thread nD τ) arg10 fullShare z1 ∗ owns (c : Thread nD τ) arg11 fullShare z2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ X, owns (c : Thread nD τ) arg7 fullShare X) ∗ (∃ X, owns (c : Thread nD τ) arg8 fullShare X) ∗ (∃ X, owns (c : Thread nD τ) arg9 fullShare X) ∗ (∃ X : Vec Ideal S2x256x8192 .f32, ⌜∀ (r : Fin 256) (q : Fin 8192), (X (ix3 (cur i) r q) : EReal) = da x0 x1 x2 x3 x4 x5 r q⌝ ∗ owns (c : Thread nD τ) arg10 fullShare X) ∗ (∃ X : Vec Ideal S2x256x128 .f32, ⌜∀ r : Fin 256, (Finset.univ.sup fun l : Fin 128 => (X (ix3 (cur i) r l) : EReal)) = rowMax (da x0 x1 x2 x3 x4 x5) r⌝ ∗ owns (c : Thread nD τ) arg11 fullShare X)) -∗ K ⟨⟩))
          ⊢ wp frame (wpE (defs₀ (F := Ideal)) Variants.none c none) E (cc0_da i arg1 harg1 arg2 harg2 arg3 harg3 arg4 harg4 arg5 harg5 arg6 harg6 arg7 harg7 arg8 harg8 arg9 harg9 arg10 harg10 arg11 harg11) K := by
  iintro ⟨H1, H2, H3, H4, H5, H6, H7, H8, H9, H10, H11, Hk⟩
  iapply ((runA (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, ⟨%f7, H7⟩, ⟨%f8, H8⟩, ⟨%f9, H9⟩, ⟨%f10, H10⟩, ⟨%f11, H11⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists (arg7.view.read (Elt Ideal) (arg7.view.writes (Elt Ideal) f7 (runA (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).1))
    iapply (owns_of c arg7 _); iexact H7
  isplitl [H8]
  · iexists (arg8.view.read (Elt Ideal) (arg8.view.writes (Elt Ideal) f8 (runA (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.1))
    iapply (owns_of c arg8 _); iexact H8
  isplitl [H9]
  · iexists (arg9.view.read (Elt Ideal) (arg9.view.writes (Elt Ideal) f9 (runA (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.2.1))
    iapply (owns_of c arg9 _); iexact H9
  isplitl [H10]
  · iexists (arg10.view.read (Elt Ideal) (arg10.view.writes (Elt Ideal) f10 (runA (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.2.2.1))
    isplitr
    · ipureintro; exact fun r q => slot_A c i arg1 harg1 arg2 harg2 arg3 harg3 arg4 harg4 arg5 harg5 arg6 harg6 arg7 harg7 arg8 harg8 arg9 harg9 arg10 harg10 arg11 harg11 x0 x1 x2 x3 x4 x5 y0 y1 z0 z1 z2 hc0 f10 r q
    iapply (owns_of c arg10 _); iexact H10
  iexists (arg11.view.read (Elt Ideal) (arg11.view.writes (Elt Ideal) f11 (runA (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.2.2.2.1))
  isplitr
  · ipureintro; exact fun r => max_A c i arg1 harg1 arg2 harg2 arg3 harg3 arg4 harg4 arg5 harg5 arg6 harg6 arg7 harg7 arg8 harg8 arg9 harg9 arg10 harg10 arg11 harg11 x0 x1 x2 x3 x4 x5 y0 y1 z0 z1 z2 hc0 f11 r
  iapply (owns_of c arg11 _); iexact H11

set_option maxHeartbeats 1000000 in
/-- The body at one point, what it leaves stated. -/
theorem stepB (c : Dev nD) (i : grid0.Coords) (arg1 : Memref sig .tc .vmem S256x3072 .fp8e5m2) (harg1 : arg1.IsWhole) (arg2 : Memref sig .tc .vmem S256x1 .f32) (harg2 : arg2.IsWhole) (arg3 : Memref sig .tc .vmem S256x8192 .fp8e4m3) (harg3 : arg3.IsWhole) (arg4 : Memref sig .tc .vmem S256x1 .f32) (harg4 : arg4.IsWhole) (arg5 : Memref sig .tc .vmem S8192x3072 .fp8e4m3) (harg5 : arg5.IsWhole) (arg6 : Memref sig .tc .vmem S1x3072 .bf16) (harg6 : arg6.IsWhole) (arg7 : Memref sig .tc .vmem S256x8192 .fp8e5m2) (harg7 : arg7.IsWhole) (arg8 : Memref sig .tc .vmem S256x1 .f32) (harg8 : arg8.IsWhole) (arg9 : Memref sig .tc .vmem S256x3072 .bf16) (harg9 : arg9.IsWhole) (arg10 : Memref sig .tc .vmem S2x256x8192 .f32) (harg10 : arg10.IsWhole) (arg11 : Memref sig .tc .vmem S2x256x128 .f32) (harg11 : arg11.IsWhole) (hc0 : ¬cond0 i)
    (x0 : Vec Ideal S256x3072 .fp8e5m2) (x1 : Vec Ideal S256x1 .f32) (x2 : Vec Ideal S256x8192 .fp8e4m3) (x3 : Vec Ideal S256x1 .f32) (x4 : Vec Ideal S8192x3072 .fp8e4m3) (x5 : Vec Ideal S1x3072 .bf16) (y0 : Vec Ideal S256x8192 .fp8e5m2) (y1 : Vec Ideal S256x1 .f32) (z0 : Vec Ideal S256x3072 .bf16) (z1 : Vec Ideal S2x256x8192 .f32) (z2 : Vec Ideal S2x256x128 .f32)
      (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare y0 ∗ owns (c : Thread nD τ) arg8 fullShare y1 ∗ owns (c : Thread nD τ) arg9 fullShare z0 ∗ owns (c : Thread nD τ) arg10 fullShare z1 ∗ owns (c : Thread nD τ) arg11 fullShare z2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ X : Vec Ideal S256x8192 .fp8e5m2, ⌜∀ m : Fin 256 → EReal, (∀ r, (Finset.univ.sup fun l : Fin 128 => (z2 (ix3 (prev i) r l) : EReal)) = m r) → ∀ (r : Fin 256) (q : Fin 8192), (X (ix2 r q) : EReal) = quant (m r) (z1 (ix3 (prev i) r q))⌝ ∗ owns (c : Thread nD τ) arg7 fullShare X) ∗ (∃ X : Vec Ideal S256x1 .f32, ⌜∀ m : Fin 256 → EReal, (∀ r, (Finset.univ.sup fun l : Fin 128 => (z2 (ix3 (prev i) r l) : EReal)) = m r) → ∀ r : Fin 256, (X (ix2 r 0) : EReal) = (FloatOps.exp2 (F := Ideal) (φ := .f32) (expo (m r)) : EReal)⌝ ∗ owns (c : Thread nD τ) arg8 fullShare X) ∗ (∃ X, owns (c : Thread nD τ) arg9 fullShare X) ∗ (∃ X : Vec Ideal S2x256x8192 .f32, ⌜∀ (r : Fin 256) (q : Fin 8192), (X (ix3 (cur i) r q) : EReal) = da x0 x1 x2 x3 x4 x5 r q⌝ ∗ owns (c : Thread nD τ) arg10 fullShare X) ∗ (∃ X : Vec Ideal S2x256x128 .f32, ⌜∀ r : Fin 256, (Finset.univ.sup fun l : Fin 128 => (X (ix3 (cur i) r l) : EReal)) = rowMax (da x0 x1 x2 x3 x4 x5) r⌝ ∗ owns (c : Thread nD τ) arg11 fullShare X)) -∗ K ⟨⟩))
          ⊢ wp frame (wpE (defs₀ (F := Ideal)) Variants.none c none) E (cc0_da i arg1 harg1 arg2 harg2 arg3 harg3 arg4 harg4 arg5 harg5 arg6 harg6 arg7 harg7 arg8 harg8 arg9 harg9 arg10 harg10 arg11 harg11) K := by
  iintro ⟨H1, H2, H3, H4, H5, H6, H7, H8, H9, H10, H11, Hk⟩
  iapply ((runB (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H1, H2, H3, H4, H5, H6, ⟨%f7, H7⟩, ⟨%f8, H8⟩, ⟨%f9, H9⟩, ⟨%f10, H10⟩, ⟨%f11, H11⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists (arg7.view.read (Elt Ideal) (arg7.view.writes (Elt Ideal) f7 (runB (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).1))
    isplitr
    · ipureintro; exact fun m hm r q => code_B c i arg1 harg1 arg2 harg2 arg3 harg3 arg4 harg4 arg5 harg5 arg6 harg6 arg7 harg7 arg8 harg8 arg9 harg9 arg10 harg10 arg11 harg11 x0 x1 x2 x3 x4 x5 y0 y1 z0 z1 z2 hc0 m hm f7 r q
    iapply (owns_of c arg7 _); iexact H7
  isplitl [H8]
  · iexists (arg8.view.read (Elt Ideal) (arg8.view.writes (Elt Ideal) f8 (runB (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.1))
    isplitr
    · ipureintro; exact fun m hm r => scales_B c i arg1 harg1 arg2 harg2 arg3 harg3 arg4 harg4 arg5 harg5 arg6 harg6 arg7 harg7 arg8 harg8 arg9 harg9 arg10 harg10 arg11 harg11 x0 x1 x2 x3 x4 x5 y0 y1 z0 z1 z2 hc0 m hm f8 r
    iapply (owns_of c arg8 _); iexact H8
  isplitl [H9]
  · iexists (arg9.view.read (Elt Ideal) (arg9.view.writes (Elt Ideal) f9 (runB (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.2.1))
    iapply (owns_of c arg9 _); iexact H9
  isplitl [H10]
  · iexists (arg10.view.read (Elt Ideal) (arg10.view.writes (Elt Ideal) f10 (runB (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.2.2.1))
    isplitr
    · ipureintro; exact fun r q => slot_B c i arg1 harg1 arg2 harg2 arg3 harg3 arg4 harg4 arg5 harg5 arg6 harg6 arg7 harg7 arg8 harg8 arg9 harg9 arg10 harg10 arg11 harg11 x0 x1 x2 x3 x4 x5 y0 y1 z0 z1 z2 hc0 f10 r q
    iapply (owns_of c arg10 _); iexact H10
  iexists (arg11.view.read (Elt Ideal) (arg11.view.writes (Elt Ideal) f11 (runB (F := Ideal) c i arg1 harg1 arg2 harg2 arg3 harg3 arg4 harg4 arg5 harg5 arg6 harg6 arg7 harg7 arg8 harg8 arg9 harg9 arg10 harg10 arg11 harg11 hc0 x0 x1 x2 x3 x4 x5 y0 y1 z0 z1 z2).2.2.2.2.1))
  isplitr
  · ipureintro; exact fun r => max_B c i arg1 harg1 arg2 harg2 arg3 harg3 arg4 harg4 arg5 harg5 arg6 harg6 arg7 harg7 arg8 harg8 arg9 harg9 arg10 harg10 arg11 harg11 x0 x1 x2 x3 x4 x5 y0 y1 z0 z1 z2 hc0 f11 r
  iapply (owns_of c arg11 _); iexact H11

variable (m : (ℓ : Loc nD τ sig) → Buf (Elt Ideal) ℓ) (ρ : Dev nD → PrngReg)

/-- The gradient of the block of point `t`, -/
def grad (c : Dev nD) (t : Fin cfg0.N) : Fin 256 → Fin 8192 → EReal := da (iblk m c 0 t) (iblk m c 1 t) (iblk m c 2 t) (iblk m c 3 t) (iblk m c 4 t) (iblk m c 5 t)

/-- its codes, -/
def gcode (c : Dev nD) (t : Fin cfg0.N) (r : Fin 256) (q : Fin 8192) : EReal := quant (rowMax (grad m c t) r) (grad m c t r q)

/-- and its scales. -/
def gscale (c : Dev nD) (t : Fin cfg0.N) (r : Fin 256) : EReal := (FloatOps.exp2 (F := Ideal) (φ := .f32) (expo (rowMax (grad m c t) r)) : EReal)

/-- The scratch buffers before point `n`: the slot that the point before it filled holds that point's gradient and its rows' maxima. -/
def Held (c : Dev nD) (n : ℕ) (z1 : Vec Ideal S2x256x8192 .f32) (z2 : Vec Ideal S2x256x128 .f32) : Prop :=
  ∀ u : Fin cfg0.N, u.val + 1 = n →
    (∀ r q, (z1 (ix3 (cur (grid0.coords u)) r q) : EReal) = grad m c u r q)
      ∧ ∀ r, (Finset.univ.sup fun l : Fin 128 => (z2 (ix3 (cur (grid0.coords u)) r l) : EReal)) = rowMax (grad m c u) r

/-- The kernel's own buffers between two points. -/
def Phi (c : Dev nD) (n : ℕ) : sProp 𝕄 :=
  iprop(iprop((∃ d, owns (c : Thread nD τ) sc0 fullShare d)
    ∗ (∃ z1, ∃ z2, ⌜Held m c n z1 z2⌝ ∗ owns (c : Thread nD τ) sc1 fullShare z1 ∗ owns (c : Thread nD τ) sc2 fullShare z2)) ∗ (∃ r, prngReg c r))

/-- What the body leaves in the output windows: from the second point on, the codes and the scales of the block before. -/
def Rl (c : Dev nD) (w : Fin cfg0.W) (t : Fin cfg0.N) (X : (cfg0.win w).block.Idx → Elt Ideal (cfg0.win w).elt) : Prop := match w, X with
  | ⟨0, _⟩, _ => True
  | ⟨1, _⟩, _ => True
  | ⟨2, _⟩, _ => True
  | ⟨3, _⟩, _ => True
  | ⟨4, _⟩, _ => True
  | ⟨5, _⟩, _ => True
  | ⟨6, _⟩, X => ∀ u : Fin cfg0.N, u.val + 1 = t.val → ∀ (r : Fin 256) (q : Fin 8192), (show Vec Ideal S256x8192 .fp8e5m2 from X) (ix2 r q) = gcode m c u r q
  | ⟨7, _⟩, X => ∀ u : Fin cfg0.N, u.val + 1 = t.val → ∀ r : Fin 256, (show Vec Ideal S256x1 .f32 from X) (ix2 r 0) = gscale m c u r

/-- The proof data: each input's buffer at its block after every point; the outputs are held to the predicate above. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ n := Phi m c n.val
  q _ := fullShare
  owed _ := 0

/-- The windows held to the predicate. -/
def fgt (w : Fin cfg0.W) : Bool := match w with
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem prev_eq : ∀ (u t : Fin cfg0.N), u.val + 1 = t.val → prev (grid0.coords t) = cur (grid0.coords u) := fun u t h =>
  Fin.ext (by
    have hc : ∀ t : Fin grid0.N, ((grid0.coords t) 0).val = t.val := by decide +kernel
    show (((grid0.coords t) 0).val + 1) % 2 = ((grid0.coords u) 0).val % 2
    rw [hc, hc]; omega)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ X, ⌜((dats m 0 c).toRRel fgt (Rl m c)).Finds 6 t X⌝ ∗ owns (c : Thread nD τ) (ms0_6 t) fullShare X)
    ∗ (∃ X, ⌜((dats m 0 c).toRRel fgt (Rl m c)).Finds 7 t X⌝ ∗ owns (c : Thread nD τ) (ms0_7 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜Rl m c 6 t X⌝ ∗ owns (c : Thread nD τ) (ms0_6 t) fullShare X)
    ∗ (∃ X, ⌜Rl m c 7 t X⌝ ∗ owns (c : Thread nD τ) (ms0_7 t) fullShare X))

/-- The scratch buffers after point `t`. -/
theorem held_of (c : Dev nD) (t : Fin cfg0.N) (z1 : Vec Ideal S2x256x8192 .f32) (z2 : Vec Ideal S2x256x128 .f32)
    (h1 : ∀ (r : Fin 256) (q : Fin 8192), (z1 (ix3 (cur (grid0.coords t)) r q) : EReal) = grad m c t r q)
    (h2 : ∀ r : Fin 256, (Finset.univ.sup fun l : Fin 128 => (z2 (ix3 (cur (grid0.coords t)) r l) : EReal)) = rowMax (grad m c t) r) :
    Held m c (t.val + 1) z1 z2 := fun u hu => by
  obtain rfl : u = t := Fin.ext (Nat.succ_injective hu)
  exact ⟨h1, h2⟩

set_option maxHeartbeats 1000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = Phi m c (t.val + 1) from rfl, show (dats m 0 c).Φ t.castSucc = Phi m c t.val from rfl,
    show (dats m 0 c).owesAt () t.succ = (dats m 0 c).owesAt () t.castSucc from rfl,
    after0_0, after0_1, after0_2, after0_3, after0_4, after0_5]
  unfold Phi
  by_cases h0 : t.val = 0
  · iintro ⟨⟨⟨⟨%e0, S0⟩, ⟨%e1, %e2, %He, S1, S2⟩⟩, Hg⟩, Ho, ⟨%d0, H0⟩, ⟨%d1, H1⟩, ⟨%d2, H2⟩, ⟨%d3, H3⟩, ⟨%d4, H4⟩, ⟨%d5, H5⟩, ⟨%d6, %hd6, H6⟩, ⟨%d7, %hd7, H7⟩⟩
    iapply (stepA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0 (Memref.isWhole_whole _) sc1 (Memref.isWhole_whole _) sc2 (Memref.isWhole_whole _) ((hcond0 t).mpr h0) (iblk m c 0 t) (iblk m c 1 t) (iblk m c 2 t) (iblk m c 3 t) (iblk m c 4 t) (iblk m c 5 t) d6 d7 e0 e1 e2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    iintro ⟨H0, H1, H2, H3, H4, H5, ⟨%X6, H6⟩, ⟨%X7, H7⟩, S0, ⟨%z1, %hz1, S1⟩, ⟨%z2, %hz2, S2⟩⟩
    isplitl [S0 S1 S2 Hg]
    · isplitl [S0 S1 S2]
      · isplitl [S0]; · iexact S0
        iexists z1; iexists z2
        isplitr
        · ipureintro; exact held_of m c t z1 z2 hz1 hz2
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists X6
      isplitr
      · ipureintro; exact fun u hu => absurd (hu.trans h0) (Nat.succ_ne_zero _)
      iexact H6
    iexists X7
    isplitr
    · ipureintro; exact fun u hu => absurd (hu.trans h0) (Nat.succ_ne_zero _)
    iexact H7
  · iintro ⟨⟨⟨⟨%e0, S0⟩, ⟨%e1, %e2, %He, S1, S2⟩⟩, Hg⟩, Ho, ⟨%d0, H0⟩, ⟨%d1, H1⟩, ⟨%d2, H2⟩, ⟨%d3, H3⟩, ⟨%d4, H4⟩, ⟨%d5, H5⟩, ⟨%d6, %hd6, H6⟩, ⟨%d7, %hd7, H7⟩⟩
    iapply (stepB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) sc0 (Memref.isWhole_whole _) sc1 (Memref.isWhole_whole _) sc2 (Memref.isWhole_whole _) (fun h => h0 ((hcond0 t).mp h)) (iblk m c 0 t) (iblk m c 1 t) (iblk m c 2 t) (iblk m c 3 t) (iblk m c 4 t) (iblk m c 5 t) d6 d7 e0 e1 e2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    iintro ⟨H0, H1, H2, H3, H4, H5, ⟨%X6, %h6, H6⟩, ⟨%X7, %h7, H7⟩, S0, ⟨%z1, %hz1, S1⟩, ⟨%z2, %hz2, S2⟩⟩
    isplitl [S0 S1 S2 Hg]
    · isplitl [S0 S1 S2]
      · isplitl [S0]; · iexact S0
        iexists z1; iexists z2
        isplitr
        · ipureintro; exact held_of m c t z1 z2 hz1 hz2
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists X6
      isplitr
      · ipureintro; exact fun u hu r q => (h6 (rowMax (grad m c u)) (fun r => by rw [prev_eq u t hu]; exact (He u hu).2 r) r q).trans (by rw [prev_eq u t hu, (He u hu).1 r q]; rfl)
      iexact H6
    iexists X7
    isplitr
    · ipureintro; exact fun u hu r => h7 (rowMax (grad m c u)) (fun r => by rw [prev_eq u t hu]; exact (He u hu).2 r) r
    iexact H7

theorem body_obligation (c : Dev nD) : BodyObligationRel (dats m 0 c) (defs₀ (F := Ideal)) Variants.none () Set.univ fgt (Rl m c) := fun t => by
  rw [bigSep_W0, bigSep_W0, defs₀_row]
  exact triple_restated (sound_body m c t) rfl .rfl fun _ => .rfl

/-- At the start the scratch buffers hold anything, -/
theorem phi_in (c : Dev nD) : (Pipeline.ΦA spec0 c : sProp 𝕄) ⊢ Phi m c 0 := by
  rw [PhiA0_eq]; unfold Phi
  iintro ⟨⟨S0, ⟨%e1, S1⟩, ⟨%e2, S2⟩⟩, Hg⟩
  isplitr [Hg]
  · isplitl [S0]; · iexact S0
    iexists e1; iexists e2
    isplitr
    · ipureintro; exact fun u hu => absurd hu (Nat.succ_ne_zero _)
    isplitl [S1]; · iexact S1
    iexact S2
  iexact Hg

/-- and at the end what they hold is forgotten. -/
theorem phi_out (c : Dev nD) (n : ℕ) : Phi m c n ⊢ (Pipeline.ΦA spec0 c : sProp 𝕄) := by
  rw [PhiA0_eq]; unfold Phi
  iintro ⟨⟨S0, ⟨%e1, %e2, %He, S1, S2⟩⟩, Hg⟩
  isplitr [Hg]
  · isplitl [S0]; · iexact S0
    isplitl [S1]
    · iexists e1; iexact S1
    iexists e2; iexact S2
  iexact Hg

set_option backward.isDefEq.respectTransparency.types false in
theorem run_main : θ_run defs (onTc (τ := τ) (main (F := Ideal))) (s₀ m ρ)
    (fun r => Pipeline.RDat.FramePost cfg0 (fun c => (dats m 0 c).toRRel fgt (Rl m c)) (V m) r ∧ r.2.sem = fun _ => 0) :=
  Pipeline.RDat.θ_run_frame_track cfgs (0 : Fin 1) launch0 defs₀ Variants.none (fun c => (dats m 0 c).toRRel fgt (Rl m c)) m ρ main
    (hbody := fun c => (body_obligation m c).toRRel) (hshare := fun c => (dats m 0 c).share_full fun _ => rfl)
    (howed := fun _ _ => rfl) (V := V m) (hmain := hmain m Variants.none) (hA := A_eq m) (hin := fun c => phi_in m c) (hout := fun c => phi_out m c _) (Q' := _) (hQ' := fun _ h => h)

/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => kept m _ (A_eq m) r h.1 c, h.2⟩) (run_main m ρ)

end Cert.DaIdeal.Gen

end
-- ==== Proof.DaValue.lean ====
/- What the kernel of the hidden layer's gradient leaves in its two results. -/
module

public import proofs.«01_k».proof.Proof.Sums
public import proofs.«01_k».proof.Proof.DaIdealRel
public import Idealize.ShloMosaic.Lib.Claim

@[expose] public section

set_option maxRecDepth 16384

noncomputable section

namespace Cert.DaIdeal.Value

open Cert.DaIdeal Cert.DaIdeal.Gen Cert.DaIdeal.Body Idealize.ShloMosaic Idealize.ShloMosaic.TcCoe Idealize.SL.Sem

variable (m : (ℓ : Loc nD τ sig) → Buf (Elt Ideal) ℓ) (c : Dev nD)

/-- The arrays as the grid finds them: the output's gradient, the pre-activation and the weight, codes and scales each. -/
abbrev arrDy : S16384x3072.Idx → EReal := V m c main_v0
abbrev arrDys : S16384x1.Idx → EReal := V m c main_v2
abbrev arrA : S16384x8192.Idx → EReal := V m c main_v1
abbrev arrAs : S16384x1.Idx → EReal := V m c main_v3
abbrev arrW : S8192x3072.Idx → EReal := V m c main_arg4
abbrev arrWs : S1x3072.Idx → EReal := V m c main_v5

/-- The arrays in terms of the arguments. -/
theorem arrDy_eq : arrDy m c = shapeCast S16384x3072 (m ((c : Thread nD τ).loc main_arg0)) shapeCasts_S8x2048x3072_S16384x3072 := by
  show StableHlo.after hostOps0 (fun b => m (c, b)) (Proc.devRef .tc main_v0) = _
  unfold_abbrev_sides
  after_results
  rfl
theorem arrDys_eq : arrDys m c = shapeCast S16384x1 (m ((c : Thread nD τ).loc main_arg1)) shapeCasts_S8x2048_S16384x1 := by
  show StableHlo.after hostOps0 (fun b => m (c, b)) (Proc.devRef .tc main_v2) = _
  unfold_abbrev_sides
  after_results
  rfl
theorem arrA_eq : arrA m c = shapeCast S16384x8192 (m ((c : Thread nD τ).loc main_arg2)) shapeCasts_S8x2048x8192_S16384x8192 := by
  show StableHlo.after hostOps0 (fun b => m (c, b)) (Proc.devRef .tc main_v1) = _
  unfold_abbrev_sides
  after_results
  rfl
theorem arrAs_eq : arrAs m c = shapeCast S16384x1 (m ((c : Thread nD τ).loc main_arg3)) shapeCasts_S8x2048_S16384x1 := by
  show StableHlo.after hostOps0 (fun b => m (c, b)) (Proc.devRef .tc main_v3) = _
  unfold_abbrev_sides
  after_results
  rfl
theorem arrW_eq : arrW m c = m ((c : Thread nD τ).loc main_arg4) := V_main_arg4 m c
theorem arrWs_eq : arrWs m c = (shapeCast S1x3072 (m ((c : Thread nD τ).loc main_arg5)) shapeCasts_S3072_S1x3072 : S1x3072.Idx → EReal) := by
  show StableHlo.after hostOps0 (fun b => m (c, b)) (Proc.devRef .tc main_v5) = _
  unfold_abbrev_sides
  after_results
  rfl

/-- Where each window's block lies: the inputs at the point's rows, the results at the rows of the point before. -/
theorem idx : ∀ t : Fin cfg0.N, win0_0.index t = ![min t.val 63, 0] ∧ win0_1.index t = ![min t.val 63, 0]
    ∧ win0_2.index t = ![min t.val 63, 0] ∧ win0_3.index t = ![min t.val 63, 0]
    ∧ win0_4.index t = ![0, 0] ∧ win0_5.index t = ![0, 0]
    ∧ win0_6.index t = ![t.val - 1, 0] ∧ win0_7.index t = ![t.val - 1, 0] :=
  (by decide +kernel : ∀ t : Fin grid0.N, _)

theorem points : cfg0.N = 65 := by decide +kernel

section Reads

variable (t : Fin cfg0.N) (r : Fin 256) (k : Fin 3072) (q : Fin 8192)

theorem read0 (h : min t.val 63 * 256 + r.val < 16384) : (iblk m c 0 t : Vec Ideal S256x3072 .fp8e5m2) (ix2 r k) = arrDy m c (ix2 ⟨_, h⟩ k) := by
  blk_ext [iblk, idx t]
theorem read1 (h : min t.val 63 * 256 + r.val < 16384) : (iblk m c 1 t : Vec Ideal S256x1 .f32) (ix2 r 0) = arrDys m c (ix2 ⟨_, h⟩ 0) := by
  blk_ext [iblk, idx t]
theorem read2 (h : min t.val 63 * 256 + r.val < 16384) : (iblk m c 2 t : Vec Ideal S256x8192 .fp8e4m3) (ix2 r q) = arrA m c (ix2 ⟨_, h⟩ q) := by
  blk_ext [iblk, idx t]
theorem read3 (h : min t.val 63 * 256 + r.val < 16384) : (iblk m c 3 t : Vec Ideal S256x1 .f32) (ix2 r 0) = arrAs m c (ix2 ⟨_, h⟩ 0) := by
  blk_ext [iblk, idx t]
theorem read4 : (iblk m c 4 t : Vec Ideal S8192x3072 .fp8e4m3) (ix2 q k) = arrW m c (ix2 q k) := by
  blk_ext [iblk, idx t]
theorem read5 : (iblk m c 5 t : Vec Ideal S1x3072 .bf16) (ix2 0 k) = arrWs m c (ix2 0 k) := by
  blk_ext [iblk, idx t]

end Reads

/-- The pre-activation's gradient at a row and a column of the whole arrays, as the kernel forms it. -/
def G (r : Fin 16384) (q : Fin 8192) : EReal :=
  (∑ k : Fin 3072, arrDy m c (ix2 r k) * arrWs m c (ix2 0 k) * arrW m c (ix2 q k)) * arrDys m c (ix2 r 0) * slope (arrA m c (ix2 r q) * arrAs m c (ix2 r 0))

/-- A row's largest magnitude. -/
def top (r : Fin 16384) : EReal := Finset.univ.sup fun q : Fin 8192 => (FloatOps.absf (F := Ideal) (φ := .f32) (G m c r q) : EReal)

theorem grad_rows (u : Fin cfg0.N) (r : Fin 256) (q : Fin 8192) (R : Fin 16384) (hR : R.val = min u.val 63 * 256 + r.val) : grad m c u r q = G m c R q := by
  have h : min u.val 63 * 256 + r.val < 16384 := hR ▸ R.isLt
  obtain rfl : R = ⟨_, h⟩ := Fin.ext hR
  unfold grad da G
  rw [read1 m c u r h, read2 m c u r q h, read3 m c u r h]
  refine congrArg (fun s : EReal => s * _ * _) (Finset.sum_congr rfl fun k _ => ?_)
  rw [read0 m c u r k h, read4 m c u k q, read5 m c u k]

theorem top_rows (u : Fin cfg0.N) (r : Fin 256) (R : Fin 16384) (hR : R.val = min u.val 63 * 256 + r.val) : rowMax (grad m c u) r = top m c R := by
  unfold rowMax top
  exact Finset.sup_congr rfl fun q _ => by rw [grad_rows m c u r q R hR]

section Results

variable (D : Pipeline.Dat τ (Elt Ideal) Unit ℕ (UR sig nD τ) ℕ cfg0 c)

theorem final6 (hD : ∀ t : Fin cfg0.N, (cfg0.win 6).flush t = true → Rl m c 6 t (D.after 6 t)) :
    D.arrAt 6 cfg0.N = (fun i => quant (top m c (i 0)) (G m c (i 0) (i 1)) : S16384x8192.Idx → EReal) := by
  refine D.arrAt_eq_of_covers 6 _ (by decide +kernel) fun t hf y => ?_
  have h1 : 1 ≤ t.val := (by decide +kernel : ∀ t : Fin cfg0.N, (cfg0.win 6).flush t = true → 1 ≤ t.val) t hf
  have ht : t.val < 65 := t.isLt.trans_eq points
  obtain ⟨r, q, rfl⟩ : ∃ (r : Fin 256) (q : Fin 8192), y = ix2 r q := ⟨y 0, y 1, eq_ix2 y⟩
  have hr : (t.val - 1) * 256 + r.val < 16384 := by omega
  have hu : t.val - 1 < cfg0.N := by rw [points]; omega
  have key := hD t hf ⟨t.val - 1, hu⟩ (Nat.sub_add_cancel h1) r q
  have e : (((View.whole main_v6_0).slice (win0_6.rect t)).emb (ix2 r q) : S16384x8192.Idx) = ix2 ⟨_, hr⟩ q := by
    blk_ext [idx t]
  have hm : (t.val - 1) * 256 + r.val = min (t.val - 1) 63 * 256 + r.val := by omega
  blk_simp
  rw [e]
  refine Eq.trans key ?_
  unfold gcode
  rw [top_rows m c ⟨t.val - 1, hu⟩ r ⟨_, hr⟩ hm, grad_rows m c ⟨t.val - 1, hu⟩ r q ⟨_, hr⟩ hm]
  rfl

theorem final7 (hD : ∀ t : Fin cfg0.N, (cfg0.win 7).flush t = true → Rl m c 7 t (D.after 7 t)) :
    D.arrAt 7 cfg0.N = (fun i => (FloatOps.exp2 (F := Ideal) (φ := .f32) (expo (top m c (i 0))) : EReal) : S16384x1.Idx → EReal) := by
  refine D.arrAt_eq_of_covers 7 _ (by decide +kernel) fun t hf y => ?_
  have h1 : 1 ≤ t.val := (by decide +kernel : ∀ t : Fin cfg0.N, (cfg0.win 7).flush t = true → 1 ≤ t.val) t hf
  have ht : t.val < 65 := t.isLt.trans_eq points
  obtain ⟨r, q, rfl⟩ : ∃ (r : Fin 256) (q : Fin 1), y = ix2 r q := ⟨y 0, y 1, eq_ix2 y⟩
  obtain rfl : q = 0 := Subsingleton.elim _ _
  have hr : (t.val - 1) * 256 + r.val < 16384 := by omega
  have hu : t.val - 1 < cfg0.N := by rw [points]; omega
  have key := hD t hf ⟨t.val - 1, hu⟩ (Nat.sub_add_cancel h1) r
  have e : (((View.whole main_v6_1).slice (win0_7.rect t)).emb (ix2 r 0) : S16384x1.Idx) = ix2 ⟨_, hr⟩ 0 := by
    blk_ext [idx t]
  have hm : (t.val - 1) * 256 + r.val = min (t.val - 1) 63 * 256 + r.val := by omega
  blk_simp
  rw [e]
  refine Eq.trans key ?_
  unfold gscale
  rw [top_rows m c ⟨t.val - 1, hu⟩ r ⟨_, hr⟩ hm]
  rfl

end Results

/-- The run, its results read. -/
theorem run (ρ : Dev nD → PrngReg) : θ_run defs (onTc (τ := τ) (main (F := Ideal))) ⟨m, fun _ => 0, ρ⟩ fun r => ∀ c : Dev nD,
      r.2.mem ((c : Thread nD τ).loc main_v6_0) = (fun i => quant (top m c (i 0)) (G m c (i 0) (i 1)) : S16384x8192.Idx → EReal)
      ∧ r.2.mem ((c : Thread nD τ).loc main_v6_1) = (fun i => (FloatOps.exp2 (F := Ideal) (φ := .f32) (expo (top m c (i 0))) : EReal) : S16384x1.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨after, hL, hA⟩ := Pipeline.RDat.ArrAt.exists_exact_all (h.1 c).1
    have l6 : ∀ t : Fin cfg0.N, (cfg0.win 6).flush t = true → Rl m c 6 t (after 6 t) := fun t hf => (dats m 0 c).toRRel_leaves rfl (hL 6 t t.isLt hf)
    have l7 : ∀ t : Fin cfg0.N, (cfg0.win 7).flush t = true → Rl m c 7 t (after 7 t) := fun t hf => (dats m 0 c).toRRel_leaves rfl (hL 7 t t.isLt hf)
    exact ⟨(hA 6).trans (final6 m c _ l6), (hA 7).trans (final7 m c _ l7), kept m _ (A_eq m) r h.1 c⟩) (run_main m ρ)

end Cert.DaIdeal.Value

end
-- ==== Proof.DaRefBody.lean ====
/- The reference of the hidden layer's gradient: its two results as formulas. -/
module

public import proofs.«01_k».proof.Proof.Sums
public import proofs.«01_k».proof.Proof.Gen.DaRefIdeal.Value
public import Idealize.ShloMosaic.Lib.Claim

@[expose] public section

set_option maxRecDepth 16384

noncomputable section

namespace Cert.DaRefIdeal.Value

open Cert.DaRefIdeal Cert.DaRefIdeal.Gen Idealize.ShloMosaic Idealize.ShloMosaic.TcCoe Idealize.SL.Sem

/-- The tangent in GELU, as the reference forms it, -/
def tang (a : EReal) : EReal :=
  Ideal.tanh (Named.named (F := Ideal) κ "gelu_c" (φ := .f32) 1061962282#32 * (a + Named.named (F := Ideal) κ "gelu_a" (φ := .f32) 1027024659#32 * a * a * a))

/-- and GELU's derivative. -/
def slope (a : EReal) : EReal :=
  Ideal.ofBits FTy.f32 1056964608#32 * (1 + tang a)
    + Ideal.ofBits FTy.f32 1056964608#32 * a * (1 - tang a * tang a) * Named.named (F := Ideal) κ "gelu_c" (φ := .f32) 1061962282#32
      * (1 + Named.named (F := Ideal) κ "a_3" (φ := .f32) 1040801103#32 * a * a)

/-- The exponent of a row's scale, from the row's largest magnitude. -/
def expo (m : EReal) : EReal :=
  if m = 0 then 0
  else Ideal.liftRound Int.floor (Ideal.div (Ideal.log (m * Named.named (F := Ideal) κ "inv_max" (φ := .f32) 932333861#32)) (Named.named (F := Ideal) κ "ln2" (φ := .f32) 1060205080#32)) + 1

/-- An element's code. -/
def quant (m x : EReal) : EReal :=
  min (Ideal.ofBits FTy.f32 1197473792#32) (max (Ideal.ofBits FTy.f32 3344957440#32) (x * (FloatOps.exp2 (F := Ideal) (φ := .f32) (0 - expo m) : EReal)))

/-- A row's largest magnitude. -/
def rowMax (d : Fin 16384 → Fin 8192 → EReal) (r : Fin 16384) : EReal :=
  Finset.univ.sup fun c => (FloatOps.absf (F := Ideal) (φ := .f32) (d r c) : EReal)

theorem fold_max_eq (f : Fin 8192 → EReal) : Finset.fold max (Ideal.ofBits FTy.f32 4286578688#32) f Finset.univ = Finset.univ.sup f := by
  have h : Ideal.ofBits FTy.f32 4286578688#32 = (⊥ : EReal) := by
    show Ideal.ieee 8 23 4286578688#32 = ⊥
    unfold Ideal.ieee
    have h1 : ((4286578688#32).extractLsb' 23 8).toNat = 255 := by decide
    have h2 : ((4286578688#32).extractLsb' 0 23).toNat = 0 := by decide
    have h3 : ((4286578688#32).extractLsb' 31 1 == 1#1) = true := by decide
    simp [h1, h2, h3]
  rw [h]
  rfl

section Body

variable (x0 : Vec Ideal S16384x3072 .fp8e5m2) (x1 : Vec Ideal S16384x1 .f32) (x2 : Vec Ideal S16384x8192 .fp8e4m3) (x3 : Vec Ideal S16384x1 .f32)
  (x4 : Vec Ideal S8192x3072 .fp8e4m3) (x5 : Vec Ideal S1x3072 .f32)

/-- The pre-activation's gradient: the contraction with the weight whose scale is folded into it, times the row's scale, times GELU's derivative. -/
def grad (r : Fin 16384) (c : Fin 8192) : EReal :=
  (∑ k : Fin 3072, x0 (ix2 r k) * (x4 (ix2 c k) * x5 (ix2 0 k))) * x1 (ix2 r 0) * slope (x2 (ix2 r c) * x3 (ix2 r 0))

/-- The body's gradient as a vector. -/
abbrev gradV : FVec Ideal S16384x8192 .f32 :=
  k0_pay1 (F := Ideal) (k0_pay5 x4 x5 x0 x1) (k0_pay6 x2 x3) (k0_pay8 x2 x3) (k0_pay9 x2 x3) (Named.named κ "gelu_c" 0x3F4C422A#32)

theorem pay7_apply (r : Fin 16384) (c : Fin 8192) :
    (k0_pay7 (F := Ideal) x2 x3 (ix2 r c) : EReal) = tang (x2 (ix2 r c) * x3 (ix2 r 0)) := by
  unfold tang
  pointwise [k0_pay7, k0_pay6]

theorem grad_apply (r : Fin 16384) (c : Fin 8192) : (gradV x0 x1 x2 x3 x4 x5 (ix2 r c) : EReal) = grad x0 x1 x2 x3 x4 x5 r c := by
  unfold grad slope
  pointwise [k0_pay1, k0_pay5, k0_pay6, k0_pay8, k0_pay9, pay7_apply]

end Body

end Cert.DaRefIdeal.Value

end
-- ==== Proof.DaRefExpo.lean ====
/- The reference of the hidden layer's gradient: the exponents of its scales. -/
module

public import proofs.«01_k».proof.Proof.Sums
public import proofs.«01_k».proof.Proof.DaRefBody
public import Idealize.ShloMosaic.Lib.Claim

@[expose] public section

set_option maxRecDepth 16384

noncomputable section

namespace Cert.DaRefIdeal.Value

open Cert.DaRefIdeal Cert.DaRefIdeal.Gen Idealize.ShloMosaic Idealize.ShloMosaic.TcCoe Idealize.SL.Sem

/-- A row's largest element, -/
def maxV (v : FVec Ideal S16384x8192 .f32) : FVec Ideal S16384x1 .f32 :=
  shapeCast S16384x1 (multiReduction .maximumf [1] S16384 v 0xFF800000#32 reduces_S16384x8192_S16384 (.inl rfl) rfl : FVec Ideal S16384 .f32) shapeCasts_S16384_S16384x1

theorem max_of (v : FVec Ideal S16384x8192 .f32) (r : Fin 16384) : (maxV v (ix2 r 0) : EReal) = Finset.univ.sup fun q : Fin 8192 => (v (ix2 r q) : EReal) := by
  rw [← fold_max_eq]
  pointwise [maxV]

/-- and the exponent found from it. -/
def expoV (u : FVec Ideal S16384x1 .f32) : FVec Ideal S16384x1 .f32 :=
  select (cmpf .oeq u (broadcast S16384x1 (Scalar.ofBits .f32 0x00000000#32))) (broadcast S16384x1 (Scalar.ofBits .f32 0x00000000#32))
    (addf (floor (divf (log (mulf u (broadcast S16384x1 (Named.named κ "inv_max" 0x37924925#32)))) (broadcast S16384x1 (Named.named κ "ln2" 0x3F317218#32))))
      (broadcast S16384x1 (Scalar.ofBits .f32 0x3F800000#32)))

theorem expo_of (u : FVec Ideal S16384x1 .f32) (r : Fin 16384) : (expoV u (ix2 r 0) : EReal) = expo (u (ix2 r 0)) := by
  unfold expo
  pointwise [expoV]

theorem pay2_eq (a b c d : FVec Ideal S16384x8192 .f32) (e : EReal) : k0_pay2 (F := Ideal) a b c d e = expoV (maxV (absf (k0_pay1 (F := Ideal) a b c d e))) := by
  unfold k0_pay2 expoV maxV
  rfl

theorem abs_max (v : FVec Ideal S16384x8192 .f32) (r : Fin 16384) :
    (maxV (absf v) (ix2 r 0) : EReal) = Finset.univ.sup fun q : Fin 8192 => (FloatOps.absf (F := Ideal) (φ := .f32) (v (ix2 r q)) : EReal) :=
  max_of (absf v) r

theorem expo_apply (a b c d : FVec Ideal S16384x8192 .f32) (e : EReal) (r : Fin 16384) :
    (k0_pay2 (F := Ideal) a b c d e (ix2 r 0) : EReal)
      = expo (Finset.univ.sup fun q : Fin 8192 => (FloatOps.absf (F := Ideal) (φ := .f32) (k0_pay1 (F := Ideal) a b c d e (ix2 r q)) : EReal)) := by
  rw [pay2_eq, expo_of, abs_max]

end Cert.DaRefIdeal.Value

end
-- ==== Proof.DaRefCode.lean ====
/- The reference of the hidden layer's gradient: its codes and its scales. -/
module

public import proofs.«01_k».proof.Proof.Sums
public import proofs.«01_k».proof.Proof.DaRefBody
public import Idealize.ShloMosaic.Lib.Claim

@[expose] public section

set_option maxRecDepth 16384

noncomputable section

namespace Cert.DaRefIdeal.Value

open Cert.DaRefIdeal Cert.DaRefIdeal.Gen Idealize.ShloMosaic Idealize.ShloMosaic.TcCoe Idealize.SL.Sem

/-- The codes' operations, of any gradient and any exponents, -/
theorem code_of (v : FVec Ideal S16384x8192 .f32) (w : FVec Ideal S16384x1 .f32) (r : Fin 16384) (q : Fin 8192) :
    (truncf .fp8e5m2 (minimumf (broadcast S16384x8192 (FloatOps.ofBits .f32 1197473792#32)) (maximumf (broadcast S16384x8192 (FloatOps.ofBits .f32 3344957440#32))
      (mulf v (broadcastTo S16384x8192 (exp2 (subf (broadcast S16384x1 (FloatOps.ofBits .f32 0#32)) w)) broadcasts_S16384x1_S16384x8192)))) bitsLt_fp8e5m2_f32 (ix2 r q) : EReal)
      = min (Ideal.ofBits FTy.f32 1197473792#32) (max (Ideal.ofBits FTy.f32 3344957440#32)
          (v (ix2 r q) * (FloatOps.exp2 (F := Ideal) (φ := .f32) (0 - w (ix2 r 0)) : EReal))) := by
  pointwise

theorem code_apply (a b c d : FVec Ideal S16384x8192 .f32) (e : EReal) (r : Fin 16384) (q : Fin 8192) :
    (k0_pay3 (F := Ideal) a b c d e (ix2 r q) : EReal)
      = min (Ideal.ofBits FTy.f32 1197473792#32) (max (Ideal.ofBits FTy.f32 3344957440#32)
          (k0_pay1 (F := Ideal) a b c d e (ix2 r q) * (FloatOps.exp2 (F := Ideal) (φ := .f32) (0 - k0_pay2 (F := Ideal) a b c d e (ix2 r 0)) : EReal))) := by
  unfold k0_pay3
  exact code_of _ _ r q

/-- the scales'. -/
theorem scale_of (w : FVec Ideal S16384x1 .f32) (r : Fin 16384) : (exp2 w (ix2 r 0) : EReal) = (FloatOps.exp2 (F := Ideal) (φ := .f32) (w (ix2 r 0)) : EReal) := rfl

theorem scale_apply (a b c d : FVec Ideal S16384x8192 .f32) (e : EReal) (r : Fin 16384) :
    (k0_pay4 (F := Ideal) a b c d e (ix2 r 0) : EReal) = (FloatOps.exp2 (F := Ideal) (φ := .f32) (k0_pay2 (F := Ideal) a b c d e (ix2 r 0)) : EReal) := by
  unfold k0_pay4
  exact scale_of _ r

end Cert.DaRefIdeal.Value

end
-- ==== Proof.DaRefValue.lean ====
/- The reference of the hidden layer's gradient: its two results as formulas. -/
module

public import proofs.«01_k».proof.Proof.Sums
public import proofs.«01_k».proof.Proof.DaRefExpo
public import proofs.«01_k».proof.Proof.DaRefCode
public import Idealize.ShloMosaic.Lib.Claim

@[expose] public section

set_option maxRecDepth 16384

noncomputable section

namespace Cert.DaRefIdeal.Value

open Cert.DaRefIdeal Cert.DaRefIdeal.Gen Idealize.ShloMosaic Idealize.ShloMosaic.TcCoe Idealize.SL.Sem

section Body

variable (x0 : Vec Ideal S16384x3072 .fp8e5m2) (x1 : Vec Ideal S16384x1 .f32) (x2 : Vec Ideal S16384x8192 .fp8e4m3) (x3 : Vec Ideal S16384x1 .f32)
  (x4 : Vec Ideal S8192x3072 .fp8e4m3) (x5 : Vec Ideal S1x3072 .f32)

theorem expo_eq (r : Fin 16384) :
    (k0_pay2 (F := Ideal) (k0_pay5 x4 x5 x0 x1) (k0_pay6 x2 x3) (k0_pay8 x2 x3) (k0_pay9 x2 x3) (Named.named κ "gelu_c" 0x3F4C422A#32) (ix2 r 0) : EReal)
      = expo (rowMax (grad x0 x1 x2 x3 x4 x5) r) := by
  rw [expo_apply]
  unfold rowMax
  exact congrArg expo (Finset.sup_congr rfl fun q _ => congrArg (fun y : EReal => (FloatOps.absf (F := Ideal) (φ := .f32) y : EReal)) (grad_apply x0 x1 x2 x3 x4 x5 r q))

theorem hz2 : (![0, 0] : Fin 2 → Nat) = fun _ => 0 := by decide

theorem out6_apply (r : Fin 16384) (q : Fin 8192) :
    (out0_6 (F := Ideal) x0 x1 x2 x3 x4 x5 (ix2 r q) : EReal) = quant (rowMax (grad x0 x1 x2 x3 x4 x5) r) (grad x0 x1 x2 x3 x4 x5 r q) := by
  unfold out0_6
  rw [View.canon_unit_zero hz2]
  unfold k0_pay10 k0_pay11 k0_pay12 k0_pay13
  simp only [View.ld_unit_zero (S := S16384x3072) hz2, View.ld_unit_zero (S := S16384x1) hz2, View.ld_unit_zero (S := S16384x8192) hz2, View.ld_unit_zero (S := S1x3072) hz2, View.ld_unit_zero (S := S8192x3072) hz2]
  refine (code_apply _ _ _ _ _ r q).trans ?_
  rw [expo_eq]
  exact congrArg (fun y : EReal => min (Ideal.ofBits FTy.f32 1197473792#32) (max (Ideal.ofBits FTy.f32 3344957440#32)
    (y * (FloatOps.exp2 (F := Ideal) (φ := .f32) (0 - expo (rowMax (grad x0 x1 x2 x3 x4 x5) r)) : EReal)))) (grad_apply x0 x1 x2 x3 x4 x5 r q)

theorem out7_apply (r : Fin 16384) :
    (out0_7 (F := Ideal) x0 x1 x2 x3 x4 x5 (ix2 r 0) : EReal) = (FloatOps.exp2 (F := Ideal) (φ := .f32) (expo (rowMax (grad x0 x1 x2 x3 x4 x5) r)) : EReal) := by
  unfold out0_7
  rw [View.canon_unit_zero hz2]
  unfold k0_pay10 k0_pay11 k0_pay12 k0_pay13
  simp only [View.ld_unit_zero (S := S16384x3072) hz2, View.ld_unit_zero (S := S16384x1) hz2, View.ld_unit_zero (S := S16384x8192) hz2, View.ld_unit_zero (S := S1x3072) hz2, View.ld_unit_zero (S := S8192x3072) hz2]
  refine (scale_apply _ _ _ _ _ r).trans ?_
  rw [expo_eq]

end Body

variable (m : (ℓ : Loc nD τ sig) → Buf (Elt Ideal) ℓ) (c : Dev nD)

/-- The arrays as the call finds them: the output's gradient, the pre-activation and the weight, codes and scales each. -/
abbrev arrDy : S16384x3072.Idx → EReal := V m c main_v0
abbrev arrDys : S16384x1.Idx → EReal := V m c main_v1
abbrev arrA : S16384x8192.Idx → EReal := V m c main_v2
abbrev arrAs : S16384x1.Idx → EReal := V m c main_v3
abbrev arrW : S8192x3072.Idx → EReal := V m c main_arg4
abbrev arrWs : S1x3072.Idx → EReal := V m c main_v4

/-- The arrays in terms of the arguments. -/
theorem arrDy_eq : arrDy m c = shapeCast S16384x3072 (m ((c : Thread nD τ).loc main_arg0)) shapeCasts_S8x2048x3072_S16384x3072 := by
  show V m c main_v0 = _
  unfold_abbrev_sides
  after_results
  rfl
theorem arrDys_eq : arrDys m c = shapeCast S16384x1 (m ((c : Thread nD τ).loc main_arg1)) shapeCasts_S8x2048_S16384x1 := by
  show V m c main_v1 = _
  unfold_abbrev_sides
  after_results
  rfl
theorem arrA_eq : arrA m c = shapeCast S16384x8192 (m ((c : Thread nD τ).loc main_arg2)) shapeCasts_S8x2048x8192_S16384x8192 := by
  show V m c main_v2 = _
  unfold_abbrev_sides
  after_results
  rfl
theorem arrAs_eq : arrAs m c = shapeCast S16384x1 (m ((c : Thread nD τ).loc main_arg3)) shapeCasts_S8x2048_S16384x1 := by
  show V m c main_v3 = _
  unfold_abbrev_sides
  after_results
  rfl
theorem arrW_eq : arrW m c = m ((c : Thread nD τ).loc main_arg4) := V_main_arg4 m c
theorem arrWs_eq : arrWs m c = shapeCast S1x3072 (m ((c : Thread nD τ).loc main_arg5)) shapeCasts_S3072_S1x3072 := by
  show V m c main_v4 = _
  unfold_abbrev_sides
  after_results
  rfl

/-- Every window has one block, at the origin. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- Each input's one block is its array. -/
theorem blk0 (t : Fin cfg0.N) : (iblk m c 0 t : S16384x3072.Idx → EReal) = arrDy m c := by
  funext y; blk_ext [iblk, idx t]
theorem blk1 (t : Fin cfg0.N) : (iblk m c 1 t : S16384x1.Idx → EReal) = arrDys m c := by
  funext y; blk_ext [iblk, idx t]
theorem blk2 (t : Fin cfg0.N) : (iblk m c 2 t : S16384x8192.Idx → EReal) = arrA m c := by
  funext y; blk_ext [iblk, idx t]
theorem blk3 (t : Fin cfg0.N) : (iblk m c 3 t : S16384x1.Idx → EReal) = arrAs m c := by
  funext y; blk_ext [iblk, idx t]
theorem blk4 (t : Fin cfg0.N) : (iblk m c 4 t : S8192x3072.Idx → EReal) = arrW m c := by
  funext y; blk_ext [iblk, idx t]
theorem blk5 (t : Fin cfg0.N) : (iblk m c 5 t : S1x3072.Idx → EReal) = arrWs m c := by
  funext y; blk_ext [iblk, idx t]

/-- The gradient from the arrays. -/
abbrev G : Fin 16384 → Fin 8192 → EReal := grad (arrDy m c) (arrDys m c) (arrA m c) (arrAs m c) (arrW m c) (arrWs m c)

theorem final6 : (dats m 0 c).arrAt 6 cfg0.N = (fun i => quant (rowMax (G m c) (i 0)) (G m c (i 0) (i 1)) : S16384x8192.Idx → EReal) := by
  refine (dats m 0 c).arrAt_eq_of_covers 6 _ (by decide +kernel) fun t hf y => ?_
  blk_simp
  rw [after0_6]
  have e : (((View.whole main_v5_0).slice (win0_6.rect t)).emb y : S16384x8192.Idx) = y := by
    blk_ext [idx t]
  rw [e, eq_ix2 y]
  refine (out6_apply (iblk m c 0 t) (iblk m c 1 t) (iblk m c 2 t) (iblk m c 3 t) (iblk m c 4 t) (iblk m c 5 t) _ _).trans ?_
  rw [blk0 m c t, blk1 m c t, blk2 m c t, blk3 m c t, blk4 m c t, blk5 m c t]
  rfl

theorem final7 : (dats m 0 c).arrAt 7 cfg0.N = (fun i => (FloatOps.exp2 (F := Ideal) (φ := .f32) (expo (rowMax (G m c) (i 0))) : EReal) : S16384x1.Idx → EReal) := by
  refine (dats m 0 c).arrAt_eq_of_covers 7 _ (by decide +kernel) fun t hf y => ?_
  blk_simp
  rw [after0_7]
  have e : (((View.whole main_v5_1).slice (win0_7.rect t)).emb y : S16384x1.Idx) = y := by
    blk_ext [idx t]
  obtain ⟨s, u, rfl⟩ : ∃ (s : Fin 16384) (u : Fin 1), y = (ix2 s u : S16384x1.Idx) := ⟨y 0, y 1, eq_ix2 y⟩
  obtain rfl : u = 0 := Subsingleton.elim _ _
  rw [e]
  refine (out7_apply (iblk m c 0 t) (iblk m c 1 t) (iblk m c 2 t) (iblk m c 3 t) (iblk m c 4 t) (iblk m c 5 t) _).trans ?_
  rw [blk0 m c t, blk1 m c t, blk2 m c t, blk3 m c t, blk4 m c t, blk5 m c t]
  rfl

/-- The run, its results read. -/
theorem run (ρ : Dev nD → PrngReg) : θ_run defs (onTc (τ := τ) (main (F := Ideal))) ⟨m, fun _ => 0, ρ⟩ fun r => ∀ c : Dev nD,
      r.2.mem ((c : Thread nD τ).loc main_v5_0) = (fun i => quant (rowMax (G m c) (i 0)) (G m c (i 0) (i 1)) : S16384x8192.Idx → EReal)
      ∧ r.2.mem ((c : Thread nD τ).loc main_v5_1) = (fun i => (FloatOps.exp2 (F := Ideal) (φ := .f32) (expo (rowMax (G m c) (i 0))) : EReal) : S16384x1.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩) (run_blocks m ρ)

end Cert.DaRefIdeal.Value

end
-- ==== Proof.DaMath.lean ====
/- The two forms of GELU's derivative and the two tests of a zero row, on the extended reals. -/
module

public import proofs.«01_k».proof.Proof.Sums

@[expose] public section

noncomputable section

namespace Cert.DaMath

open Idealize.ShloMosaic

theorem half : Ideal.ofBits FTy.f32 1056964608#32 = ((1 / 2 : ℝ) : EReal) := by
  show Ideal.ieee 8 23 1056964608#32 = _
  unfold Ideal.ieee
  have h1 : ((1056964608#32).extractLsb' 23 8).toNat = 126 := by decide
  have h2 : ((1056964608#32).extractLsb' 0 23).toNat = 0 := by decide
  have h3 : ((1056964608#32).extractLsb' 31 1 == 1#1) = false := by decide
  simp only [h1, h2, h3]
  norm_num

theorem one_sub_one : (1 : EReal) - 1 = 0 := by
  rw [← EReal.coe_one, ← EReal.coe_sub, sub_self, EReal.coe_zero]

theorem one_sub_one' : (1 : EReal) - 1 * 1 = 0 := by rw [one_mul, one_sub_one]

theorem neg_one_mul_neg_one : (1 : EReal) - (-1) * (-1) = 0 := by rw [neg_mul_neg, one_sub_one']

theorem one_add_neg_one : (1 : EReal) + -1 = 0 := one_sub_one

theorem two_halves (h : ℝ) (hh : h = 1 / 2) : (h : EReal) * (1 + 1) = 1 := by
  subst hh
  rw [← EReal.coe_one, ← EReal.coe_add, ← EReal.coe_mul]
  norm_num

theorem halves_two (h : ℝ) (hh : h = 1 / 2) : (1 + 1) * (h : EReal) = 1 := by rw [mul_comm, two_halves h hh]

theorem tanh_coe (r : ℝ) : Ideal.tanh (r : EReal) = ((Real.tanh r : ℝ) : EReal) := rfl
theorem tanh_top : Ideal.tanh ⊤ = 1 := rfl
theorem tanh_bot : Ideal.tanh ⊥ = -1 := rfl

/-- The kernel's form of GELU's derivative is the reference's, whatever the pre-activation. -/
theorem slope_eq (h g ga gca hc ca a3 : ℝ) (hh : h = 1 / 2) (pg : 0 < g) (pga : 0 < ga) (pgca : 0 < gca) (pa3 : 0 < a3)
    (e1 : gca = g * ga) (e2 : hc = 1 / 2 * g) (e3 : ca = 1 / 2 * g * a3) (a : EReal) :
    (1 + Ideal.tanh (a * ((g : EReal) + (gca : EReal) * (a * a)))) * ((h : EReal) + a * ((hc : EReal) + (ca : EReal) * (a * a)) * (1 - Ideal.tanh (a * ((g : EReal) + (gca : EReal) * (a * a)))))
      = (h : EReal) * (1 + Ideal.tanh ((g : EReal) * (a + (ga : EReal) * a * a * a)))
        + (h : EReal) * a * (1 - Ideal.tanh ((g : EReal) * (a + (ga : EReal) * a * a * a)) * Ideal.tanh ((g : EReal) * (a + (ga : EReal) * a * a * a))) * (g : EReal) * (1 + (a3 : EReal) * a * a) := by
  induction a using EReal.rec with
  | bot =>
    have s1 : (⊥ : EReal) * ((g : EReal) + (gca : EReal) * (⊥ * ⊥)) = ⊥ := by
      rw [EReal.bot_mul_bot, EReal.coe_mul_top_of_pos pgca, EReal.coe_add_top, EReal.bot_mul_top]
    have s2 : (g : EReal) * (⊥ + (ga : EReal) * ⊥ * ⊥ * ⊥) = ⊥ := by
      rw [EReal.bot_add, EReal.coe_mul_bot_of_pos pg]
    rw [s1, s2, tanh_bot, neg_one_mul_neg_one, one_add_neg_one, zero_mul, mul_zero, mul_zero, zero_mul, zero_mul, zero_add]
  | top =>
    have s1 : (⊤ : EReal) * ((g : EReal) + (gca : EReal) * (⊤ * ⊤)) = ⊤ := by
      rw [EReal.top_mul_top, EReal.coe_mul_top_of_pos pgca, EReal.coe_add_top, EReal.top_mul_top]
    have s2 : (g : EReal) * (⊤ + (ga : EReal) * ⊤ * ⊤ * ⊤) = ⊤ := by
      rw [EReal.coe_mul_top_of_pos pga, EReal.top_mul_top, EReal.top_mul_top, EReal.top_add_top, EReal.coe_mul_top_of_pos pg]
    rw [s1, s2, tanh_top, one_sub_one', one_sub_one, mul_zero, mul_zero, zero_mul, zero_mul, add_zero, add_zero, two_halves h hh, halves_two h hh]
  | coe x =>
    have s : g * (x + ga * x * x * x) = x * (g + gca * (x * x)) := by rw [e1]; ring
    simp only [← EReal.coe_one, ← EReal.coe_mul, ← EReal.coe_add, ← EReal.coe_sub, tanh_coe]
    rw [s, EReal.coe_eq_coe_iff, hh, e2, e3]
    ring

/-- A row's maximum is zero when its scaled maximum is. -/
theorem scaled_eq_zero (k : ℝ) (hk : 0 < k) (m : EReal) : m * (k : EReal) = 0 ↔ m = 0 := by
  induction m using EReal.rec with
  | bot => rw [EReal.bot_mul_coe_of_pos hk]
  | top => rw [EReal.top_mul_coe_of_pos hk]
  | coe x =>
    rw [← EReal.coe_mul, ← EReal.coe_zero, EReal.coe_eq_coe_iff, EReal.coe_eq_coe_iff]
    exact ⟨fun h => (mul_eq_zero.mp h).resolve_right hk.ne', fun h => by rw [h, zero_mul]⟩

end Cert.DaMath

end
-- ==== Proof.DaEq.lean ====
/- The hidden layer's gradient: the kernel's results are the reference's. -/
module

public import proofs.«01_k».proof.Proof.DaValue
public import proofs.«01_k».proof.Proof.DaRefValue
public import proofs.«01_k».proof.Proof.DaMath
public import proofs.«01_k».proof.Proof.Gen.Da
public import proofs.«01_k».proof.Defs
public import Idealize.ShloMosaic.Lib.Claim

@[expose] public section

set_option maxRecDepth 16384

noncomputable section

namespace Cert.Proof

open Idealize.ShloMosaic Idealize.ShloMosaic.TcCoe Idealize.SL.Sem

namespace Da

theorem slope_eq (a : EReal) : Cert.DaIdeal.Body.slope a = Cert.DaRefIdeal.Value.slope a := by
  unfold Cert.DaIdeal.Body.slope Cert.DaRefIdeal.Value.slope Cert.DaRefIdeal.Value.tang
  rw [DaMath.half,
    show Named.named (F := Ideal) Cert.DaIdeal.κ "gelu_c" (φ := .f32) 1061962282#32 = ((3989422804014327 / 5000000000000000 : ℝ) : EReal) from
      IdealRules.named_const.ideal_named_scalar _ _ _ _ rfl,
    show Named.named (F := Ideal) Cert.DaIdeal.κ "gelu_ca" (φ := .f32) 1024598649#32 = ((35677408136300126361 / 1000000000000000000000 : ℝ) : EReal) from
      IdealRules.named_const.ideal_named_scalar _ _ _ _ rfl,
    show Named.named (F := Ideal) Cert.DaIdeal.κ "half_c" (φ := .f32) 1053573674#32 = ((3989422804014327 / 10000000000000000 : ℝ) : EReal) from
      IdealRules.named_const.ideal_named_scalar _ _ _ _ rfl,
    show Named.named (F := Ideal) Cert.DaIdeal.κ "ca_15" (φ := .f32) 1029387190#32 = ((107032224408900379083 / 2000000000000000000000 : ℝ) : EReal) from
      IdealRules.named_const.ideal_named_scalar _ _ _ _ rfl,
    show Named.named (F := Ideal) Cert.DaRefIdeal.κ "gelu_c" (φ := .f32) 1061962282#32 = ((3989422804014327 / 5000000000000000 : ℝ) : EReal) from
      IdealRules.named_const.ideal_named_scalar _ _ _ _ rfl,
    show Named.named (F := Ideal) Cert.DaRefIdeal.κ "gelu_a" (φ := .f32) 1027024659#32 = ((8943 / 200000 : ℝ) : EReal) from
      IdealRules.named_const.ideal_named_scalar _ _ _ _ rfl,
    show Named.named (F := Ideal) Cert.DaRefIdeal.κ "a_3" (φ := .f32) 1040801103#32 = ((26829 / 200000 : ℝ) : EReal) from
      IdealRules.named_const.ideal_named_scalar _ _ _ _ rfl]
  exact DaMath.slope_eq _ _ _ _ _ _ _ rfl (by norm_num) (by norm_num) (by norm_num) (by norm_num) (by norm_num) (by norm_num) (by norm_num) a

theorem inv_max : Named.named (F := Ideal) Cert.DaIdeal.κ "inv_max" (φ := .f32) 932333861#32 = ((1 / 57344 : ℝ) : EReal) :=
  IdealRules.named_const.ideal_named_scalar _ _ _ _ rfl

theorem inv_max_ref : Named.named (F := Ideal) Cert.DaRefIdeal.κ "inv_max" (φ := .f32) 932333861#32 = ((1 / 57344 : ℝ) : EReal) :=
  IdealRules.named_const.ideal_named_scalar _ _ _ _ rfl

theorem ln2 : Named.named (F := Ideal) Cert.DaIdeal.κ "ln2" (φ := .f32) 1060205080#32 = ((Real.log 2 : ℝ) : EReal) :=
  IdealRules.named_const.ideal_named_scalar _ _ _ _ rfl

theorem ln2_ref : Named.named (F := Ideal) Cert.DaRefIdeal.κ "ln2" (φ := .f32) 1060205080#32 = ((Real.log 2 : ℝ) : EReal) :=
  IdealRules.named_const.ideal_named_scalar _ _ _ _ rfl

theorem expo_eq (m : EReal) : Cert.DaIdeal.Body.expo m = Cert.DaRefIdeal.Value.expo m := by
  unfold Cert.DaIdeal.Body.expo Cert.DaRefIdeal.Value.expo
  rw [inv_max, inv_max_ref, ln2, ln2_ref]
  by_cases h : m = 0
  · rw [if_pos h, if_pos ((DaMath.scaled_eq_zero _ (by norm_num) m).mpr h)]
  · rw [if_neg h, if_neg fun h' => h ((DaMath.scaled_eq_zero _ (by norm_num) m).mp h')]

theorem quant_eq (m x : EReal) : Cert.DaIdeal.Body.quant m x = Cert.DaRefIdeal.Value.quant m x := by
  unfold Cert.DaIdeal.Body.quant Cert.DaRefIdeal.Value.quant
  rw [expo_eq]

section Arrays

variable (m : (ℓ : Loc Cert.DaIdeal.nD Cert.DaIdeal.τ Cert.DaIdeal.sig) → Buf (Elt Ideal) ℓ) (c : Dev Cert.DaIdeal.nD)

/-- The reference's gradient of the kernel's arrays. -/
abbrev R : Fin 16384 → Fin 8192 → EReal :=
  Cert.DaRefIdeal.Value.grad (Cert.DaIdeal.Value.arrDy m c) (Cert.DaIdeal.Value.arrDys m c) (Cert.DaIdeal.Value.arrA m c)
    (Cert.DaIdeal.Value.arrAs m c) (Cert.DaIdeal.Value.arrW m c) (Cert.DaIdeal.Value.arrWs m c)

theorem grad_eq (r : Fin 16384) (q : Fin 8192) : Cert.DaIdeal.Value.G m c r q = R m c r q := by
  unfold Cert.DaIdeal.Value.G R Cert.DaRefIdeal.Value.grad
  rw [slope_eq]
  refine congrArg (fun s : EReal => s * _ * _) (Finset.sum_congr rfl fun k _ => ?_)
  rw [mul_assoc, mul_comm (Cert.DaIdeal.Value.arrWs m c (ix2 0 k))]

theorem top_eq (r : Fin 16384) : Cert.DaIdeal.Value.top m c r = Cert.DaRefIdeal.Value.rowMax (R m c) r := by
  unfold Cert.DaIdeal.Value.top Cert.DaRefIdeal.Value.rowMax
  exact Finset.sup_congr rfl fun q _ => by rw [grad_eq]

theorem code_eq (r : Fin 16384) (q : Fin 8192) : Cert.DaIdeal.Body.quant (Cert.DaIdeal.Value.top m c r) (Cert.DaIdeal.Value.G m c r q)
    = Cert.DaRefIdeal.Value.quant (Cert.DaRefIdeal.Value.rowMax (R m c) r) (R m c r q) := by
  rw [top_eq, grad_eq, quant_eq]

theorem scale_eq (r : Fin 16384) : (FloatOps.exp2 (F := Ideal) (φ := .f32) (Cert.DaIdeal.Body.expo (Cert.DaIdeal.Value.top m c r)) : EReal)
    = FloatOps.exp2 (F := Ideal) (φ := .f32) (Cert.DaRefIdeal.Value.expo (Cert.DaRefIdeal.Value.rowMax (R m c) r)) := by
  rw [top_eq, expo_eq]

end Arrays

end Da

theorem da : Cert.algebraic_DaIdeal_DaRefIdeal (hDaIdeal := Cert.DaIdeal.Gen.facts) (hDaRefIdeal := Cert.DaRefIdeal.Gen.facts) := by
  intro m g m' g' hpre hagree
  refine ⟨fun c => (fun i => Cert.DaRefIdeal.Value.quant (Cert.DaRefIdeal.Value.rowMax (Da.R m c) (i 0)) (Da.R m c (i 0) (i 1)) : Cert.DaIdeal.S16384x8192.Idx → EReal),
    fun c => (fun i => (FloatOps.exp2 (F := Ideal) (φ := .f32) (Cert.DaRefIdeal.Value.expo (Cert.DaRefIdeal.Value.rowMax (Da.R m c) (i 0))) : EReal) : Cert.DaIdeal.S16384x1.Idx → EReal), ?_, ?_⟩
  · refine θ_run_mono (Cert.DaIdeal.Value.run m g) fun r h c => ?_
    refine ⟨(h c).1.trans (funext fun i => ?_), (h c).2.1.trans (funext fun i => ?_), (h c).2.2⟩
    · exact Da.code_eq m c (i 0) (i 1)
    · exact Da.scale_eq m c (i 0)
  · refine θ_run_mono (Cert.DaRefIdeal.Value.run m' g') fun r h c => ?_
    obtain ⟨a0, a1, a2, a3, a4, a5⟩ := hagree c
    have hDy : Cert.DaRefIdeal.Value.arrDy m' c = Cert.DaIdeal.Value.arrDy m c := by
      rw [Cert.DaRefIdeal.Value.arrDy_eq, Cert.DaIdeal.Value.arrDy_eq]
      exact congrArg (fun x => shapeCast _ x _) a0
    have hDys : Cert.DaRefIdeal.Value.arrDys m' c = Cert.DaIdeal.Value.arrDys m c := by
      rw [Cert.DaRefIdeal.Value.arrDys_eq, Cert.DaIdeal.Value.arrDys_eq]
      exact congrArg (fun x => shapeCast _ x _) a1
    have hA : Cert.DaRefIdeal.Value.arrA m' c = Cert.DaIdeal.Value.arrA m c := by
      rw [Cert.DaRefIdeal.Value.arrA_eq, Cert.DaIdeal.Value.arrA_eq]
      exact congrArg (fun x => shapeCast _ x _) a2
    have hAs : Cert.DaRefIdeal.Value.arrAs m' c = Cert.DaIdeal.Value.arrAs m c := by
      rw [Cert.DaRefIdeal.Value.arrAs_eq, Cert.DaIdeal.Value.arrAs_eq]
      exact congrArg (fun x => shapeCast _ x _) a3
    have hW : Cert.DaRefIdeal.Value.arrW m' c = Cert.DaIdeal.Value.arrW m c :=
      (Cert.DaRefIdeal.Value.arrW_eq m' c).trans (a4.trans (Cert.DaIdeal.Value.arrW_eq m c).symm)
    have hWs : Cert.DaRefIdeal.Value.arrWs m' c = Cert.DaIdeal.Value.arrWs m c := by
      rw [Cert.DaRefIdeal.Value.arrWs_eq, Cert.DaIdeal.Value.arrWs_eq]
      exact congrArg (fun x => shapeCast _ x _) a5
    have hG : Cert.DaRefIdeal.Value.G m' c = Da.R m c := by
      show Cert.DaRefIdeal.Value.grad _ _ _ _ _ _ = Cert.DaRefIdeal.Value.grad _ _ _ _ _ _
      rw [hDy, hDys, hA, hAs, hW, hWs]
    refine ⟨(h c).1.trans ?_, (h c).2.1.trans ?_, (h c).2.2⟩
    · rw [hG]
    · rw [hG]

end Cert.Proof

end
-- ==== Proof.lean ====
module

public import proofs.«01_k».proof.Proof.DwOutEq
public import proofs.«01_k».proof.Proof.DwInEq
public import proofs.«01_k».proof.Proof.DwQkvEq
public import proofs.«01_k».proof.Proof.DxEq
public import proofs.«01_k».proof.Proof.DaFrame
public import proofs.«01_k».proof.Proof.DaIdealRel
public import proofs.«01_k».proof.Proof.DaEq
public import proofs.«01_k».proof.Proof.Gen.Da
public import proofs.«01_k».proof.Proof.Gen.Da.Skeleton
public import proofs.«01_k».proof.Proof.Gen.Da.Launch
public import proofs.«01_k».proof.Proof.Gen.Da.Points
public import proofs.«01_k».proof.Proof.Gen.DaIdeal
public import proofs.«01_k».proof.Proof.Gen.DaIdeal.Skeleton
public import proofs.«01_k».proof.Proof.Gen.DaIdeal.Launch
public import proofs.«01_k».proof.Proof.Gen.DaIdeal.Points
public import proofs.«01_k».proof.Proof.Gen.DaRefIdeal
public import proofs.«01_k».proof.Proof.Gen.DaRefIdeal.Skeleton
public import proofs.«01_k».proof.Proof.Gen.DaRefIdeal.Launch
public import proofs.«01_k».proof.Proof.Gen.DaRefIdeal.Points
public import proofs.«01_k».proof.Proof.Gen.DaRefIdeal.Frame
public import proofs.«01_k».proof.Proof.Gen.DaRefIdeal.Value
public import proofs.«01_k».proof.Proof.Gen.DwOutIdeal.Value
public import proofs.«01_k».proof.Proof.Gen.DwOutRefIdeal.Value
public import proofs.«01_k».proof.Proof.Gen.DwInIdeal.Value
public import proofs.«01_k».proof.Proof.Gen.DwInRefIdeal.Value
public import proofs.«01_k».proof.Proof.Gen.DwQkvIdeal.Value
public import proofs.«01_k».proof.Proof.Gen.DwQkvRefIdeal.Value
public import proofs.«01_k».proof.Defs
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.DwOutRefIdeal.Skeleton
public import proofs.«01_k».proof.Proof.Gen.DwOutRefIdeal.Launch
public import proofs.«01_k».proof.Proof.Gen.DwOutRefIdeal.Points
public import proofs.«01_k».proof.Proof.Gen.DwOutRefIdeal.Frame
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.DwInRefIdeal.Skeleton
public import proofs.«01_k».proof.Proof.Gen.DwInRefIdeal.Launch
public import proofs.«01_k».proof.Proof.Gen.DwInRefIdeal.Points
public import proofs.«01_k».proof.Proof.Gen.DwInRefIdeal.Frame
public import proofs.«01_k».proof.Proof.Gen.DwQkv
public import proofs.«01_k».proof.Proof.Gen.DwQkv.Skeleton
public import proofs.«01_k».proof.Proof.Gen.DwQkv.Launch
public import proofs.«01_k».proof.Proof.Gen.DwQkv.Points
public import proofs.«01_k».proof.Proof.Gen.DwQkv.Frame
public import proofs.«01_k».proof.Proof.Gen.DwQkvIdeal
public import proofs.«01_k».proof.Proof.Gen.DwQkvIdeal.Skeleton
public import proofs.«01_k».proof.Proof.Gen.DwQkvIdeal.Launch
public import proofs.«01_k».proof.Proof.Gen.DwQkvIdeal.Points
public import proofs.«01_k».proof.Proof.Gen.DwQkvIdeal.Frame
public import proofs.«01_k».proof.Proof.Gen.DwQkvRefIdeal
public import proofs.«01_k».proof.Proof.Gen.DwQkvRefIdeal.Skeleton
public import proofs.«01_k».proof.Proof.Gen.DwQkvRefIdeal.Launch
public import proofs.«01_k».proof.Proof.Gen.DwQkvRefIdeal.Points
public import proofs.«01_k».proof.Proof.Gen.DwQkvRefIdeal.Frame
public import proofs.«01_k».proof.Proof.Gen.Pre_gamma_nonneg_in
public import proofs.«01_k».proof.Proof.Gen.Pre_gamma_nonneg_qkv
public import Idealize.ShloMosaic.Adequacy
public import Idealize.ShloMosaic.Init

@[expose] public section

noncomputable section

namespace Cert.Proof

open Idealize.ShloMosaic Idealize.SL.Sem Cert.DwOut

theorem claim : Cert.Claim := ⟨Cert.DwOut.Gen.facts, Cert.DwOutIdeal.Gen.facts, Cert.DwOutRefIdeal.Gen.facts, Cert.DwIn.Gen.facts, Cert.DwInIdeal.Gen.facts, Cert.DwInRefIdeal.Gen.facts, Cert.DwQkv.Gen.facts, Cert.DwQkvIdeal.Gen.facts, Cert.DwQkvRefIdeal.Gen.facts, Cert.Dx.Gen.facts, Cert.DxIdeal.Gen.facts, Cert.DxRefIdeal.Gen.facts, Cert.Da.Gen.facts, Cert.DaIdeal.Gen.facts, Cert.DaRefIdeal.Gen.facts, Cert.Pre_gamma_nonneg_in.Gen.facts, Cert.Pre_gamma_nonneg_qkv.Gen.facts, Cert.Pre_scales_nonneg.Gen.facts, by
  exact ⟨fun m ρ _ => Cert.DwOut.Gen.frame m ρ,
    fun m ρ _ => Cert.DwOutIdeal.Gen.frame m ρ,
    fun m ρ _ => Cert.DwOutRefIdeal.Gen.frame m ρ,
    fun m ρ _ => Cert.DwIn.Gen.frame m ρ,
    fun m ρ _ => Cert.DwInIdeal.Gen.frame m ρ,
    fun m ρ _ => Cert.DwInIdeal.Gen.frame m ρ,
    fun m ρ _ => Cert.DwInRefIdeal.Gen.frame m ρ,
    fun m ρ _ => Cert.DwInRefIdeal.Gen.frame m ρ,
    fun m ρ _ => Cert.DwQkv.Gen.frame m ρ,
    fun m ρ _ => Cert.DwQkvIdeal.Gen.frame m ρ,
    fun m ρ _ => Cert.DwQkvIdeal.Gen.frame m ρ,
    fun m ρ _ => Cert.DwQkvRefIdeal.Gen.frame m ρ,
    fun m ρ _ => Cert.DwQkvRefIdeal.Gen.frame m ρ,
    fun m ρ _ => Cert.Dx.Gen.frame m ρ,
    fun m ρ _ => Cert.DxIdeal.Gen.frame m ρ,
    fun m ρ _ => Cert.DxIdeal.Gen.frame m ρ,
    fun m ρ _ => Cert.DxRefIdeal.Gen.frame m ρ,
    fun m ρ _ => Cert.DxRefIdeal.Gen.frame m ρ,
    fun m ρ _ => Cert.Da.Gen.frame m ρ,
    fun m ρ _ => Cert.DaIdeal.Gen.frame m ρ,
    fun m ρ _ => Cert.DaRefIdeal.Gen.frame m ρ,
    trivial,
    dw_out,
    trivial,
    dw_in,
    trivial,
    dw_qkv,
    IdealRules.named_const.statement Cert.DxIdeal.κ "inv_d" .f32 0x39AAAAAB#32 ((1 / 3072 : ℝ) : EReal) rfl,
    dx,
    ⟨IdealRules.named_const.statement Cert.DaIdeal.κ "inv_max" .f32 0x37924925#32 ((1 / 57344 : ℝ) : EReal) rfl,
      IdealRules.named_const.statement Cert.DaIdeal.κ "ln2" .f32 0x3F317218#32 ((Real.log 2 : ℝ) : EReal) rfl,
      IdealRules.named_const.statement Cert.DaIdeal.κ "gelu_ca" .f32 0x3D122279#32 ((35677408136300126361 / 1000000000000000000000 : ℝ) : EReal) rfl,
      IdealRules.named_const.statement Cert.DaIdeal.κ "gelu_c" .f32 0x3F4C422A#32 ((3989422804014327 / 5000000000000000 : ℝ) : EReal) rfl,
      IdealRules.named_const.statement Cert.DaIdeal.κ "ca_15" .f32 0x3D5B33B6#32 ((107032224408900379083 / 2000000000000000000000 : ℝ) : EReal) rfl,
      IdealRules.named_const.statement Cert.DaIdeal.κ "half_c" .f32 0x3ECC422A#32 ((3989422804014327 / 10000000000000000 : ℝ) : EReal) rfl⟩,
    da⟩⟩

end Cert.Proof

end
